-- ==== Defs.lean ====
def Pre_AbPrompt (m : (ℓ : Loc Cert.AbPrompt.nD Cert.AbPrompt.τ Cert.AbPrompt.sig) → Buf (Elt Bits) ℓ) : Prop :=
  True

def Pre_AbPromptIdeal (m : (ℓ : Loc Cert.AbPromptIdeal.nD Cert.AbPromptIdeal.τ Cert.AbPromptIdeal.sig) → Buf (Elt Ideal) ℓ) : Prop :=
  True

def Pre_AbPromptIdeal_finite [hPre_finite : Cert.Pre_finite.Facts] (m : (ℓ : Loc Cert.AbPromptIdeal.nD Cert.AbPromptIdeal.τ Cert.AbPromptIdeal.sig) → Buf (Elt Ideal) ℓ) : Prop :=
  ∀ c : Dev Cert.AbPromptIdeal.nD,
    (Cert.Pre_finite.fn (F := Ideal) (m ((c.tc : Thread Cert.AbPromptIdeal.nD Cert.AbPromptIdeal.τ).loc Cert.AbPromptIdeal.main_arg0)) (m ((c.tc : Thread Cert.AbPromptIdeal.nD Cert.AbPromptIdeal.τ).loc Cert.AbPromptIdeal.main_arg1)) (m ((c.tc : Thread Cert.AbPromptIdeal.nD Cert.AbPromptIdeal.τ).loc Cert.AbPromptIdeal.main_arg2))) = (fun _ => 1#1)

def Pre_AbPromptRefIdeal (m : (ℓ : Loc Cert.AbPromptRefIdeal.nD Cert.AbPromptRefIdeal.τ Cert.AbPromptRefIdeal.sig) → Buf (Elt Ideal) ℓ) : Prop :=
  True

def Pre_AbPromptRefIdeal_finite [hPre_finite : Cert.Pre_finite.Facts] (m : (ℓ : Loc Cert.AbPromptRefIdeal.nD Cert.AbPromptRefIdeal.τ Cert.AbPromptRefIdeal.sig) → Buf (Elt Ideal) ℓ) : Prop :=
  ∀ c : Dev Cert.AbPromptRefIdeal.nD,
    (Cert.Pre_finite.fn (F := Ideal) (m ((c.tc : Thread Cert.AbPromptRefIdeal.nD Cert.AbPromptRefIdeal.τ).loc Cert.AbPromptRefIdeal.main_arg0)) (m ((c.tc : Thread Cert.AbPromptRefIdeal.nD Cert.AbPromptRefIdeal.τ).loc Cert.AbPromptRefIdeal.main_arg1)) (m ((c.tc : Thread Cert.AbPromptRefIdeal.nD Cert.AbPromptRefIdeal.τ).loc Cert.AbPromptRefIdeal.main_arg2))) = (fun _ => 1#1)

def Pre_ExpertFfn [hPre_tables_in_range : Cert.Pre_tables_in_range.Facts] (m : (ℓ : Loc Cert.ExpertFfn.nD Cert.ExpertFfn.τ Cert.ExpertFfn.sig) → Buf (Elt Bits) ℓ) : Prop :=
  ∀ c : Dev Cert.ExpertFfn.nD,
    (Cert.Pre_tables_in_range.fn (F := Bits) (m ((c.tc : Thread Cert.ExpertFfn.nD Cert.ExpertFfn.τ).loc Cert.ExpertFfn.main_arg0)) (m ((c.tc : Thread Cert.ExpertFfn.nD Cert.ExpertFfn.τ).loc Cert.ExpertFfn.main_arg1)) (m ((c.tc : Thread Cert.ExpertFfn.nD Cert.ExpertFfn.τ).loc Cert.ExpertFfn.main_arg2)) (m ((c.tc : Thread Cert.ExpertFfn.nD Cert.ExpertFfn.τ).loc Cert.ExpertFfn.main_arg3)) (m ((c.tc : Thread Cert.ExpertFfn.nD Cert.ExpertFfn.τ).loc Cert.ExpertFfn.main_arg4)) (m ((c.tc : Thread Cert.ExpertFfn.nD Cert.ExpertFfn.τ).loc Cert.ExpertFfn.main_arg5)) (m ((c.tc : Thread Cert.ExpertFfn.nD Cert.ExpertFfn.τ).loc Cert.ExpertFfn.main_arg6))) = (fun _ => 1#1)

def Pre_ExpertFfnIdeal [hPre_tables_in_range : Cert.Pre_tables_in_range.Facts] (m : (ℓ : Loc Cert.ExpertFfnIdeal.nD Cert.ExpertFfnIdeal.τ Cert.ExpertFfnIdeal.sig) → Buf (Elt Ideal) ℓ) : Prop :=
  ∀ c : Dev Cert.ExpertFfnIdeal.nD,
    (Cert.Pre_tables_in_range.fn (F := Ideal) (m ((c.tc : Thread Cert.ExpertFfnIdeal.nD Cert.ExpertFfnIdeal.τ).loc Cert.ExpertFfnIdeal.main_arg0)) (m ((c.tc : Thread Cert.ExpertFfnIdeal.nD Cert.ExpertFfnIdeal.τ).loc Cert.ExpertFfnIdeal.main_arg1)) (m ((c.tc : Thread Cert.ExpertFfnIdeal.nD Cert.ExpertFfnIdeal.τ).loc Cert.ExpertFfnIdeal.main_arg2)) (m ((c.tc : Thread Cert.ExpertFfnIdeal.nD Cert.ExpertFfnIdeal.τ).loc Cert.ExpertFfnIdeal.main_arg3)) (m ((c.tc : Thread Cert.ExpertFfnIdeal.nD Cert.ExpertFfnIdeal.τ).loc Cert.ExpertFfnIdeal.main_arg4)) (m ((c.tc : Thread Cert.ExpertFfnIdeal.nD Cert.ExpertFfnIdeal.τ).loc Cert.ExpertFfnIdeal.main_arg5)) (m ((c.tc : Thread Cert.ExpertFfnIdeal.nD Cert.ExpertFfnIdeal.τ).loc Cert.ExpertFfnIdeal.main_arg6))) = (fun _ => 1#1)

def Pre_ExpertFfnRefIdeal (m : (ℓ : Loc Cert.ExpertFfnRefIdeal.nD Cert.ExpertFfnRefIdeal.τ Cert.ExpertFfnRefIdeal.sig) → Buf (Elt Ideal) ℓ) : Prop :=
  True

def Pre_ExpertFfnRefIdeal_tables_in_range [hPre_tables_in_range : Cert.Pre_tables_in_range.Facts] (m : (ℓ : Loc Cert.ExpertFfnRefIdeal.nD Cert.ExpertFfnRefIdeal.τ Cert.ExpertFfnRefIdeal.sig) → Buf (Elt Ideal) ℓ) : Prop :=
  ∀ c : Dev Cert.ExpertFfnRefIdeal.nD,
    (Cert.Pre_tables_in_range.fn (F := Ideal) (m ((c.tc : Thread Cert.ExpertFfnRefIdeal.nD Cert.ExpertFfnRefIdeal.τ).loc Cert.ExpertFfnRefIdeal.main_arg0)) (m ((c.tc : Thread Cert.ExpertFfnRefIdeal.nD Cert.ExpertFfnRefIdeal.τ).loc Cert.ExpertFfnRefIdeal.main_arg1)) (m ((c.tc : Thread Cert.ExpertFfnRefIdeal.nD Cert.ExpertFfnRefIdeal.τ).loc Cert.ExpertFfnRefIdeal.main_arg2)) (m ((c.tc : Thread Cert.ExpertFfnRefIdeal.nD Cert.ExpertFfnRefIdeal.τ).loc Cert.ExpertFfnRefIdeal.main_arg3)) (m ((c.tc : Thread Cert.ExpertFfnRefIdeal.nD Cert.ExpertFfnRefIdeal.τ).loc Cert.ExpertFfnRefIdeal.main_arg4)) (m ((c.tc : Thread Cert.ExpertFfnRefIdeal.nD Cert.ExpertFfnRefIdeal.τ).loc Cert.ExpertFfnRefIdeal.main_arg5)) (m ((c.tc : Thread Cert.ExpertFfnRefIdeal.nD Cert.ExpertFfnRefIdeal.τ).loc Cert.ExpertFfnRefIdeal.main_arg6))) = (fun _ => 1#1)

def Pre_KvPrompt (m : (ℓ : Loc Cert.KvPrompt.nD Cert.KvPrompt.τ Cert.KvPrompt.sig) → Buf (Elt Bits) ℓ) : Prop :=
  True

def Pre_KvPromptIdeal (m : (ℓ : Loc Cert.KvPromptIdeal.nD Cert.KvPromptIdeal.τ Cert.KvPromptIdeal.sig) → Buf (Elt Ideal) ℓ) : Prop :=
  True

def Pre_KvPromptRefIdeal (m : (ℓ : Loc Cert.KvPromptRefIdeal.nD Cert.KvPromptRefIdeal.τ Cert.KvPromptRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_QPrompt (m : (ℓ : Loc Cert.QPrompt.nD Cert.QPrompt.τ Cert.QPrompt.sig) → Buf (Elt Bits) ℓ) : Prop :=
  True

def Pre_QPromptIdeal (m : (ℓ : Loc Cert.QPromptIdeal.nD Cert.QPromptIdeal.τ Cert.QPromptIdeal.sig) → Buf (Elt Ideal) ℓ) : Prop :=
  True

def Pre_QPromptRefIdeal (m : (ℓ : Loc Cert.QPromptRefIdeal.nD Cert.QPromptRefIdeal.τ Cert.QPromptRefIdeal.sig) → Buf (Elt Ideal) ℓ) : Prop :=
  True

def Pre_OutAbPrompt (m : (ℓ : Loc Cert.OutAbPrompt.nD Cert.OutAbPrompt.τ Cert.OutAbPrompt.sig) → Buf (Elt Bits) ℓ) : Prop :=
  True

def Pre_OutAbPromptIdeal (m : (ℓ : Loc Cert.OutAbPromptIdeal.nD Cert.OutAbPromptIdeal.τ Cert.OutAbPromptIdeal.sig) → Buf (Elt Ideal) ℓ) : Prop :=
  True

def Pre_OutAbPromptRefIdeal (m : (ℓ : Loc Cert.OutAbPromptRefIdeal.nD Cert.OutAbPromptRefIdeal.τ Cert.OutAbPromptRefIdeal.sig) → Buf (Elt Ideal) ℓ) : Prop :=
  True

def Pre_CqPrompt (m : (ℓ : Loc Cert.CqPrompt.nD Cert.CqPrompt.τ Cert.CqPrompt.sig) → Buf (Elt Bits) ℓ) : Prop :=
  True

def Pre_CqPromptIdeal (m : (ℓ : Loc Cert.CqPromptIdeal.nD Cert.CqPromptIdeal.τ Cert.CqPromptIdeal.sig) → Buf (Elt Ideal) ℓ) : Prop :=
  True

def Pre_CqPromptRefIdeal (m : (ℓ : Loc Cert.CqPromptRefIdeal.nD Cert.CqPromptRefIdeal.τ Cert.CqPromptRefIdeal.sig) → Buf (Elt Ideal) ℓ) : Prop :=
  True

def Pre_CkvPrompt0 (m : (ℓ : Loc Cert.CkvPrompt0.nD Cert.CkvPrompt0.τ Cert.CkvPrompt0.sig) → Buf (Elt Bits) ℓ) : Prop :=
  True

def Pre_CkvPrompt0Ideal (m : (ℓ : Loc Cert.CkvPrompt0Ideal.nD Cert.CkvPrompt0Ideal.τ Cert.CkvPrompt0Ideal.sig) → Buf (Elt Ideal) ℓ) : Prop :=
  True

def Pre_CkvPrompt0RefIdeal (m : (ℓ : Loc Cert.CkvPrompt0RefIdeal.nD Cert.CkvPrompt0RefIdeal.τ Cert.CkvPrompt0RefIdeal.sig) → Buf (Elt Ideal) ℓ) : Prop :=
  True

def Pre_CkvPrompt1 (m : (ℓ : Loc Cert.CkvPrompt1.nD Cert.CkvPrompt1.τ Cert.CkvPrompt1.sig) → Buf (Elt Bits) ℓ) : Prop :=
  True

def Pre_CkvPrompt1Ideal (m : (ℓ : Loc Cert.CkvPrompt1Ideal.nD Cert.CkvPrompt1Ideal.τ Cert.CkvPrompt1Ideal.sig) → Buf (Elt Ideal) ℓ) : Prop :=
  True

def Pre_CkvPrompt1RefIdeal (m : (ℓ : Loc Cert.CkvPrompt1RefIdeal.nD Cert.CkvPrompt1RefIdeal.τ Cert.CkvPrompt1RefIdeal.sig) → Buf (Elt Ideal) ℓ) : Prop :=
  True

def Pre_CkvPrompt2 (m : (ℓ : Loc Cert.CkvPrompt2.nD Cert.CkvPrompt2.τ Cert.CkvPrompt2.sig) → Buf (Elt Bits) ℓ) : Prop :=
  True

def Pre_CkvPrompt2Ideal (m : (ℓ : Loc Cert.CkvPrompt2Ideal.nD Cert.CkvPrompt2Ideal.τ Cert.CkvPrompt2Ideal.sig) → Buf (Elt Ideal) ℓ) : Prop :=
  True

def Pre_CkvPrompt2RefIdeal (m : (ℓ : Loc Cert.CkvPrompt2RefIdeal.nD Cert.CkvPrompt2RefIdeal.τ Cert.CkvPrompt2RefIdeal.sig) → Buf (Elt Ideal) ℓ) : Prop :=
  True

def Pre_CkvSample0 (m : (ℓ : Loc Cert.CkvSample0.nD Cert.CkvSample0.τ Cert.CkvSample0.sig) → Buf (Elt Bits) ℓ) : Prop :=
  True

def Pre_CkvSample0Ideal (m : (ℓ : Loc Cert.CkvSample0Ideal.nD Cert.CkvSample0Ideal.τ Cert.CkvSample0Ideal.sig) → Buf (Elt Ideal) ℓ) : Prop :=
  True

def Pre_CkvSample0RefIdeal (m : (ℓ : Loc Cert.CkvSample0RefIdeal.nD Cert.CkvSample0RefIdeal.τ Cert.CkvSample0RefIdeal.sig) → Buf (Elt Ideal) ℓ) : Prop :=
  True

def Pre_CkvSample1 (m : (ℓ : Loc Cert.CkvSample1.nD Cert.CkvSample1.τ Cert.CkvSample1.sig) → Buf (Elt Bits) ℓ) : Prop :=
  True

def Pre_CkvSample1Ideal (m : (ℓ : Loc Cert.CkvSample1Ideal.nD Cert.CkvSample1Ideal.τ Cert.CkvSample1Ideal.sig) → Buf (Elt Ideal) ℓ) : Prop :=
  True

def Pre_CkvSample1RefIdeal (m : (ℓ : Loc Cert.CkvSample1RefIdeal.nD Cert.CkvSample1RefIdeal.τ Cert.CkvSample1RefIdeal.sig) → Buf (Elt Ideal) ℓ) : Prop :=
  True

def Pre_CkvSample2 (m : (ℓ : Loc Cert.CkvSample2.nD Cert.CkvSample2.τ Cert.CkvSample2.sig) → Buf (Elt Bits) ℓ) : Prop :=
  True

def Pre_CkvSample2Ideal (m : (ℓ : Loc Cert.CkvSample2Ideal.nD Cert.CkvSample2Ideal.τ Cert.CkvSample2Ideal.sig) → Buf (Elt Ideal) ℓ) : Prop :=
  True

def Pre_CkvSample2RefIdeal (m : (ℓ : Loc Cert.CkvSample2RefIdeal.nD Cert.CkvSample2RefIdeal.τ Cert.CkvSample2RefIdeal.sig) → Buf (Elt Ideal) ℓ) : Prop :=
  True

def Pre_OutCPrompt (m : (ℓ : Loc Cert.OutCPrompt.nD Cert.OutCPrompt.τ Cert.OutCPrompt.sig) → Buf (Elt Bits) ℓ) : Prop :=
  True

def Pre_OutCPromptIdeal (m : (ℓ : Loc Cert.OutCPromptIdeal.nD Cert.OutCPromptIdeal.τ Cert.OutCPromptIdeal.sig) → Buf (Elt Ideal) ℓ) : Prop :=
  True

def Pre_OutCPromptRefIdeal (m : (ℓ : Loc Cert.OutCPromptRefIdeal.nD Cert.OutCPromptRefIdeal.τ Cert.OutCPromptRefIdeal.sig) → Buf (Elt Ideal) ℓ) : Prop :=
  True

def Pre_ResLnMix (m : (ℓ : Loc Cert.ResLnMix.nD Cert.ResLnMix.τ Cert.ResLnMix.sig) → Buf (Elt Bits) ℓ) : Prop :=
  True

def Pre_ResLnMixIdeal (m : (ℓ : Loc Cert.ResLnMixIdeal.nD Cert.ResLnMixIdeal.τ Cert.ResLnMixIdeal.sig) → Buf (Elt Ideal) ℓ) : Prop :=
  True

def Pre_ResLnMixRefIdeal (m : (ℓ : Loc Cert.ResLnMixRefIdeal.nD Cert.ResLnMixRefIdeal.τ Cert.ResLnMixRefIdeal.sig) → Buf (Elt Ideal) ℓ) : Prop :=
  True

def Pre_ResLnFfn (m : (ℓ : Loc Cert.ResLnFfn.nD Cert.ResLnFfn.τ Cert.ResLnFfn.sig) → Buf (Elt Bits) ℓ) : Prop :=
  True

def Pre_ResLnFfnIdeal (m : (ℓ : Loc Cert.ResLnFfnIdeal.nD Cert.ResLnFfnIdeal.τ Cert.ResLnFfnIdeal.sig) → Buf (Elt Ideal) ℓ) : Prop :=
  True

def Pre_ResLnFfnRefIdeal (m : (ℓ : Loc Cert.ResLnFfnRefIdeal.nD Cert.ResLnFfnRefIdeal.τ Cert.ResLnFfnRefIdeal.sig) → Buf (Elt Ideal) ℓ) : Prop :=
  True

def quiescent_AbPrompt [hAbPrompt : Cert.AbPrompt.Facts] : Prop :=
  ∀ (m : (ℓ : Loc Cert.AbPrompt.nD Cert.AbPrompt.τ Cert.AbPrompt.sig) → Buf (Elt Bits) ℓ) (g : Dev Cert.AbPrompt.nD → PrngReg), Pre_AbPrompt m →
    θ_run (Cert.AbPrompt.defs (F := Bits)) (onTc (τ := Cert.AbPrompt.τ) (Cert.AbPrompt.main (F := Bits))) ⟨m, fun _ => 0, g⟩ (fun r => (∀ c : Dev Cert.AbPrompt.nD,
      r.2.mem ((c.tc : Thread Cert.AbPrompt.nD Cert.AbPrompt.τ).loc Cert.AbPrompt.main_arg0) = m ((c.tc : Thread Cert.AbPrompt.nD Cert.AbPrompt.τ).loc Cert.AbPrompt.main_arg0)
      ∧ r.2.mem ((c.tc : Thread Cert.AbPrompt.nD Cert.AbPrompt.τ).loc Cert.AbPrompt.main_arg1) = m ((c.tc : Thread Cert.AbPrompt.nD Cert.AbPrompt.τ).loc Cert.AbPrompt.main_arg1)
      ∧ r.2.mem ((c.tc : Thread Cert.AbPrompt.nD Cert.AbPrompt.τ).loc Cert.AbPrompt.main_arg2) = m ((c.tc : Thread Cert.AbPrompt.nD Cert.AbPrompt.τ).loc Cert.AbPrompt.main_arg2))
      ∧ r.2.sem = fun _ => 0)

def quiescent_AbPromptIdeal [hAbPromptIdeal : Cert.AbPromptIdeal.Facts] : Prop :=
  ∀ (m : (ℓ : Loc Cert.AbPromptIdeal.nD Cert.AbPromptIdeal.τ Cert.AbPromptIdeal.sig) → Buf (Elt Ideal) ℓ) (g : Dev Cert.AbPromptIdeal.nD → PrngReg), Pre_AbPromptIdeal m →
    θ_run (Cert.AbPromptIdeal.defs (F := Ideal)) (onTc (τ := Cert.AbPromptIdeal.τ) (Cert.AbPromptIdeal.main (F := Ideal))) ⟨m, fun _ => 0, g⟩ (fun r => (∀ c : Dev Cert.AbPromptIdeal.nD,
      r.2.mem ((c.tc : Thread Cert.AbPromptIdeal.nD Cert.AbPromptIdeal.τ).loc Cert.AbPromptIdeal.main_arg0) = m ((c.tc : Thread Cert.AbPromptIdeal.nD Cert.AbPromptIdeal.τ).loc Cert.AbPromptIdeal.main_arg0)
      ∧ r.2.mem ((c.tc : Thread Cert.AbPromptIdeal.nD Cert.AbPromptIdeal.τ).loc Cert.AbPromptIdeal.main_arg1) = m ((c.tc : Thread Cert.AbPromptIdeal.nD Cert.AbPromptIdeal.τ).loc Cert.AbPromptIdeal.main_arg1)
      ∧ r.2.mem ((c.tc : Thread Cert.AbPromptIdeal.nD Cert.AbPromptIdeal.τ).loc Cert.AbPromptIdeal.main_arg2) = m ((c.tc : Thread Cert.AbPromptIdeal.nD Cert.AbPromptIdeal.τ).loc Cert.AbPromptIdeal.main_arg2))
      ∧ r.2.sem = fun _ => 0)

def quiescent_AbPromptIdeal_pre_finite [hAbPromptIdeal : Cert.AbPromptIdeal.Facts] [hPre_finite : Cert.Pre_finite.Facts] : Prop :=
  ∀ (m : (ℓ : Loc Cert.AbPromptIdeal.nD Cert.AbPromptIdeal.τ Cert.AbPromptIdeal.sig) → Buf (Elt Ideal) ℓ) (g : Dev Cert.AbPromptIdeal.nD → PrngReg), Pre_AbPromptIdeal_finite m →
    θ_run (Cert.AbPromptIdeal.defs (F := Ideal)) (onTc (τ := Cert.AbPromptIdeal.τ) (Cert.AbPromptIdeal.main (F := Ideal))) ⟨m, fun _ => 0, g⟩ (fun r => (∀ c : Dev Cert.AbPromptIdeal.nD,
      r.2.mem ((c.tc : Thread Cert.AbPromptIdeal.nD Cert.AbPromptIdeal.τ).loc Cert.AbPromptIdeal.main_arg0) = m ((c.tc : Thread Cert.AbPromptIdeal.nD Cert.AbPromptIdeal.τ).loc Cert.AbPromptIdeal.main_arg0)
      ∧ r.2.mem ((c.tc : Thread Cert.AbPromptIdeal.nD Cert.AbPromptIdeal.τ).loc Cert.AbPromptIdeal.main_arg1) = m ((c.tc : Thread Cert.AbPromptIdeal.nD Cert.AbPromptIdeal.τ).loc Cert.AbPromptIdeal.main_arg1)
      ∧ r.2.mem ((c.tc : Thread Cert.AbPromptIdeal.nD Cert.AbPromptIdeal.τ).loc Cert.AbPromptIdeal.main_arg2) = m ((c.tc : Thread Cert.AbPromptIdeal.nD Cert.AbPromptIdeal.τ).loc Cert.AbPromptIdeal.main_arg2))
      ∧ r.2.sem = fun _ => 0)

def quiescent_AbPromptRefIdeal [hAbPromptRefIdeal : Cert.AbPromptRefIdeal.Facts] : Prop :=
  ∀ (m : (ℓ : Loc Cert.AbPromptRefIdeal.nD Cert.AbPromptRefIdeal.τ Cert.AbPromptRefIdeal.sig) → Buf (Elt Ideal) ℓ) (g : Dev Cert.AbPromptRefIdeal.nD → PrngReg), Pre_AbPromptRefIdeal m →
    θ_run (Cert.AbPromptRefIdeal.defs (F := Ideal)) (onTc (τ := Cert.AbPromptRefIdeal.τ) (Cert.AbPromptRefIdeal.main (F := Ideal))) ⟨m, fun _ => 0, g⟩ (fun r => (∀ c : Dev Cert.AbPromptRefIdeal.nD,
      r.2.mem ((c.tc : Thread Cert.AbPromptRefIdeal.nD Cert.AbPromptRefIdeal.τ).loc Cert.AbPromptRefIdeal.main_arg0) = m ((c.tc : Thread Cert.AbPromptRefIdeal.nD Cert.AbPromptRefIdeal.τ).loc Cert.AbPromptRefIdeal.main_arg0)
      ∧ r.2.mem ((c.tc : Thread Cert.AbPromptRefIdeal.nD Cert.AbPromptRefIdeal.τ).loc Cert.AbPromptRefIdeal.main_arg1) = m ((c.tc : Thread Cert.AbPromptRefIdeal.nD Cert.AbPromptRefIdeal.τ).loc Cert.AbPromptRefIdeal.main_arg1)
      ∧ r.2.mem ((c.tc : Thread Cert.AbPromptRefIdeal.nD Cert.AbPromptRefIdeal.τ).loc Cert.AbPromptRefIdeal.main_arg2) = m ((c.tc : Thread Cert.AbPromptRefIdeal.nD Cert.AbPromptRefIdeal.τ).loc Cert.AbPromptRefIdeal.main_arg2))
      ∧ r.2.sem = fun _ => 0)

def quiescent_AbPromptRefIdeal_pre_finite [hAbPromptRefIdeal : Cert.AbPromptRefIdeal.Facts] [hPre_finite : Cert.Pre_finite.Facts] : Prop :=
  ∀ (m : (ℓ : Loc Cert.AbPromptRefIdeal.nD Cert.AbPromptRefIdeal.τ Cert.AbPromptRefIdeal.sig) → Buf (Elt Ideal) ℓ) (g : Dev Cert.AbPromptRefIdeal.nD → PrngReg), Pre_AbPromptRefIdeal_finite m →
    θ_run (Cert.AbPromptRefIdeal.defs (F := Ideal)) (onTc (τ := Cert.AbPromptRefIdeal.τ) (Cert.AbPromptRefIdeal.main (F := Ideal))) ⟨m, fun _ => 0, g⟩ (fun r => (∀ c : Dev Cert.AbPromptRefIdeal.nD,
      r.2.mem ((c.tc : Thread Cert.AbPromptRefIdeal.nD Cert.AbPromptRefIdeal.τ).loc Cert.AbPromptRefIdeal.main_arg0) = m ((c.tc : Thread Cert.AbPromptRefIdeal.nD Cert.AbPromptRefIdeal.τ).loc Cert.AbPromptRefIdeal.main_arg0)
      ∧ r.2.mem ((c.tc : Thread Cert.AbPromptRefIdeal.nD Cert.AbPromptRefIdeal.τ).loc Cert.AbPromptRefIdeal.main_arg1) = m ((c.tc : Thread Cert.AbPromptRefIdeal.nD Cert.AbPromptRefIdeal.τ).loc Cert.AbPromptRefIdeal.main_arg1)
      ∧ r.2.mem ((c.tc : Thread Cert.AbPromptRefIdeal.nD Cert.AbPromptRefIdeal.τ).loc Cert.AbPromptRefIdeal.main_arg2) = m ((c.tc : Thread Cert.AbPromptRefIdeal.nD Cert.AbPromptRefIdeal.τ).loc Cert.AbPromptRefIdeal.main_arg2))
      ∧ r.2.sem = fun _ => 0)

def quiescent_ExpertFfn [hExpertFfn : Cert.ExpertFfn.Facts] [hPre_tables_in_range : Cert.Pre_tables_in_range.Facts] : Prop :=
  ∀ (m : (ℓ : Loc Cert.ExpertFfn.nD Cert.ExpertFfn.τ Cert.ExpertFfn.sig) → Buf (Elt Bits) ℓ) (g : Dev Cert.ExpertFfn.nD → PrngReg), Pre_ExpertFfn m →
    θ_run (Cert.ExpertFfn.defs (F := Bits)) (onTc (τ := Cert.ExpertFfn.τ) (Cert.ExpertFfn.main (F := Bits))) ⟨m, fun _ => 0, g⟩ (fun r => (∀ c : Dev Cert.ExpertFfn.nD,
      r.2.mem ((c.tc : Thread Cert.ExpertFfn.nD Cert.ExpertFfn.τ).loc Cert.ExpertFfn.main_arg0) = m ((c.tc : Thread Cert.ExpertFfn.nD Cert.ExpertFfn.τ).loc Cert.ExpertFfn.main_arg0)
      ∧ r.2.mem ((c.tc : Thread Cert.ExpertFfn.nD Cert.ExpertFfn.τ).loc Cert.ExpertFfn.main_arg1) = m ((c.tc : Thread Cert.ExpertFfn.nD Cert.ExpertFfn.τ).loc Cert.ExpertFfn.main_arg1)
      ∧ r.2.mem ((c.tc : Thread Cert.ExpertFfn.nD Cert.ExpertFfn.τ).loc Cert.ExpertFfn.main_arg2) = m ((c.tc : Thread Cert.ExpertFfn.nD Cert.ExpertFfn.τ).loc Cert.ExpertFfn.main_arg2)
      ∧ r.2.mem ((c.tc : Thread Cert.ExpertFfn.nD Cert.ExpertFfn.τ).loc Cert.ExpertFfn.main_arg3) = m ((c.tc : Thread Cert.ExpertFfn.nD Cert.ExpertFfn.τ).loc Cert.ExpertFfn.main_arg3)
      ∧ r.2.mem ((c.tc : Thread Cert.ExpertFfn.nD Cert.ExpertFfn.τ).loc Cert.ExpertFfn.main_arg4) = m ((c.tc : Thread Cert.ExpertFfn.nD Cert.ExpertFfn.τ).loc Cert.ExpertFfn.main_arg4)
      ∧ r.2.mem ((c.tc : Thread Cert.ExpertFfn.nD Cert.ExpertFfn.τ).loc Cert.ExpertFfn.main_arg5) = m ((c.tc : Thread Cert.ExpertFfn.nD Cert.ExpertFfn.τ).loc Cert.ExpertFfn.main_arg5)
      ∧ r.2.mem ((c.tc : Thread Cert.ExpertFfn.nD Cert.ExpertFfn.τ).loc Cert.ExpertFfn.main_arg6) = m ((c.tc : Thread Cert.ExpertFfn.nD Cert.ExpertFfn.τ).loc Cert.ExpertFfn.main_arg6))
      ∧ r.2.sem = fun _ => 0)

def quiescent_ExpertFfnIdeal [hExpertFfnIdeal : Cert.ExpertFfnIdeal.Facts] [hPre_tables_in_range : Cert.Pre_tables_in_range.Facts] : Prop :=
  ∀ (m : (ℓ : Loc Cert.ExpertFfnIdeal.nD Cert.ExpertFfnIdeal.τ Cert.ExpertFfnIdeal.sig) → Buf (Elt Ideal) ℓ) (g : Dev Cert.ExpertFfnIdeal.nD → PrngReg), Pre_ExpertFfnIdeal m →
    θ_run (Cert.ExpertFfnIdeal.defs (F := Ideal)) (onTc (τ := Cert.ExpertFfnIdeal.τ) (Cert.ExpertFfnIdeal.main (F := Ideal))) ⟨m, fun _ => 0, g⟩ (fun r => (∀ c : Dev Cert.ExpertFfnIdeal.nD,
      r.2.mem ((c.tc : Thread Cert.ExpertFfnIdeal.nD Cert.ExpertFfnIdeal.τ).loc Cert.ExpertFfnIdeal.main_arg0) = m ((c.tc : Thread Cert.ExpertFfnIdeal.nD Cert.ExpertFfnIdeal.τ).loc Cert.ExpertFfnIdeal.main_arg0)
      ∧ r.2.mem ((c.tc : Thread Cert.ExpertFfnIdeal.nD Cert.ExpertFfnIdeal.τ).loc Cert.ExpertFfnIdeal.main_arg1) = m ((c.tc : Thread Cert.ExpertFfnIdeal.nD Cert.ExpertFfnIdeal.τ).loc Cert.ExpertFfnIdeal.main_arg1)
      ∧ r.2.mem ((c.tc : Thread Cert.ExpertFfnIdeal.nD Cert.ExpertFfnIdeal.τ).loc Cert.ExpertFfnIdeal.main_arg2) = m ((c.tc : Thread Cert.ExpertFfnIdeal.nD Cert.ExpertFfnIdeal.τ).loc Cert.ExpertFfnIdeal.main_arg2)
      ∧ r.2.mem ((c.tc : Thread Cert.ExpertFfnIdeal.nD Cert.ExpertFfnIdeal.τ).loc Cert.ExpertFfnIdeal.main_arg3) = m ((c.tc : Thread Cert.ExpertFfnIdeal.nD Cert.ExpertFfnIdeal.τ).loc Cert.ExpertFfnIdeal.main_arg3)
      ∧ r.2.mem ((c.tc : Thread Cert.ExpertFfnIdeal.nD Cert.ExpertFfnIdeal.τ).loc Cert.ExpertFfnIdeal.main_arg4) = m ((c.tc : Thread Cert.ExpertFfnIdeal.nD Cert.ExpertFfnIdeal.τ).loc Cert.ExpertFfnIdeal.main_arg4)
      ∧ r.2.mem ((c.tc : Thread Cert.ExpertFfnIdeal.nD Cert.ExpertFfnIdeal.τ).loc Cert.ExpertFfnIdeal.main_arg5) = m ((c.tc : Thread Cert.ExpertFfnIdeal.nD Cert.ExpertFfnIdeal.τ).loc Cert.ExpertFfnIdeal.main_arg5)
      ∧ r.2.mem ((c.tc : Thread Cert.ExpertFfnIdeal.nD Cert.ExpertFfnIdeal.τ).loc Cert.ExpertFfnIdeal.main_arg6) = m ((c.tc : Thread Cert.ExpertFfnIdeal.nD Cert.ExpertFfnIdeal.τ).loc Cert.ExpertFfnIdeal.main_arg6))
      ∧ r.2.sem = fun _ => 0)

def quiescent_ExpertFfnRefIdeal [hExpertFfnRefIdeal : Cert.ExpertFfnRefIdeal.Facts] : Prop :=
  ∀ (m : (ℓ : Loc Cert.ExpertFfnRefIdeal.nD Cert.ExpertFfnRefIdeal.τ Cert.ExpertFfnRefIdeal.sig) → Buf (Elt Ideal) ℓ) (g : Dev Cert.ExpertFfnRefIdeal.nD → PrngReg), Pre_ExpertFfnRefIdeal m →
    θ_run (Cert.ExpertFfnRefIdeal.defs (F := Ideal)) (onTc (τ := Cert.ExpertFfnRefIdeal.τ) (Cert.ExpertFfnRefIdeal.main (F := Ideal))) ⟨m, fun _ => 0, g⟩ (fun r => (∀ c : Dev Cert.ExpertFfnRefIdeal.nD,
      r.2.mem ((c.tc : Thread Cert.ExpertFfnRefIdeal.nD Cert.ExpertFfnRefIdeal.τ).loc Cert.ExpertFfnRefIdeal.main_arg0) = m ((c.tc : Thread Cert.ExpertFfnRefIdeal.nD Cert.ExpertFfnRefIdeal.τ).loc Cert.ExpertFfnRefIdeal.main_arg0)
      ∧ r.2.mem ((c.tc : Thread Cert.ExpertFfnRefIdeal.nD Cert.ExpertFfnRefIdeal.τ).loc Cert.ExpertFfnRefIdeal.main_arg1) = m ((c.tc : Thread Cert.ExpertFfnRefIdeal.nD Cert.ExpertFfnRefIdeal.τ).loc Cert.ExpertFfnRefIdeal.main_arg1)
      ∧ r.2.mem ((c.tc : Thread Cert.ExpertFfnRefIdeal.nD Cert.ExpertFfnRefIdeal.τ).loc Cert.ExpertFfnRefIdeal.main_arg2) = m ((c.tc : Thread Cert.ExpertFfnRefIdeal.nD Cert.ExpertFfnRefIdeal.τ).loc Cert.ExpertFfnRefIdeal.main_arg2)
      ∧ r.2.mem ((c.tc : Thread Cert.ExpertFfnRefIdeal.nD Cert.ExpertFfnRefIdeal.τ).loc Cert.ExpertFfnRefIdeal.main_arg3) = m ((c.tc : Thread Cert.ExpertFfnRefIdeal.nD Cert.ExpertFfnRefIdeal.τ).loc Cert.ExpertFfnRefIdeal.main_arg3)
      ∧ r.2.mem ((c.tc : Thread Cert.ExpertFfnRefIdeal.nD Cert.ExpertFfnRefIdeal.τ).loc Cert.ExpertFfnRefIdeal.main_arg4) = m ((c.tc : Thread Cert.ExpertFfnRefIdeal.nD Cert.ExpertFfnRefIdeal.τ).loc Cert.ExpertFfnRefIdeal.main_arg4)
      ∧ r.2.mem ((c.tc : Thread Cert.ExpertFfnRefIdeal.nD Cert.ExpertFfnRefIdeal.τ).loc Cert.ExpertFfnRefIdeal.main_arg5) = m ((c.tc : Thread Cert.ExpertFfnRefIdeal.nD Cert.ExpertFfnRefIdeal.τ).loc Cert.ExpertFfnRefIdeal.main_arg5)
      ∧ r.2.mem ((c.tc : Thread Cert.ExpertFfnRefIdeal.nD Cert.ExpertFfnRefIdeal.τ).loc Cert.ExpertFfnRefIdeal.main_arg6) = m ((c.tc : Thread Cert.ExpertFfnRefIdeal.nD Cert.ExpertFfnRefIdeal.τ).loc Cert.ExpertFfnRefIdeal.main_arg6))
      ∧ r.2.sem = fun _ => 0)

def quiescent_ExpertFfnRefIdeal_pre_tables_in_range [hExpertFfnRefIdeal : Cert.ExpertFfnRefIdeal.Facts] [hPre_tables_in_range : Cert.Pre_tables_in_range.Facts] : Prop :=
  ∀ (m : (ℓ : Loc Cert.ExpertFfnRefIdeal.nD Cert.ExpertFfnRefIdeal.τ Cert.ExpertFfnRefIdeal.sig) → Buf (Elt Ideal) ℓ) (g : Dev Cert.ExpertFfnRefIdeal.nD → PrngReg), Pre_ExpertFfnRefIdeal_tables_in_range m →
    θ_run (Cert.ExpertFfnRefIdeal.defs (F := Ideal)) (onTc (τ := Cert.ExpertFfnRefIdeal.τ) (Cert.ExpertFfnRefIdeal.main (F := Ideal))) ⟨m, fun _ => 0, g⟩ (fun r => (∀ c : Dev Cert.ExpertFfnRefIdeal.nD,
      r.2.mem ((c.tc : Thread Cert.ExpertFfnRefIdeal.nD Cert.ExpertFfnRefIdeal.τ).loc Cert.ExpertFfnRefIdeal.main_arg0) = m ((c.tc : Thread Cert.ExpertFfnRefIdeal.nD Cert.ExpertFfnRefIdeal.τ).loc Cert.ExpertFfnRefIdeal.main_arg0)
      ∧ r.2.mem ((c.tc : Thread Cert.ExpertFfnRefIdeal.nD Cert.ExpertFfnRefIdeal.τ).loc Cert.ExpertFfnRefIdeal.main_arg1) = m ((c.tc : Thread Cert.ExpertFfnRefIdeal.nD Cert.ExpertFfnRefIdeal.τ).loc Cert.ExpertFfnRefIdeal.main_arg1)
      ∧ r.2.mem ((c.tc : Thread Cert.ExpertFfnRefIdeal.nD Cert.ExpertFfnRefIdeal.τ).loc Cert.ExpertFfnRefIdeal.main_arg2) = m ((c.tc : Thread Cert.ExpertFfnRefIdeal.nD Cert.ExpertFfnRefIdeal.τ).loc Cert.ExpertFfnRefIdeal.main_arg2)
      ∧ r.2.mem ((c.tc : Thread Cert.ExpertFfnRefIdeal.nD Cert.ExpertFfnRefIdeal.τ).loc Cert.ExpertFfnRefIdeal.main_arg3) = m ((c.tc : Thread Cert.ExpertFfnRefIdeal.nD Cert.ExpertFfnRefIdeal.τ).loc Cert.ExpertFfnRefIdeal.main_arg3)
      ∧ r.2.mem ((c.tc : Thread Cert.ExpertFfnRefIdeal.nD Cert.ExpertFfnRefIdeal.τ).loc Cert.ExpertFfnRefIdeal.main_arg4) = m ((c.tc : Thread Cert.ExpertFfnRefIdeal.nD Cert.ExpertFfnRefIdeal.τ).loc Cert.ExpertFfnRefIdeal.main_arg4)
      ∧ r.2.mem ((c.tc : Thread Cert.ExpertFfnRefIdeal.nD Cert.ExpertFfnRefIdeal.τ).loc Cert.ExpertFfnRefIdeal.main_arg5) = m ((c.tc : Thread Cert.ExpertFfnRefIdeal.nD Cert.ExpertFfnRefIdeal.τ).loc Cert.ExpertFfnRefIdeal.main_arg5)
      ∧ r.2.mem ((c.tc : Thread Cert.ExpertFfnRefIdeal.nD Cert.ExpertFfnRefIdeal.τ).loc Cert.ExpertFfnRefIdeal.main_arg6) = m ((c.tc : Thread Cert.ExpertFfnRefIdeal.nD Cert.ExpertFfnRefIdeal.τ).loc Cert.ExpertFfnRefIdeal.main_arg6))
      ∧ r.2.sem = fun _ => 0)

def quiescent_KvPrompt [hKvPrompt : Cert.KvPrompt.Facts] : Prop :=
  ∀ (m : (ℓ : Loc Cert.KvPrompt.nD Cert.KvPrompt.τ Cert.KvPrompt.sig) → Buf (Elt Bits) ℓ) (g : Dev Cert.KvPrompt.nD → PrngReg), Pre_KvPrompt m →
    θ_run (Cert.KvPrompt.defs (F := Bits)) (onTc (τ := Cert.KvPrompt.τ) (Cert.KvPrompt.main (F := Bits))) ⟨m, fun _ => 0, g⟩ (fun r => (∀ c : Dev Cert.KvPrompt.nD,
      r.2.mem ((c.tc : Thread Cert.KvPrompt.nD Cert.KvPrompt.τ).loc Cert.KvPrompt.main_arg0) = m ((c.tc : Thread Cert.KvPrompt.nD Cert.KvPrompt.τ).loc Cert.KvPrompt.main_arg0)
      ∧ r.2.mem ((c.tc : Thread Cert.KvPrompt.nD Cert.KvPrompt.τ).loc Cert.KvPrompt.main_arg1) = m ((c.tc : Thread Cert.KvPrompt.nD Cert.KvPrompt.τ).loc Cert.KvPrompt.main_arg1))
      ∧ r.2.sem = fun _ => 0)

def quiescent_KvPromptIdeal [hKvPromptIdeal : Cert.KvPromptIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg), Pre_KvPromptIdeal m →
    θ_run (Cert.KvPromptIdeal.defs (F := Ideal)) (onTc (τ := Cert.KvPromptIdeal.τ) (Cert.KvPromptIdeal.main (F := Ideal))) ⟨m, fun _ => 0, g⟩ (fun r => (∀ c : Dev Cert.KvPromptIdeal.nD,
      r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
      ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ r.2.sem = fun _ => 0)

def quiescent_KvPromptRefIdeal [hKvPromptRefIdeal : Cert.KvPromptRefIdeal.Facts] : Prop :=
  ∀ (m : (ℓ : Loc Cert.KvPromptRefIdeal.nD Cert.KvPromptRefIdeal.τ Cert.KvPromptRefIdeal.sig) → Buf (Elt Ideal) ℓ) (g : Dev Cert.KvPromptRefIdeal.nD → PrngReg), Pre_KvPromptRefIdeal m →
    θ_run (Cert.KvPromptRefIdeal.defs (F := Ideal)) (onTc (τ := Cert.KvPromptRefIdeal.τ) (Cert.KvPromptRefIdeal.main (F := Ideal))) ⟨m, fun _ => 0, g⟩ (fun r => (∀ c : Dev Cert.KvPromptRefIdeal.nD,
      r.2.mem ((c.tc : Thread Cert.KvPromptRefIdeal.nD Cert.KvPromptRefIdeal.τ).loc Cert.KvPromptRefIdeal.main_arg0) = m ((c.tc : Thread Cert.KvPromptRefIdeal.nD Cert.KvPromptRefIdeal.τ).loc Cert.KvPromptRefIdeal.main_arg0)
      ∧ r.2.mem ((c.tc : Thread Cert.KvPromptRefIdeal.nD Cert.KvPromptRefIdeal.τ).loc Cert.KvPromptRefIdeal.main_arg1) = m ((c.tc : Thread Cert.KvPromptRefIdeal.nD Cert.KvPromptRefIdeal.τ).loc Cert.KvPromptRefIdeal.main_arg1))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1))
      ∧ r.2.sem = fun _ => 0)

def quiescent_QPrompt [hQPrompt : Cert.QPrompt.Facts] : Prop :=
  ∀ (m : (ℓ : Loc Cert.QPrompt.nD Cert.QPrompt.τ Cert.QPrompt.sig) → Buf (Elt Bits) ℓ) (g : Dev Cert.QPrompt.nD → PrngReg), Pre_QPrompt m →
    θ_run (Cert.QPrompt.defs (F := Bits)) (onTc (τ := Cert.QPrompt.τ) (Cert.QPrompt.main (F := Bits))) ⟨m, fun _ => 0, g⟩ (fun r => (∀ c : Dev Cert.QPrompt.nD,
      r.2.mem ((c.tc : Thread Cert.QPrompt.nD Cert.QPrompt.τ).loc Cert.QPrompt.main_arg0) = m ((c.tc : Thread Cert.QPrompt.nD Cert.QPrompt.τ).loc Cert.QPrompt.main_arg0)
      ∧ r.2.mem ((c.tc : Thread Cert.QPrompt.nD Cert.QPrompt.τ).loc Cert.QPrompt.main_arg1) = m ((c.tc : Thread Cert.QPrompt.nD Cert.QPrompt.τ).loc Cert.QPrompt.main_arg1))
      ∧ r.2.sem = fun _ => 0)

def quiescent_QPromptIdeal [hQPromptIdeal : Cert.QPromptIdeal.Facts] : Prop :=
  ∀ (m : (ℓ : Loc Cert.QPromptIdeal.nD Cert.QPromptIdeal.τ Cert.QPromptIdeal.sig) → Buf (Elt Ideal) ℓ) (g : Dev Cert.QPromptIdeal.nD → PrngReg), Pre_QPromptIdeal m →
    θ_run (Cert.QPromptIdeal.defs (F := Ideal)) (onTc (τ := Cert.QPromptIdeal.τ) (Cert.QPromptIdeal.main (F := Ideal))) ⟨m, fun _ => 0, g⟩ (fun r => (∀ c : Dev Cert.QPromptIdeal.nD,
      r.2.mem ((c.tc : Thread Cert.QPromptIdeal.nD Cert.QPromptIdeal.τ).loc Cert.QPromptIdeal.main_arg0) = m ((c.tc : Thread Cert.QPromptIdeal.nD Cert.QPromptIdeal.τ).loc Cert.QPromptIdeal.main_arg0)
      ∧ r.2.mem ((c.tc : Thread Cert.QPromptIdeal.nD Cert.QPromptIdeal.τ).loc Cert.QPromptIdeal.main_arg1) = m ((c.tc : Thread Cert.QPromptIdeal.nD Cert.QPromptIdeal.τ).loc Cert.QPromptIdeal.main_arg1))
      ∧ r.2.sem = fun _ => 0)

def quiescent_QPromptRefIdeal [hQPromptRefIdeal : Cert.QPromptRefIdeal.Facts] : Prop :=
  ∀ (m : (ℓ : Loc Cert.QPromptRefIdeal.nD Cert.QPromptRefIdeal.τ Cert.QPromptRefIdeal.sig) → Buf (Elt Ideal) ℓ) (g : Dev Cert.QPromptRefIdeal.nD → PrngReg), Pre_QPromptRefIdeal m →
    θ_run (Cert.QPromptRefIdeal.defs (F := Ideal)) (onTc (τ := Cert.QPromptRefIdeal.τ) (Cert.QPromptRefIdeal.main (F := Ideal))) ⟨m, fun _ => 0, g⟩ (fun r => (∀ c : Dev Cert.QPromptRefIdeal.nD,
      r.2.mem ((c.tc : Thread Cert.QPromptRefIdeal.nD Cert.QPromptRefIdeal.τ).loc Cert.QPromptRefIdeal.main_arg0) = m ((c.tc : Thread Cert.QPromptRefIdeal.nD Cert.QPromptRefIdeal.τ).loc Cert.QPromptRefIdeal.main_arg0)
      ∧ r.2.mem ((c.tc : Thread Cert.QPromptRefIdeal.nD Cert.QPromptRefIdeal.τ).loc Cert.QPromptRefIdeal.main_arg1) = m ((c.tc : Thread Cert.QPromptRefIdeal.nD Cert.QPromptRefIdeal.τ).loc Cert.QPromptRefIdeal.main_arg1))
      ∧ r.2.sem = fun _ => 0)

def quiescent_OutAbPrompt [hOutAbPrompt : Cert.OutAbPrompt.Facts] : Prop :=
  ∀ (m : (ℓ : Loc Cert.OutAbPrompt.nD Cert.OutAbPrompt.τ Cert.OutAbPrompt.sig) → Buf (Elt Bits) ℓ) (g : Dev Cert.OutAbPrompt.nD → PrngReg), Pre_OutAbPrompt m →
    θ_run (Cert.OutAbPrompt.defs (F := Bits)) (onTc (τ := Cert.OutAbPrompt.τ) (Cert.OutAbPrompt.main (F := Bits))) ⟨m, fun _ => 0, g⟩ (fun r => (∀ c : Dev Cert.OutAbPrompt.nD,
      r.2.mem ((c.tc : Thread Cert.OutAbPrompt.nD Cert.OutAbPrompt.τ).loc Cert.OutAbPrompt.main_arg0) = m ((c.tc : Thread Cert.OutAbPrompt.nD Cert.OutAbPrompt.τ).loc Cert.OutAbPrompt.main_arg0)
      ∧ r.2.mem ((c.tc : Thread Cert.OutAbPrompt.nD Cert.OutAbPrompt.τ).loc Cert.OutAbPrompt.main_arg1) = m ((c.tc : Thread Cert.OutAbPrompt.nD Cert.OutAbPrompt.τ).loc Cert.OutAbPrompt.main_arg1))
      ∧ r.2.sem = fun _ => 0)

def quiescent_OutAbPromptIdeal [hOutAbPromptIdeal : Cert.OutAbPromptIdeal.Facts] : Prop :=
  ∀ (m : (ℓ : Loc Cert.OutAbPromptIdeal.nD Cert.OutAbPromptIdeal.τ Cert.OutAbPromptIdeal.sig) → Buf (Elt Ideal) ℓ) (g : Dev Cert.OutAbPromptIdeal.nD → PrngReg), Pre_OutAbPromptIdeal m →
    θ_run (Cert.OutAbPromptIdeal.defs (F := Ideal)) (onTc (τ := Cert.OutAbPromptIdeal.τ) (Cert.OutAbPromptIdeal.main (F := Ideal))) ⟨m, fun _ => 0, g⟩ (fun r => (∀ c : Dev Cert.OutAbPromptIdeal.nD,
      r.2.mem ((c.tc : Thread Cert.OutAbPromptIdeal.nD Cert.OutAbPromptIdeal.τ).loc Cert.OutAbPromptIdeal.main_arg0) = m ((c.tc : Thread Cert.OutAbPromptIdeal.nD Cert.OutAbPromptIdeal.τ).loc Cert.OutAbPromptIdeal.main_arg0)
      ∧ r.2.mem ((c.tc : Thread Cert.OutAbPromptIdeal.nD Cert.OutAbPromptIdeal.τ).loc Cert.OutAbPromptIdeal.main_arg1) = m ((c.tc : Thread Cert.OutAbPromptIdeal.nD Cert.OutAbPromptIdeal.τ).loc Cert.OutAbPromptIdeal.main_arg1))
      ∧ r.2.sem = fun _ => 0)

def quiescent_OutAbPromptRefIdeal [hOutAbPromptRefIdeal : Cert.OutAbPromptRefIdeal.Facts] : Prop :=
  ∀ (m : (ℓ : Loc Cert.OutAbPromptRefIdeal.nD Cert.OutAbPromptRefIdeal.τ Cert.OutAbPromptRefIdeal.sig) → Buf (Elt Ideal) ℓ) (g : Dev Cert.OutAbPromptRefIdeal.nD → PrngReg), Pre_OutAbPromptRefIdeal m →
    θ_run (Cert.OutAbPromptRefIdeal.defs (F := Ideal)) (onTc (τ := Cert.OutAbPromptRefIdeal.τ) (Cert.OutAbPromptRefIdeal.main (F := Ideal))) ⟨m, fun _ => 0, g⟩ (fun r => (∀ c : Dev Cert.OutAbPromptRefIdeal.nD,
      r.2.mem ((c.tc : Thread Cert.OutAbPromptRefIdeal.nD Cert.OutAbPromptRefIdeal.τ).loc Cert.OutAbPromptRefIdeal.main_arg0) = m ((c.tc : Thread Cert.OutAbPromptRefIdeal.nD Cert.OutAbPromptRefIdeal.τ).loc Cert.OutAbPromptRefIdeal.main_arg0)
      ∧ r.2.mem ((c.tc : Thread Cert.OutAbPromptRefIdeal.nD Cert.OutAbPromptRefIdeal.τ).loc Cert.OutAbPromptRefIdeal.main_arg1) = m ((c.tc : Thread Cert.OutAbPromptRefIdeal.nD Cert.OutAbPromptRefIdeal.τ).loc Cert.OutAbPromptRefIdeal.main_arg1))
      ∧ r.2.sem = fun _ => 0)

def quiescent_CqPrompt [hCqPrompt : Cert.CqPrompt.Facts] : Prop :=
  ∀ (m : (ℓ : Loc Cert.CqPrompt.nD Cert.CqPrompt.τ Cert.CqPrompt.sig) → Buf (Elt Bits) ℓ) (g : Dev Cert.CqPrompt.nD → PrngReg), Pre_CqPrompt m →
    θ_run (Cert.CqPrompt.defs (F := Bits)) (onTc (τ := Cert.CqPrompt.τ) (Cert.CqPrompt.main (F := Bits))) ⟨m, fun _ => 0, g⟩ (fun r => (∀ c : Dev Cert.CqPrompt.nD,
      r.2.mem ((c.tc : Thread Cert.CqPrompt.nD Cert.CqPrompt.τ).loc Cert.CqPrompt.main_arg0) = m ((c.tc : Thread Cert.CqPrompt.nD Cert.CqPrompt.τ).loc Cert.CqPrompt.main_arg0)
      ∧ r.2.mem ((c.tc : Thread Cert.CqPrompt.nD Cert.CqPrompt.τ).loc Cert.CqPrompt.main_arg1) = m ((c.tc : Thread Cert.CqPrompt.nD Cert.CqPrompt.τ).loc Cert.CqPrompt.main_arg1))
      ∧ r.2.sem = fun _ => 0)

def quiescent_CqPromptIdeal [hCqPromptIdeal : Cert.CqPromptIdeal.Facts] : Prop :=
  ∀ (m : (ℓ : Loc Cert.CqPromptIdeal.nD Cert.CqPromptIdeal.τ Cert.CqPromptIdeal.sig) → Buf (Elt Ideal) ℓ) (g : Dev Cert.CqPromptIdeal.nD → PrngReg), Pre_CqPromptIdeal m →
    θ_run (Cert.CqPromptIdeal.defs (F := Ideal)) (onTc (τ := Cert.CqPromptIdeal.τ) (Cert.CqPromptIdeal.main (F := Ideal))) ⟨m, fun _ => 0, g⟩ (fun r => (∀ c : Dev Cert.CqPromptIdeal.nD,
      r.2.mem ((c.tc : Thread Cert.CqPromptIdeal.nD Cert.CqPromptIdeal.τ).loc Cert.CqPromptIdeal.main_arg0) = m ((c.tc : Thread Cert.CqPromptIdeal.nD Cert.CqPromptIdeal.τ).loc Cert.CqPromptIdeal.main_arg0)
      ∧ r.2.mem ((c.tc : Thread Cert.CqPromptIdeal.nD Cert.CqPromptIdeal.τ).loc Cert.CqPromptIdeal.main_arg1) = m ((c.tc : Thread Cert.CqPromptIdeal.nD Cert.CqPromptIdeal.τ).loc Cert.CqPromptIdeal.main_arg1))
      ∧ r.2.sem = fun _ => 0)

def quiescent_CqPromptRefIdeal [hCqPromptRefIdeal : Cert.CqPromptRefIdeal.Facts] : Prop :=
  ∀ (m : (ℓ : Loc Cert.CqPromptRefIdeal.nD Cert.CqPromptRefIdeal.τ Cert.CqPromptRefIdeal.sig) → Buf (Elt Ideal) ℓ) (g : Dev Cert.CqPromptRefIdeal.nD → PrngReg), Pre_CqPromptRefIdeal m →
    θ_run (Cert.CqPromptRefIdeal.defs (F := Ideal)) (onTc (τ := Cert.CqPromptRefIdeal.τ) (Cert.CqPromptRefIdeal.main (F := Ideal))) ⟨m, fun _ => 0, g⟩ (fun r => (∀ c : Dev Cert.CqPromptRefIdeal.nD,
      r.2.mem ((c.tc : Thread Cert.CqPromptRefIdeal.nD Cert.CqPromptRefIdeal.τ).loc Cert.CqPromptRefIdeal.main_arg0) = m ((c.tc : Thread Cert.CqPromptRefIdeal.nD Cert.CqPromptRefIdeal.τ).loc Cert.CqPromptRefIdeal.main_arg0)
      ∧ r.2.mem ((c.tc : Thread Cert.CqPromptRefIdeal.nD Cert.CqPromptRefIdeal.τ).loc Cert.CqPromptRefIdeal.main_arg1) = m ((c.tc : Thread Cert.CqPromptRefIdeal.nD Cert.CqPromptRefIdeal.τ).loc Cert.CqPromptRefIdeal.main_arg1))
      ∧ r.2.sem = fun _ => 0)

def quiescent_CkvPrompt0 [hCkvPrompt0 : Cert.CkvPrompt0.Facts] : Prop :=
  ∀ (m : (ℓ : Loc Cert.CkvPrompt0.nD Cert.CkvPrompt0.τ Cert.CkvPrompt0.sig) → Buf (Elt Bits) ℓ) (g : Dev Cert.CkvPrompt0.nD → PrngReg), Pre_CkvPrompt0 m →
    θ_run (Cert.CkvPrompt0.defs (F := Bits)) (onTc (τ := Cert.CkvPrompt0.τ) (Cert.CkvPrompt0.main (F := Bits))) ⟨m, fun _ => 0, g⟩ (fun r => (∀ c : Dev Cert.CkvPrompt0.nD,
      r.2.mem ((c.tc : Thread Cert.CkvPrompt0.nD Cert.CkvPrompt0.τ).loc Cert.CkvPrompt0.main_arg0) = m ((c.tc : Thread Cert.CkvPrompt0.nD Cert.CkvPrompt0.τ).loc Cert.CkvPrompt0.main_arg0)
      ∧ r.2.mem ((c.tc : Thread Cert.CkvPrompt0.nD Cert.CkvPrompt0.τ).loc Cert.CkvPrompt0.main_arg1) = m ((c.tc : Thread Cert.CkvPrompt0.nD Cert.CkvPrompt0.τ).loc Cert.CkvPrompt0.main_arg1))
      ∧ r.2.sem = fun _ => 0)

def quiescent_CkvPrompt0Ideal [hCkvPrompt0Ideal : Cert.CkvPrompt0Ideal.Facts] : Prop :=
  ∀ (m : (ℓ : Loc Cert.CkvPrompt0Ideal.nD Cert.CkvPrompt0Ideal.τ Cert.CkvPrompt0Ideal.sig) → Buf (Elt Ideal) ℓ) (g : Dev Cert.CkvPrompt0Ideal.nD → PrngReg), Pre_CkvPrompt0Ideal m →
    θ_run (Cert.CkvPrompt0Ideal.defs (F := Ideal)) (onTc (τ := Cert.CkvPrompt0Ideal.τ) (Cert.CkvPrompt0Ideal.main (F := Ideal))) ⟨m, fun _ => 0, g⟩ (fun r => (∀ c : Dev Cert.CkvPrompt0Ideal.nD,
      r.2.mem ((c.tc : Thread Cert.CkvPrompt0Ideal.nD Cert.CkvPrompt0Ideal.τ).loc Cert.CkvPrompt0Ideal.main_arg0) = m ((c.tc : Thread Cert.CkvPrompt0Ideal.nD Cert.CkvPrompt0Ideal.τ).loc Cert.CkvPrompt0Ideal.main_arg0)
      ∧ r.2.mem ((c.tc : Thread Cert.CkvPrompt0Ideal.nD Cert.CkvPrompt0Ideal.τ).loc Cert.CkvPrompt0Ideal.main_arg1) = m ((c.tc : Thread Cert.CkvPrompt0Ideal.nD Cert.CkvPrompt0Ideal.τ).loc Cert.CkvPrompt0Ideal.main_arg1))
      ∧ r.2.sem = fun _ => 0)

def quiescent_CkvPrompt0RefIdeal [hCkvPrompt0RefIdeal : Cert.CkvPrompt0RefIdeal.Facts] : Prop :=
  ∀ (m : (ℓ : Loc Cert.CkvPrompt0RefIdeal.nD Cert.CkvPrompt0RefIdeal.τ Cert.CkvPrompt0RefIdeal.sig) → Buf (Elt Ideal) ℓ) (g : Dev Cert.CkvPrompt0RefIdeal.nD → PrngReg), Pre_CkvPrompt0RefIdeal m →
    θ_run (Cert.CkvPrompt0RefIdeal.defs (F := Ideal)) (onTc (τ := Cert.CkvPrompt0RefIdeal.τ) (Cert.CkvPrompt0RefIdeal.main (F := Ideal))) ⟨m, fun _ => 0, g⟩ (fun r => (∀ c : Dev Cert.CkvPrompt0RefIdeal.nD,
      r.2.mem ((c.tc : Thread Cert.CkvPrompt0RefIdeal.nD Cert.CkvPrompt0RefIdeal.τ).loc Cert.CkvPrompt0RefIdeal.main_arg0) = m ((c.tc : Thread Cert.CkvPrompt0RefIdeal.nD Cert.CkvPrompt0RefIdeal.τ).loc Cert.CkvPrompt0RefIdeal.main_arg0)
      ∧ r.2.mem ((c.tc : Thread Cert.CkvPrompt0RefIdeal.nD Cert.CkvPrompt0RefIdeal.τ).loc Cert.CkvPrompt0RefIdeal.main_arg1) = m ((c.tc : Thread Cert.CkvPrompt0RefIdeal.nD Cert.CkvPrompt0RefIdeal.τ).loc Cert.CkvPrompt0RefIdeal.main_arg1))
      ∧ r.2.sem = fun _ => 0)

def quiescent_CkvPrompt1 [hCkvPrompt1 : Cert.CkvPrompt1.Facts] : Prop :=
  ∀ (m : (ℓ : Loc Cert.CkvPrompt1.nD Cert.CkvPrompt1.τ Cert.CkvPrompt1.sig) → Buf (Elt Bits) ℓ) (g : Dev Cert.CkvPrompt1.nD → PrngReg), Pre_CkvPrompt1 m →
    θ_run (Cert.CkvPrompt1.defs (F := Bits)) (onTc (τ := Cert.CkvPrompt1.τ) (Cert.CkvPrompt1.main (F := Bits))) ⟨m, fun _ => 0, g⟩ (fun r => (∀ c : Dev Cert.CkvPrompt1.nD,
      r.2.mem ((c.tc : Thread Cert.CkvPrompt1.nD Cert.CkvPrompt1.τ).loc Cert.CkvPrompt1.main_arg0) = m ((c.tc : Thread Cert.CkvPrompt1.nD Cert.CkvPrompt1.τ).loc Cert.CkvPrompt1.main_arg0)
      ∧ r.2.mem ((c.tc : Thread Cert.CkvPrompt1.nD Cert.CkvPrompt1.τ).loc Cert.CkvPrompt1.main_arg1) = m ((c.tc : Thread Cert.CkvPrompt1.nD Cert.CkvPrompt1.τ).loc Cert.CkvPrompt1.main_arg1))
      ∧ r.2.sem = fun _ => 0)

def quiescent_CkvPrompt1Ideal [hCkvPrompt1Ideal : Cert.CkvPrompt1Ideal.Facts] : Prop :=
  ∀ (m : (ℓ : Loc Cert.CkvPrompt1Ideal.nD Cert.CkvPrompt1Ideal.τ Cert.CkvPrompt1Ideal.sig) → Buf (Elt Ideal) ℓ) (g : Dev Cert.CkvPrompt1Ideal.nD → PrngReg), Pre_CkvPrompt1Ideal m →
    θ_run (Cert.CkvPrompt1Ideal.defs (F := Ideal)) (onTc (τ := Cert.CkvPrompt1Ideal.τ) (Cert.CkvPrompt1Ideal.main (F := Ideal))) ⟨m, fun _ => 0, g⟩ (fun r => (∀ c : Dev Cert.CkvPrompt1Ideal.nD,
      r.2.mem ((c.tc : Thread Cert.CkvPrompt1Ideal.nD Cert.CkvPrompt1Ideal.τ).loc Cert.CkvPrompt1Ideal.main_arg0) = m ((c.tc : Thread Cert.CkvPrompt1Ideal.nD Cert.CkvPrompt1Ideal.τ).loc Cert.CkvPrompt1Ideal.main_arg0)
      ∧ r.2.mem ((c.tc : Thread Cert.CkvPrompt1Ideal.nD Cert.CkvPrompt1Ideal.τ).loc Cert.CkvPrompt1Ideal.main_arg1) = m ((c.tc : Thread Cert.CkvPrompt1Ideal.nD Cert.CkvPrompt1Ideal.τ).loc Cert.CkvPrompt1Ideal.main_arg1))
      ∧ r.2.sem = fun _ => 0)

def quiescent_CkvPrompt1RefIdeal [hCkvPrompt1RefIdeal : Cert.CkvPrompt1RefIdeal.Facts] : Prop :=
  ∀ (m : (ℓ : Loc Cert.CkvPrompt1RefIdeal.nD Cert.CkvPrompt1RefIdeal.τ Cert.CkvPrompt1RefIdeal.sig) → Buf (Elt Ideal) ℓ) (g : Dev Cert.CkvPrompt1RefIdeal.nD → PrngReg), Pre_CkvPrompt1RefIdeal m →
    θ_run (Cert.CkvPrompt1RefIdeal.defs (F := Ideal)) (onTc (τ := Cert.CkvPrompt1RefIdeal.τ) (Cert.CkvPrompt1RefIdeal.main (F := Ideal))) ⟨m, fun _ => 0, g⟩ (fun r => (∀ c : Dev Cert.CkvPrompt1RefIdeal.nD,
      r.2.mem ((c.tc : Thread Cert.CkvPrompt1RefIdeal.nD Cert.CkvPrompt1RefIdeal.τ).loc Cert.CkvPrompt1RefIdeal.main_arg0) = m ((c.tc : Thread Cert.CkvPrompt1RefIdeal.nD Cert.CkvPrompt1RefIdeal.τ).loc Cert.CkvPrompt1RefIdeal.main_arg0)
      ∧ r.2.mem ((c.tc : Thread Cert.CkvPrompt1RefIdeal.nD Cert.CkvPrompt1RefIdeal.τ).loc Cert.CkvPrompt1RefIdeal.main_arg1) = m ((c.tc : Thread Cert.CkvPrompt1RefIdeal.nD Cert.CkvPrompt1RefIdeal.τ).loc Cert.CkvPrompt1RefIdeal.main_arg1))
      ∧ r.2.sem = fun _ => 0)

def quiescent_CkvPrompt2 [hCkvPrompt2 : Cert.CkvPrompt2.Facts] : Prop :=
  ∀ (m : (ℓ : Loc Cert.CkvPrompt2.nD Cert.CkvPrompt2.τ Cert.CkvPrompt2.sig) → Buf (Elt Bits) ℓ) (g : Dev Cert.CkvPrompt2.nD → PrngReg), Pre_CkvPrompt2 m →
    θ_run (Cert.CkvPrompt2.defs (F := Bits)) (onTc (τ := Cert.CkvPrompt2.τ) (Cert.CkvPrompt2.main (F := Bits))) ⟨m, fun _ => 0, g⟩ (fun r => (∀ c : Dev Cert.CkvPrompt2.nD,
      r.2.mem ((c.tc : Thread Cert.CkvPrompt2.nD Cert.CkvPrompt2.τ).loc Cert.CkvPrompt2.main_arg0) = m ((c.tc : Thread Cert.CkvPrompt2.nD Cert.CkvPrompt2.τ).loc Cert.CkvPrompt2.main_arg0)
      ∧ r.2.mem ((c.tc : Thread Cert.CkvPrompt2.nD Cert.CkvPrompt2.τ).loc Cert.CkvPrompt2.main_arg1) = m ((c.tc : Thread Cert.CkvPrompt2.nD Cert.CkvPrompt2.τ).loc Cert.CkvPrompt2.main_arg1))
      ∧ r.2.sem = fun _ => 0)

def quiescent_CkvPrompt2Ideal [hCkvPrompt2Ideal : Cert.CkvPrompt2Ideal.Facts] : Prop :=
  ∀ (m : (ℓ : Loc Cert.CkvPrompt2Ideal.nD Cert.CkvPrompt2Ideal.τ Cert.CkvPrompt2Ideal.sig) → Buf (Elt Ideal) ℓ) (g : Dev Cert.CkvPrompt2Ideal.nD → PrngReg), Pre_CkvPrompt2Ideal m →
    θ_run (Cert.CkvPrompt2Ideal.defs (F := Ideal)) (onTc (τ := Cert.CkvPrompt2Ideal.τ) (Cert.CkvPrompt2Ideal.main (F := Ideal))) ⟨m, fun _ => 0, g⟩ (fun r => (∀ c : Dev Cert.CkvPrompt2Ideal.nD,
      r.2.mem ((c.tc : Thread Cert.CkvPrompt2Ideal.nD Cert.CkvPrompt2Ideal.τ).loc Cert.CkvPrompt2Ideal.main_arg0) = m ((c.tc : Thread Cert.CkvPrompt2Ideal.nD Cert.CkvPrompt2Ideal.τ).loc Cert.CkvPrompt2Ideal.main_arg0)
      ∧ r.2.mem ((c.tc : Thread Cert.CkvPrompt2Ideal.nD Cert.CkvPrompt2Ideal.τ).loc Cert.CkvPrompt2Ideal.main_arg1) = m ((c.tc : Thread Cert.CkvPrompt2Ideal.nD Cert.CkvPrompt2Ideal.τ).loc Cert.CkvPrompt2Ideal.main_arg1))
      ∧ r.2.sem = fun _ => 0)

def quiescent_CkvPrompt2RefIdeal [hCkvPrompt2RefIdeal : Cert.CkvPrompt2RefIdeal.Facts] : Prop :=
  ∀ (m : (ℓ : Loc Cert.CkvPrompt2RefIdeal.nD Cert.CkvPrompt2RefIdeal.τ Cert.CkvPrompt2RefIdeal.sig) → Buf (Elt Ideal) ℓ) (g : Dev Cert.CkvPrompt2RefIdeal.nD → PrngReg), Pre_CkvPrompt2RefIdeal m →
    θ_run (Cert.CkvPrompt2RefIdeal.defs (F := Ideal)) (onTc (τ := Cert.CkvPrompt2RefIdeal.τ) (Cert.CkvPrompt2RefIdeal.main (F := Ideal))) ⟨m, fun _ => 0, g⟩ (fun r => (∀ c : Dev Cert.CkvPrompt2RefIdeal.nD,
      r.2.mem ((c.tc : Thread Cert.CkvPrompt2RefIdeal.nD Cert.CkvPrompt2RefIdeal.τ).loc Cert.CkvPrompt2RefIdeal.main_arg0) = m ((c.tc : Thread Cert.CkvPrompt2RefIdeal.nD Cert.CkvPrompt2RefIdeal.τ).loc Cert.CkvPrompt2RefIdeal.main_arg0)
      ∧ r.2.mem ((c.tc : Thread Cert.CkvPrompt2RefIdeal.nD Cert.CkvPrompt2RefIdeal.τ).loc Cert.CkvPrompt2RefIdeal.main_arg1) = m ((c.tc : Thread Cert.CkvPrompt2RefIdeal.nD Cert.CkvPrompt2RefIdeal.τ).loc Cert.CkvPrompt2RefIdeal.main_arg1))
      ∧ r.2.sem = fun _ => 0)

def quiescent_CkvSample0 [hCkvSample0 : Cert.CkvSample0.Facts] : Prop :=
  ∀ (m : (ℓ : Loc Cert.CkvSample0.nD Cert.CkvSample0.τ Cert.CkvSample0.sig) → Buf (Elt Bits) ℓ) (g : Dev Cert.CkvSample0.nD → PrngReg), Pre_CkvSample0 m →
    θ_run (Cert.CkvSample0.defs (F := Bits)) (onTc (τ := Cert.CkvSample0.τ) (Cert.CkvSample0.main (F := Bits))) ⟨m, fun _ => 0, g⟩ (fun r => (∀ c : Dev Cert.CkvSample0.nD,
      r.2.mem ((c.tc : Thread Cert.CkvSample0.nD Cert.CkvSample0.τ).loc Cert.CkvSample0.main_arg0) = m ((c.tc : Thread Cert.CkvSample0.nD Cert.CkvSample0.τ).loc Cert.CkvSample0.main_arg0)
      ∧ r.2.mem ((c.tc : Thread Cert.CkvSample0.nD Cert.CkvSample0.τ).loc Cert.CkvSample0.main_arg1) = m ((c.tc : Thread Cert.CkvSample0.nD Cert.CkvSample0.τ).loc Cert.CkvSample0.main_arg1))
      ∧ r.2.sem = fun _ => 0)

def quiescent_CkvSample0Ideal [hCkvSample0Ideal : Cert.CkvSample0Ideal.Facts] : Prop :=
  ∀ (m : (ℓ : Loc Cert.CkvSample0Ideal.nD Cert.CkvSample0Ideal.τ Cert.CkvSample0Ideal.sig) → Buf (Elt Ideal) ℓ) (g : Dev Cert.CkvSample0Ideal.nD → PrngReg), Pre_CkvSample0Ideal m →
    θ_run (Cert.CkvSample0Ideal.defs (F := Ideal)) (onTc (τ := Cert.CkvSample0Ideal.τ) (Cert.CkvSample0Ideal.main (F := Ideal))) ⟨m, fun _ => 0, g⟩ (fun r => (∀ c : Dev Cert.CkvSample0Ideal.nD,
      r.2.mem ((c.tc : Thread Cert.CkvSample0Ideal.nD Cert.CkvSample0Ideal.τ).loc Cert.CkvSample0Ideal.main_arg0) = m ((c.tc : Thread Cert.CkvSample0Ideal.nD Cert.CkvSample0Ideal.τ).loc Cert.CkvSample0Ideal.main_arg0)
      ∧ r.2.mem ((c.tc : Thread Cert.CkvSample0Ideal.nD Cert.CkvSample0Ideal.τ).loc Cert.CkvSample0Ideal.main_arg1) = m ((c.tc : Thread Cert.CkvSample0Ideal.nD Cert.CkvSample0Ideal.τ).loc Cert.CkvSample0Ideal.main_arg1))
      ∧ r.2.sem = fun _ => 0)

def quiescent_CkvSample0RefIdeal [hCkvSample0RefIdeal : Cert.CkvSample0RefIdeal.Facts] : Prop :=
  ∀ (m : (ℓ : Loc Cert.CkvSample0RefIdeal.nD Cert.CkvSample0RefIdeal.τ Cert.CkvSample0RefIdeal.sig) → Buf (Elt Ideal) ℓ) (g : Dev Cert.CkvSample0RefIdeal.nD → PrngReg), Pre_CkvSample0RefIdeal m →
    θ_run (Cert.CkvSample0RefIdeal.defs (F := Ideal)) (onTc (τ := Cert.CkvSample0RefIdeal.τ) (Cert.CkvSample0RefIdeal.main (F := Ideal))) ⟨m, fun _ => 0, g⟩ (fun r => (∀ c : Dev Cert.CkvSample0RefIdeal.nD,
      r.2.mem ((c.tc : Thread Cert.CkvSample0RefIdeal.nD Cert.CkvSample0RefIdeal.τ).loc Cert.CkvSample0RefIdeal.main_arg0) = m ((c.tc : Thread Cert.CkvSample0RefIdeal.nD Cert.CkvSample0RefIdeal.τ).loc Cert.CkvSample0RefIdeal.main_arg0)
      ∧ r.2.mem ((c.tc : Thread Cert.CkvSample0RefIdeal.nD Cert.CkvSample0RefIdeal.τ).loc Cert.CkvSample0RefIdeal.main_arg1) = m ((c.tc : Thread Cert.CkvSample0RefIdeal.nD Cert.CkvSample0RefIdeal.τ).loc Cert.CkvSample0RefIdeal.main_arg1))
      ∧ r.2.sem = fun _ => 0)

def quiescent_CkvSample1 [hCkvSample1 : Cert.CkvSample1.Facts] : Prop :=
  ∀ (m : (ℓ : Loc Cert.CkvSample1.nD Cert.CkvSample1.τ Cert.CkvSample1.sig) → Buf (Elt Bits) ℓ) (g : Dev Cert.CkvSample1.nD → PrngReg), Pre_CkvSample1 m →
    θ_run (Cert.CkvSample1.defs (F := Bits)) (onTc (τ := Cert.CkvSample1.τ) (Cert.CkvSample1.main (F := Bits))) ⟨m, fun _ => 0, g⟩ (fun r => (∀ c : Dev Cert.CkvSample1.nD,
      r.2.mem ((c.tc : Thread Cert.CkvSample1.nD Cert.CkvSample1.τ).loc Cert.CkvSample1.main_arg0) = m ((c.tc : Thread Cert.CkvSample1.nD Cert.CkvSample1.τ).loc Cert.CkvSample1.main_arg0)
      ∧ r.2.mem ((c.tc : Thread Cert.CkvSample1.nD Cert.CkvSample1.τ).loc Cert.CkvSample1.main_arg1) = m ((c.tc : Thread Cert.CkvSample1.nD Cert.CkvSample1.τ).loc Cert.CkvSample1.main_arg1))
      ∧ r.2.sem = fun _ => 0)

def quiescent_CkvSample1Ideal [hCkvSample1Ideal : Cert.CkvSample1Ideal.Facts] : Prop :=
  ∀ (m : (ℓ : Loc Cert.CkvSample1Ideal.nD Cert.CkvSample1Ideal.τ Cert.CkvSample1Ideal.sig) → Buf (Elt Ideal) ℓ) (g : Dev Cert.CkvSample1Ideal.nD → PrngReg), Pre_CkvSample1Ideal m →
    θ_run (Cert.CkvSample1Ideal.defs (F := Ideal)) (onTc (τ := Cert.CkvSample1Ideal.τ) (Cert.CkvSample1Ideal.main (F := Ideal))) ⟨m, fun _ => 0, g⟩ (fun r => (∀ c : Dev Cert.CkvSample1Ideal.nD,
      r.2.mem ((c.tc : Thread Cert.CkvSample1Ideal.nD Cert.CkvSample1Ideal.τ).loc Cert.CkvSample1Ideal.main_arg0) = m ((c.tc : Thread Cert.CkvSample1Ideal.nD Cert.CkvSample1Ideal.τ).loc Cert.CkvSample1Ideal.main_arg0)
      ∧ r.2.mem ((c.tc : Thread Cert.CkvSample1Ideal.nD Cert.CkvSample1Ideal.τ).loc Cert.CkvSample1Ideal.main_arg1) = m ((c.tc : Thread Cert.CkvSample1Ideal.nD Cert.CkvSample1Ideal.τ).loc Cert.CkvSample1Ideal.main_arg1))
      ∧ r.2.sem = fun _ => 0)

def quiescent_CkvSample1RefIdeal [hCkvSample1RefIdeal : Cert.CkvSample1RefIdeal.Facts] : Prop :=
  ∀ (m : (ℓ : Loc Cert.CkvSample1RefIdeal.nD Cert.CkvSample1RefIdeal.τ Cert.CkvSample1RefIdeal.sig) → Buf (Elt Ideal) ℓ) (g : Dev Cert.CkvSample1RefIdeal.nD → PrngReg), Pre_CkvSample1RefIdeal m →
    θ_run (Cert.CkvSample1RefIdeal.defs (F := Ideal)) (onTc (τ := Cert.CkvSample1RefIdeal.τ) (Cert.CkvSample1RefIdeal.main (F := Ideal))) ⟨m, fun _ => 0, g⟩ (fun r => (∀ c : Dev Cert.CkvSample1RefIdeal.nD,
      r.2.mem ((c.tc : Thread Cert.CkvSample1RefIdeal.nD Cert.CkvSample1RefIdeal.τ).loc Cert.CkvSample1RefIdeal.main_arg0) = m ((c.tc : Thread Cert.CkvSample1RefIdeal.nD Cert.CkvSample1RefIdeal.τ).loc Cert.CkvSample1RefIdeal.main_arg0)
      ∧ r.2.mem ((c.tc : Thread Cert.CkvSample1RefIdeal.nD Cert.CkvSample1RefIdeal.τ).loc Cert.CkvSample1RefIdeal.main_arg1) = m ((c.tc : Thread Cert.CkvSample1RefIdeal.nD Cert.CkvSample1RefIdeal.τ).loc Cert.CkvSample1RefIdeal.main_arg1))
      ∧ r.2.sem = fun _ => 0)

def quiescent_CkvSample2 [hCkvSample2 : Cert.CkvSample2.Facts] : Prop :=
  ∀ (m : (ℓ : Loc Cert.CkvSample2.nD Cert.CkvSample2.τ Cert.CkvSample2.sig) → Buf (Elt Bits) ℓ) (g : Dev Cert.CkvSample2.nD → PrngReg), Pre_CkvSample2 m →
    θ_run (Cert.CkvSample2.defs (F := Bits)) (onTc (τ := Cert.CkvSample2.τ) (Cert.CkvSample2.main (F := Bits))) ⟨m, fun _ => 0, g⟩ (fun r => (∀ c : Dev Cert.CkvSample2.nD,
      r.2.mem ((c.tc : Thread Cert.CkvSample2.nD Cert.CkvSample2.τ).loc Cert.CkvSample2.main_arg0) = m ((c.tc : Thread Cert.CkvSample2.nD Cert.CkvSample2.τ).loc Cert.CkvSample2.main_arg0)
      ∧ r.2.mem ((c.tc : Thread Cert.CkvSample2.nD Cert.CkvSample2.τ).loc Cert.CkvSample2.main_arg1) = m ((c.tc : Thread Cert.CkvSample2.nD Cert.CkvSample2.τ).loc Cert.CkvSample2.main_arg1))
      ∧ r.2.sem = fun _ => 0)

def quiescent_CkvSample2Ideal [hCkvSample2Ideal : Cert.CkvSample2Ideal.Facts] : Prop :=
  ∀ (m : (ℓ : Loc Cert.CkvSample2Ideal.nD Cert.CkvSample2Ideal.τ Cert.CkvSample2Ideal.sig) → Buf (Elt Ideal) ℓ) (g : Dev Cert.CkvSample2Ideal.nD → PrngReg), Pre_CkvSample2Ideal m →
    θ_run (Cert.CkvSample2Ideal.defs (F := Ideal)) (onTc (τ := Cert.CkvSample2Ideal.τ) (Cert.CkvSample2Ideal.main (F := Ideal))) ⟨m, fun _ => 0, g⟩ (fun r => (∀ c : Dev Cert.CkvSample2Ideal.nD,
      r.2.mem ((c.tc : Thread Cert.CkvSample2Ideal.nD Cert.CkvSample2Ideal.τ).loc Cert.CkvSample2Ideal.main_arg0) = m ((c.tc : Thread Cert.CkvSample2Ideal.nD Cert.CkvSample2Ideal.τ).loc Cert.CkvSample2Ideal.main_arg0)
      ∧ r.2.mem ((c.tc : Thread Cert.CkvSample2Ideal.nD Cert.CkvSample2Ideal.τ).loc Cert.CkvSample2Ideal.main_arg1) = m ((c.tc : Thread Cert.CkvSample2Ideal.nD Cert.CkvSample2Ideal.τ).loc Cert.CkvSample2Ideal.main_arg1))
      ∧ r.2.sem = fun _ => 0)

def quiescent_CkvSample2RefIdeal [hCkvSample2RefIdeal : Cert.CkvSample2RefIdeal.Facts] : Prop :=
  ∀ (m : (ℓ : Loc Cert.CkvSample2RefIdeal.nD Cert.CkvSample2RefIdeal.τ Cert.CkvSample2RefIdeal.sig) → Buf (Elt Ideal) ℓ) (g : Dev Cert.CkvSample2RefIdeal.nD → PrngReg), Pre_CkvSample2RefIdeal m →
    θ_run (Cert.CkvSample2RefIdeal.defs (F := Ideal)) (onTc (τ := Cert.CkvSample2RefIdeal.τ) (Cert.CkvSample2RefIdeal.main (F := Ideal))) ⟨m, fun _ => 0, g⟩ (fun r => (∀ c : Dev Cert.CkvSample2RefIdeal.nD,
      r.2.mem ((c.tc : Thread Cert.CkvSample2RefIdeal.nD Cert.CkvSample2RefIdeal.τ).loc Cert.CkvSample2RefIdeal.main_arg0) = m ((c.tc : Thread Cert.CkvSample2RefIdeal.nD Cert.CkvSample2RefIdeal.τ).loc Cert.CkvSample2RefIdeal.main_arg0)
      ∧ r.2.mem ((c.tc : Thread Cert.CkvSample2RefIdeal.nD Cert.CkvSample2RefIdeal.τ).loc Cert.CkvSample2RefIdeal.main_arg1) = m ((c.tc : Thread Cert.CkvSample2RefIdeal.nD Cert.CkvSample2RefIdeal.τ).loc Cert.CkvSample2RefIdeal.main_arg1))
      ∧ r.2.sem = fun _ => 0)

def quiescent_OutCPrompt [hOutCPrompt : Cert.OutCPrompt.Facts] : Prop :=
  ∀ (m : (ℓ : Loc Cert.OutCPrompt.nD Cert.OutCPrompt.τ Cert.OutCPrompt.sig) → Buf (Elt Bits) ℓ) (g : Dev Cert.OutCPrompt.nD → PrngReg), Pre_OutCPrompt m →
    θ_run (Cert.OutCPrompt.defs (F := Bits)) (onTc (τ := Cert.OutCPrompt.τ) (Cert.OutCPrompt.main (F := Bits))) ⟨m, fun _ => 0, g⟩ (fun r => (∀ c : Dev Cert.OutCPrompt.nD,
      r.2.mem ((c.tc : Thread Cert.OutCPrompt.nD Cert.OutCPrompt.τ).loc Cert.OutCPrompt.main_arg0) = m ((c.tc : Thread Cert.OutCPrompt.nD Cert.OutCPrompt.τ).loc Cert.OutCPrompt.main_arg0)
      ∧ r.2.mem ((c.tc : Thread Cert.OutCPrompt.nD Cert.OutCPrompt.τ).loc Cert.OutCPrompt.main_arg1) = m ((c.tc : Thread Cert.OutCPrompt.nD Cert.OutCPrompt.τ).loc Cert.OutCPrompt.main_arg1))
      ∧ r.2.sem = fun _ => 0)

def quiescent_OutCPromptIdeal [hOutCPromptIdeal : Cert.OutCPromptIdeal.Facts] : Prop :=
  ∀ (m : (ℓ : Loc Cert.OutCPromptIdeal.nD Cert.OutCPromptIdeal.τ Cert.OutCPromptIdeal.sig) → Buf (Elt Ideal) ℓ) (g : Dev Cert.OutCPromptIdeal.nD → PrngReg), Pre_OutCPromptIdeal m →
    θ_run (Cert.OutCPromptIdeal.defs (F := Ideal)) (onTc (τ := Cert.OutCPromptIdeal.τ) (Cert.OutCPromptIdeal.main (F := Ideal))) ⟨m, fun _ => 0, g⟩ (fun r => (∀ c : Dev Cert.OutCPromptIdeal.nD,
      r.2.mem ((c.tc : Thread Cert.OutCPromptIdeal.nD Cert.OutCPromptIdeal.τ).loc Cert.OutCPromptIdeal.main_arg0) = m ((c.tc : Thread Cert.OutCPromptIdeal.nD Cert.OutCPromptIdeal.τ).loc Cert.OutCPromptIdeal.main_arg0)
      ∧ r.2.mem ((c.tc : Thread Cert.OutCPromptIdeal.nD Cert.OutCPromptIdeal.τ).loc Cert.OutCPromptIdeal.main_arg1) = m ((c.tc : Thread Cert.OutCPromptIdeal.nD Cert.OutCPromptIdeal.τ).loc Cert.OutCPromptIdeal.main_arg1))
      ∧ r.2.sem = fun _ => 0)

def quiescent_OutCPromptRefIdeal [hOutCPromptRefIdeal : Cert.OutCPromptRefIdeal.Facts] : Prop :=
  ∀ (m : (ℓ : Loc Cert.OutCPromptRefIdeal.nD Cert.OutCPromptRefIdeal.τ Cert.OutCPromptRefIdeal.sig) → Buf (Elt Ideal) ℓ) (g : Dev Cert.OutCPromptRefIdeal.nD → PrngReg), Pre_OutCPromptRefIdeal m →
    θ_run (Cert.OutCPromptRefIdeal.defs (F := Ideal)) (onTc (τ := Cert.OutCPromptRefIdeal.τ) (Cert.OutCPromptRefIdeal.main (F := Ideal))) ⟨m, fun _ => 0, g⟩ (fun r => (∀ c : Dev Cert.OutCPromptRefIdeal.nD,
      r.2.mem ((c.tc : Thread Cert.OutCPromptRefIdeal.nD Cert.OutCPromptRefIdeal.τ).loc Cert.OutCPromptRefIdeal.main_arg0) = m ((c.tc : Thread Cert.OutCPromptRefIdeal.nD Cert.OutCPromptRefIdeal.τ).loc Cert.OutCPromptRefIdeal.main_arg0)
      ∧ r.2.mem ((c.tc : Thread Cert.OutCPromptRefIdeal.nD Cert.OutCPromptRefIdeal.τ).loc Cert.OutCPromptRefIdeal.main_arg1) = m ((c.tc : Thread Cert.OutCPromptRefIdeal.nD Cert.OutCPromptRefIdeal.τ).loc Cert.OutCPromptRefIdeal.main_arg1))
      ∧ r.2.sem = fun _ => 0)

def quiescent_ResLnMix [hResLnMix : Cert.ResLnMix.Facts] : Prop :=
  ∀ (m : (ℓ : Loc Cert.ResLnMix.nD Cert.ResLnMix.τ Cert.ResLnMix.sig) → Buf (Elt Bits) ℓ) (g : Dev Cert.ResLnMix.nD → PrngReg), Pre_ResLnMix m →
    θ_run (Cert.ResLnMix.defs (F := Bits)) (onTc (τ := Cert.ResLnMix.τ) (Cert.ResLnMix.main (F := Bits))) ⟨m, fun _ => 0, g⟩ (fun r => (∀ c : Dev Cert.ResLnMix.nD,
      r.2.mem ((c.tc : Thread Cert.ResLnMix.nD Cert.ResLnMix.τ).loc Cert.ResLnMix.main_arg0) = m ((c.tc : Thread Cert.ResLnMix.nD Cert.ResLnMix.τ).loc Cert.ResLnMix.main_arg0)
      ∧ r.2.mem ((c.tc : Thread Cert.ResLnMix.nD Cert.ResLnMix.τ).loc Cert.ResLnMix.main_arg1) = m ((c.tc : Thread Cert.ResLnMix.nD Cert.ResLnMix.τ).loc Cert.ResLnMix.main_arg1)
      ∧ r.2.mem ((c.tc : Thread Cert.ResLnMix.nD Cert.ResLnMix.τ).loc Cert.ResLnMix.main_arg2) = m ((c.tc : Thread Cert.ResLnMix.nD Cert.ResLnMix.τ).loc Cert.ResLnMix.main_arg2)
      ∧ r.2.mem ((c.tc : Thread Cert.ResLnMix.nD Cert.ResLnMix.τ).loc Cert.ResLnMix.main_arg3) = m ((c.tc : Thread Cert.ResLnMix.nD Cert.ResLnMix.τ).loc Cert.ResLnMix.main_arg3))
      ∧ r.2.sem = fun _ => 0)

def quiescent_ResLnMixIdeal [hResLnMixIdeal : Cert.ResLnMixIdeal.Facts] : Prop :=
  ∀ (m : (ℓ : Loc Cert.ResLnMixIdeal.nD Cert.ResLnMixIdeal.τ Cert.ResLnMixIdeal.sig) → Buf (Elt Ideal) ℓ) (g : Dev Cert.ResLnMixIdeal.nD → PrngReg), Pre_ResLnMixIdeal m →
    θ_run (Cert.ResLnMixIdeal.defs (F := Ideal)) (onTc (τ := Cert.ResLnMixIdeal.τ) (Cert.ResLnMixIdeal.main (F := Ideal))) ⟨m, fun _ => 0, g⟩ (fun r => (∀ c : Dev Cert.ResLnMixIdeal.nD,
      r.2.mem ((c.tc : Thread Cert.ResLnMixIdeal.nD Cert.ResLnMixIdeal.τ).loc Cert.ResLnMixIdeal.main_arg0) = m ((c.tc : Thread Cert.ResLnMixIdeal.nD Cert.ResLnMixIdeal.τ).loc Cert.ResLnMixIdeal.main_arg0)
      ∧ r.2.mem ((c.tc : Thread Cert.ResLnMixIdeal.nD Cert.ResLnMixIdeal.τ).loc Cert.ResLnMixIdeal.main_arg1) = m ((c.tc : Thread Cert.ResLnMixIdeal.nD Cert.ResLnMixIdeal.τ).loc Cert.ResLnMixIdeal.main_arg1)
      ∧ r.2.mem ((c.tc : Thread Cert.ResLnMixIdeal.nD Cert.ResLnMixIdeal.τ).loc Cert.ResLnMixIdeal.main_arg2) = m ((c.tc : Thread Cert.ResLnMixIdeal.nD Cert.ResLnMixIdeal.τ).loc Cert.ResLnMixIdeal.main_arg2)
      ∧ r.2.mem ((c.tc : Thread Cert.ResLnMixIdeal.nD Cert.ResLnMixIdeal.τ).loc Cert.ResLnMixIdeal.main_arg3) = m ((c.tc : Thread Cert.ResLnMixIdeal.nD Cert.ResLnMixIdeal.τ).loc Cert.ResLnMixIdeal.main_arg3))
      ∧ r.2.sem = fun _ => 0)

def quiescent_ResLnMixRefIdeal [hResLnMixRefIdeal : Cert.ResLnMixRefIdeal.Facts] : Prop :=
  ∀ (m : (ℓ : Loc Cert.ResLnMixRefIdeal.nD Cert.ResLnMixRefIdeal.τ Cert.ResLnMixRefIdeal.sig) → Buf (Elt Ideal) ℓ) (g : Dev Cert.ResLnMixRefIdeal.nD → PrngReg), Pre_ResLnMixRefIdeal m →
    θ_run (Cert.ResLnMixRefIdeal.defs (F := Ideal)) (onTc (τ := Cert.ResLnMixRefIdeal.τ) (Cert.ResLnMixRefIdeal.main (F := Ideal))) ⟨m, fun _ => 0, g⟩ (fun r => (∀ c : Dev Cert.ResLnMixRefIdeal.nD,
      r.2.mem ((c.tc : Thread Cert.ResLnMixRefIdeal.nD Cert.ResLnMixRefIdeal.τ).loc Cert.ResLnMixRefIdeal.main_arg0) = m ((c.tc : Thread Cert.ResLnMixRefIdeal.nD Cert.ResLnMixRefIdeal.τ).loc Cert.ResLnMixRefIdeal.main_arg0)
      ∧ r.2.mem ((c.tc : Thread Cert.ResLnMixRefIdeal.nD Cert.ResLnMixRefIdeal.τ).loc Cert.ResLnMixRefIdeal.main_arg1) = m ((c.tc : Thread Cert.ResLnMixRefIdeal.nD Cert.ResLnMixRefIdeal.τ).loc Cert.ResLnMixRefIdeal.main_arg1)
      ∧ r.2.mem ((c.tc : Thread Cert.ResLnMixRefIdeal.nD Cert.ResLnMixRefIdeal.τ).loc Cert.ResLnMixRefIdeal.main_arg2) = m ((c.tc : Thread Cert.ResLnMixRefIdeal.nD Cert.ResLnMixRefIdeal.τ).loc Cert.ResLnMixRefIdeal.main_arg2)
      ∧ r.2.mem ((c.tc : Thread Cert.ResLnMixRefIdeal.nD Cert.ResLnMixRefIdeal.τ).loc Cert.ResLnMixRefIdeal.main_arg3) = m ((c.tc : Thread Cert.ResLnMixRefIdeal.nD Cert.ResLnMixRefIdeal.τ).loc Cert.ResLnMixRefIdeal.main_arg3))
      ∧ r.2.sem = fun _ => 0)

def quiescent_ResLnFfn [hResLnFfn : Cert.ResLnFfn.Facts] : Prop :=
  ∀ (m : (ℓ : Loc Cert.ResLnFfn.nD Cert.ResLnFfn.τ Cert.ResLnFfn.sig) → Buf (Elt Bits) ℓ) (g : Dev Cert.ResLnFfn.nD → PrngReg), Pre_ResLnFfn m →
    θ_run (Cert.ResLnFfn.defs (F := Bits)) (onTc (τ := Cert.ResLnFfn.τ) (Cert.ResLnFfn.main (F := Bits))) ⟨m, fun _ => 0, g⟩ (fun r => (∀ c : Dev Cert.ResLnFfn.nD,
      r.2.mem ((c.tc : Thread Cert.ResLnFfn.nD Cert.ResLnFfn.τ).loc Cert.ResLnFfn.main_arg0) = m ((c.tc : Thread Cert.ResLnFfn.nD Cert.ResLnFfn.τ).loc Cert.ResLnFfn.main_arg0)
      ∧ r.2.mem ((c.tc : Thread Cert.ResLnFfn.nD Cert.ResLnFfn.τ).loc Cert.ResLnFfn.main_arg1) = m ((c.tc : Thread Cert.ResLnFfn.nD Cert.ResLnFfn.τ).loc Cert.ResLnFfn.main_arg1)
      ∧ r.2.mem ((c.tc : Thread Cert.ResLnFfn.nD Cert.ResLnFfn.τ).loc Cert.ResLnFfn.main_arg2) = m ((c.tc : Thread Cert.ResLnFfn.nD Cert.ResLnFfn.τ).loc Cert.ResLnFfn.main_arg2)
      ∧ r.2.mem ((c.tc : Thread Cert.ResLnFfn.nD Cert.ResLnFfn.τ).loc Cert.ResLnFfn.main_arg3) = m ((c.tc : Thread Cert.ResLnFfn.nD Cert.ResLnFfn.τ).loc Cert.ResLnFfn.main_arg3)
      ∧ r.2.mem ((c.tc : Thread Cert.ResLnFfn.nD Cert.ResLnFfn.τ).loc Cert.ResLnFfn.main_arg4) = m ((c.tc : Thread Cert.ResLnFfn.nD Cert.ResLnFfn.τ).loc Cert.ResLnFfn.main_arg4))
      ∧ r.2.sem = fun _ => 0)

def quiescent_ResLnFfnIdeal [hResLnFfnIdeal : Cert.ResLnFfnIdeal.Facts] : Prop :=
  ∀ (m : (ℓ : Loc Cert.ResLnFfnIdeal.nD Cert.ResLnFfnIdeal.τ Cert.ResLnFfnIdeal.sig) → Buf (Elt Ideal) ℓ) (g : Dev Cert.ResLnFfnIdeal.nD → PrngReg), Pre_ResLnFfnIdeal m →
    θ_run (Cert.ResLnFfnIdeal.defs (F := Ideal)) (onTc (τ := Cert.ResLnFfnIdeal.τ) (Cert.ResLnFfnIdeal.main (F := Ideal))) ⟨m, fun _ => 0, g⟩ (fun r => (∀ c : Dev Cert.ResLnFfnIdeal.nD,
      r.2.mem ((c.tc : Thread Cert.ResLnFfnIdeal.nD Cert.ResLnFfnIdeal.τ).loc Cert.ResLnFfnIdeal.main_arg0) = m ((c.tc : Thread Cert.ResLnFfnIdeal.nD Cert.ResLnFfnIdeal.τ).loc Cert.ResLnFfnIdeal.main_arg0)
      ∧ r.2.mem ((c.tc : Thread Cert.ResLnFfnIdeal.nD Cert.ResLnFfnIdeal.τ).loc Cert.ResLnFfnIdeal.main_arg1) = m ((c.tc : Thread Cert.ResLnFfnIdeal.nD Cert.ResLnFfnIdeal.τ).loc Cert.ResLnFfnIdeal.main_arg1)
      ∧ r.2.mem ((c.tc : Thread Cert.ResLnFfnIdeal.nD Cert.ResLnFfnIdeal.τ).loc Cert.ResLnFfnIdeal.main_arg2) = m ((c.tc : Thread Cert.ResLnFfnIdeal.nD Cert.ResLnFfnIdeal.τ).loc Cert.ResLnFfnIdeal.main_arg2)
      ∧ r.2.mem ((c.tc : Thread Cert.ResLnFfnIdeal.nD Cert.ResLnFfnIdeal.τ).loc Cert.ResLnFfnIdeal.main_arg3) = m ((c.tc : Thread Cert.ResLnFfnIdeal.nD Cert.ResLnFfnIdeal.τ).loc Cert.ResLnFfnIdeal.main_arg3)
      ∧ r.2.mem ((c.tc : Thread Cert.ResLnFfnIdeal.nD Cert.ResLnFfnIdeal.τ).loc Cert.ResLnFfnIdeal.main_arg4) = m ((c.tc : Thread Cert.ResLnFfnIdeal.nD Cert.ResLnFfnIdeal.τ).loc Cert.ResLnFfnIdeal.main_arg4))
      ∧ r.2.sem = fun _ => 0)

def quiescent_ResLnFfnRefIdeal [hResLnFfnRefIdeal : Cert.ResLnFfnRefIdeal.Facts] : Prop :=
  ∀ (m : (ℓ : Loc Cert.ResLnFfnRefIdeal.nD Cert.ResLnFfnRefIdeal.τ Cert.ResLnFfnRefIdeal.sig) → Buf (Elt Ideal) ℓ) (g : Dev Cert.ResLnFfnRefIdeal.nD → PrngReg), Pre_ResLnFfnRefIdeal m →
    θ_run (Cert.ResLnFfnRefIdeal.defs (F := Ideal)) (onTc (τ := Cert.ResLnFfnRefIdeal.τ) (Cert.ResLnFfnRefIdeal.main (F := Ideal))) ⟨m, fun _ => 0, g⟩ (fun r => (∀ c : Dev Cert.ResLnFfnRefIdeal.nD,
      r.2.mem ((c.tc : Thread Cert.ResLnFfnRefIdeal.nD Cert.ResLnFfnRefIdeal.τ).loc Cert.ResLnFfnRefIdeal.main_arg0) = m ((c.tc : Thread Cert.ResLnFfnRefIdeal.nD Cert.ResLnFfnRefIdeal.τ).loc Cert.ResLnFfnRefIdeal.main_arg0)
      ∧ r.2.mem ((c.tc : Thread Cert.ResLnFfnRefIdeal.nD Cert.ResLnFfnRefIdeal.τ).loc Cert.ResLnFfnRefIdeal.main_arg1) = m ((c.tc : Thread Cert.ResLnFfnRefIdeal.nD Cert.ResLnFfnRefIdeal.τ).loc Cert.ResLnFfnRefIdeal.main_arg1)
      ∧ r.2.mem ((c.tc : Thread Cert.ResLnFfnRefIdeal.nD Cert.ResLnFfnRefIdeal.τ).loc Cert.ResLnFfnRefIdeal.main_arg2) = m ((c.tc : Thread Cert.ResLnFfnRefIdeal.nD Cert.ResLnFfnRefIdeal.τ).loc Cert.ResLnFfnRefIdeal.main_arg2)
      ∧ r.2.mem ((c.tc : Thread Cert.ResLnFfnRefIdeal.nD Cert.ResLnFfnRefIdeal.τ).loc Cert.ResLnFfnRefIdeal.main_arg3) = m ((c.tc : Thread Cert.ResLnFfnRefIdeal.nD Cert.ResLnFfnRefIdeal.τ).loc Cert.ResLnFfnRefIdeal.main_arg3)
      ∧ r.2.mem ((c.tc : Thread Cert.ResLnFfnRefIdeal.nD Cert.ResLnFfnRefIdeal.τ).loc Cert.ResLnFfnRefIdeal.main_arg4) = m ((c.tc : Thread Cert.ResLnFfnRefIdeal.nD Cert.ResLnFfnRefIdeal.τ).loc Cert.ResLnFfnRefIdeal.main_arg4))
      ∧ r.2.sem = fun _ => 0)

def preserves_AbPrompt_AbPromptIdeal : Prop :=
  True

def algebraic_AbPromptIdeal_AbPromptRefIdeal_on_sb_heads_pre_finite [hAbPromptIdeal : Cert.AbPromptIdeal.Facts] [hAbPromptRefIdeal : Cert.AbPromptRefIdeal.Facts] [hPre_finite : Cert.Pre_finite.Facts] [hOn_sb_heads : Cert.On_sb_heads.Facts] : Prop :=
  ∀ (m : (ℓ : Loc Cert.AbPromptIdeal.nD Cert.AbPromptIdeal.τ Cert.AbPromptIdeal.sig) → Buf (Elt Ideal) ℓ) (g : Dev Cert.AbPromptIdeal.nD → PrngReg)
    (m' : (ℓ : Loc Cert.AbPromptRefIdeal.nD Cert.AbPromptRefIdeal.τ Cert.AbPromptRefIdeal.sig) → Buf (Elt Ideal) ℓ) (g' : Dev Cert.AbPromptRefIdeal.nD → PrngReg), Pre_AbPromptIdeal_finite m →
    (∀ c : Dev Cert.AbPromptIdeal.nD,
      m' ((c.tc : Thread Cert.AbPromptRefIdeal.nD Cert.AbPromptRefIdeal.τ).loc Cert.AbPromptRefIdeal.main_arg0) = m ((c.tc : Thread Cert.AbPromptIdeal.nD Cert.AbPromptIdeal.τ).loc Cert.AbPromptIdeal.main_arg0)
      ∧ m' ((c.tc : Thread Cert.AbPromptRefIdeal.nD Cert.AbPromptRefIdeal.τ).loc Cert.AbPromptRefIdeal.main_arg1) = m ((c.tc : Thread Cert.AbPromptIdeal.nD Cert.AbPromptIdeal.τ).loc Cert.AbPromptIdeal.main_arg1)
      ∧ m' ((c.tc : Thread Cert.AbPromptRefIdeal.nD Cert.AbPromptRefIdeal.τ).loc Cert.AbPromptRefIdeal.main_arg2) = m ((c.tc : Thread Cert.AbPromptIdeal.nD Cert.AbPromptIdeal.τ).loc Cert.AbPromptIdeal.main_arg2)) →
    ∃ (v0 : (c : Dev Cert.AbPromptIdeal.nD) → Buf (Elt Ideal) ((c.tc : Thread Cert.AbPromptIdeal.nD Cert.AbPromptIdeal.τ).loc Cert.AbPromptIdeal.main_v41)),
      θ_run (Cert.AbPromptIdeal.defs (F := Ideal)) (onTc (τ := Cert.AbPromptIdeal.τ) (Cert.AbPromptIdeal.main (F := Ideal))) ⟨m, fun _ => 0, g⟩ (fun r => ∀ c : Dev Cert.AbPromptIdeal.nD,
          (∀ i : (⟨2, ![16384, 2048]⟩ : Shape).Idx, (Cert.On_sb_heads.fn (F := Ideal) (m ((c.tc : Thread Cert.AbPromptIdeal.nD Cert.AbPromptIdeal.τ).loc Cert.AbPromptIdeal.main_arg0)) (m ((c.tc : Thread Cert.AbPromptIdeal.nD Cert.AbPromptIdeal.τ).loc Cert.AbPromptIdeal.main_arg1)) (m ((c.tc : Thread Cert.AbPromptIdeal.nD Cert.AbPromptIdeal.τ).loc Cert.AbPromptIdeal.main_arg2))) i = 1#1 → r.2.mem ((c.tc : Thread Cert.AbPromptIdeal.nD Cert.AbPromptIdeal.τ).loc Cert.AbPromptIdeal.main_v41) i = v0 c i)
          ∧ r.2.mem ((c.tc : Thread Cert.AbPromptIdeal.nD Cert.AbPromptIdeal.τ).loc Cert.AbPromptIdeal.main_arg0) = m ((c.tc : Thread Cert.AbPromptIdeal.nD Cert.AbPromptIdeal.τ).loc Cert.AbPromptIdeal.main_arg0)
          ∧ r.2.mem ((c.tc : Thread Cert.AbPromptIdeal.nD Cert.AbPromptIdeal.τ).loc Cert.AbPromptIdeal.main_arg1) = m ((c.tc : Thread Cert.AbPromptIdeal.nD Cert.AbPromptIdeal.τ).loc Cert.AbPromptIdeal.main_arg1)
          ∧ r.2.mem ((c.tc : Thread Cert.AbPromptIdeal.nD Cert.AbPromptIdeal.τ).loc Cert.AbPromptIdeal.main_arg2) = m ((c.tc : Thread Cert.AbPromptIdeal.nD Cert.AbPromptIdeal.τ).loc Cert.AbPromptIdeal.main_arg2))
      ∧ θ_run (Cert.AbPromptRefIdeal.defs (F := Ideal)) (onTc (τ := Cert.AbPromptRefIdeal.τ) (Cert.AbPromptRefIdeal.main (F := Ideal))) ⟨m', fun _ => 0, g'⟩ (fun r => ∀ c : Dev Cert.AbPromptRefIdeal.nD,
          (∀ i : (⟨2, ![16384, 2048]⟩ : Shape).Idx, (Cert.On_sb_heads.fn (F := Ideal) (m ((c.tc : Thread Cert.AbPromptIdeal.nD Cert.AbPromptIdeal.τ).loc Cert.AbPromptIdeal.main_arg0)) (m ((c.tc : Thread Cert.AbPromptIdeal.nD Cert.AbPromptIdeal.τ).loc Cert.AbPromptIdeal.main_arg1)) (m ((c.tc : Thread Cert.AbPromptIdeal.nD Cert.AbPromptIdeal.τ).loc Cert.AbPromptIdeal.main_arg2))) i = 1#1 → r.2.mem ((c.tc : Thread Cert.AbPromptRefIdeal.nD Cert.AbPromptRefIdeal.τ).loc Cert.AbPromptRefIdeal.main_v31) i = v0 c i)
          ∧ r.2.mem ((c.tc : Thread Cert.AbPromptRefIdeal.nD Cert.AbPromptRefIdeal.τ).loc Cert.AbPromptRefIdeal.main_arg0) = m' ((c.tc : Thread Cert.AbPromptRefIdeal.nD Cert.AbPromptRefIdeal.τ).loc Cert.AbPromptRefIdeal.main_arg0)
          ∧ r.2.mem ((c.tc : Thread Cert.AbPromptRefIdeal.nD Cert.AbPromptRefIdeal.τ).loc Cert.AbPromptRefIdeal.main_arg1) = m' ((c.tc : Thread Cert.AbPromptRefIdeal.nD Cert.AbPromptRefIdeal.τ).loc Cert.AbPromptRefIdeal.main_arg1)
          ∧ r.2.mem ((c.tc : Thread Cert.AbPromptRefIdeal.nD Cert.AbPromptRefIdeal.τ).loc Cert.AbPromptRefIdeal.main_arg2) = m' ((c.tc : Thread Cert.AbPromptRefIdeal.nD Cert.AbPromptRefIdeal.τ).loc Cert.AbPromptRefIdeal.main_arg2))

def preserves_ExpertFfn_ExpertFfnIdeal : Prop :=
  True

def algebraic_ExpertFfnIdeal_ExpertFfnRefIdeal [hExpertFfnIdeal : Cert.ExpertFfnIdeal.Facts] [hExpertFfnRefIdeal : Cert.ExpertFfnRefIdeal.Facts] [hPre_tables_in_range : Cert.Pre_tables_in_range.Facts] : Prop :=
  ∀ (m : (ℓ : Loc Cert.ExpertFfnIdeal.nD Cert.ExpertFfnIdeal.τ Cert.ExpertFfnIdeal.sig) → Buf (Elt Ideal) ℓ) (g : Dev Cert.ExpertFfnIdeal.nD → PrngReg)
    (m' : (ℓ : Loc Cert.ExpertFfnRefIdeal.nD Cert.ExpertFfnRefIdeal.τ Cert.ExpertFfnRefIdeal.sig) → Buf (Elt Ideal) ℓ) (g' : Dev Cert.ExpertFfnRefIdeal.nD → PrngReg), Pre_ExpertFfnIdeal m →
    (∀ c : Dev Cert.ExpertFfnIdeal.nD,
      m' ((c.tc : Thread Cert.ExpertFfnRefIdeal.nD Cert.ExpertFfnRefIdeal.τ).loc Cert.ExpertFfnRefIdeal.main_arg0) = m ((c.tc : Thread Cert.ExpertFfnIdeal.nD Cert.ExpertFfnIdeal.τ).loc Cert.ExpertFfnIdeal.main_arg0)
      ∧ m' ((c.tc : Thread Cert.ExpertFfnRefIdeal.nD Cert.ExpertFfnRefIdeal.τ).loc Cert.ExpertFfnRefIdeal.main_arg1) = m ((c.tc : Thread Cert.ExpertFfnIdeal.nD Cert.ExpertFfnIdeal.τ).loc Cert.ExpertFfnIdeal.main_arg1)
      ∧ m' ((c.tc : Thread Cert.ExpertFfnRefIdeal.nD Cert.ExpertFfnRefIdeal.τ).loc Cert.ExpertFfnRefIdeal.main_arg2) = m ((c.tc : Thread Cert.ExpertFfnIdeal.nD Cert.ExpertFfnIdeal.τ).loc Cert.ExpertFfnIdeal.main_arg2)
      ∧ m' ((c.tc : Thread Cert.ExpertFfnRefIdeal.nD Cert.ExpertFfnRefIdeal.τ).loc Cert.ExpertFfnRefIdeal.main_arg3) = m ((c.tc : Thread Cert.ExpertFfnIdeal.nD Cert.ExpertFfnIdeal.τ).loc Cert.ExpertFfnIdeal.main_arg3)
      ∧ m' ((c.tc : Thread Cert.ExpertFfnRefIdeal.nD Cert.ExpertFfnRefIdeal.τ).loc Cert.ExpertFfnRefIdeal.main_arg4) = m ((c.tc : Thread Cert.ExpertFfnIdeal.nD Cert.ExpertFfnIdeal.τ).loc Cert.ExpertFfnIdeal.main_arg4)
      ∧ m' ((c.tc : Thread Cert.ExpertFfnRefIdeal.nD Cert.ExpertFfnRefIdeal.τ).loc Cert.ExpertFfnRefIdeal.main_arg5) = m ((c.tc : Thread Cert.ExpertFfnIdeal.nD Cert.ExpertFfnIdeal.τ).loc Cert.ExpertFfnIdeal.main_arg5)
      ∧ m' ((c.tc : Thread Cert.ExpertFfnRefIdeal.nD Cert.ExpertFfnRefIdeal.τ).loc Cert.ExpertFfnRefIdeal.main_arg6) = m ((c.tc : Thread Cert.ExpertFfnIdeal.nD Cert.ExpertFfnIdeal.τ).loc Cert.ExpertFfnIdeal.main_arg6)) →
    ∃ (v0 : (c : Dev Cert.ExpertFfnIdeal.nD) → Buf (Elt Ideal) ((c.tc : Thread Cert.ExpertFfnIdeal.nD Cert.ExpertFfnIdeal.τ).loc Cert.ExpertFfnIdeal.main_v0)),
      θ_run (Cert.ExpertFfnIdeal.defs (F := Ideal)) (onTc (τ := Cert.ExpertFfnIdeal.τ) (Cert.ExpertFfnIdeal.main (F := Ideal))) ⟨m, fun _ => 0, g⟩ (fun r => ∀ c : Dev Cert.ExpertFfnIdeal.nD,
          r.2.mem ((c.tc : Thread Cert.ExpertFfnIdeal.nD Cert.ExpertFfnIdeal.τ).loc Cert.ExpertFfnIdeal.main_v0) = v0 c
          ∧ r.2.mem ((c.tc : Thread Cert.ExpertFfnIdeal.nD Cert.ExpertFfnIdeal.τ).loc Cert.ExpertFfnIdeal.main_arg0) = m ((c.tc : Thread Cert.ExpertFfnIdeal.nD Cert.ExpertFfnIdeal.τ).loc Cert.ExpertFfnIdeal.main_arg0)
          ∧ r.2.mem ((c.tc : Thread Cert.ExpertFfnIdeal.nD Cert.ExpertFfnIdeal.τ).loc Cert.ExpertFfnIdeal.main_arg1) = m ((c.tc : Thread Cert.ExpertFfnIdeal.nD Cert.ExpertFfnIdeal.τ).loc Cert.ExpertFfnIdeal.main_arg1)
          ∧ r.2.mem ((c.tc : Thread Cert.ExpertFfnIdeal.nD Cert.ExpertFfnIdeal.τ).loc Cert.ExpertFfnIdeal.main_arg2) = m ((c.tc : Thread Cert.ExpertFfnIdeal.nD Cert.ExpertFfnIdeal.τ).loc Cert.ExpertFfnIdeal.main_arg2)
          ∧ r.2.mem ((c.tc : Thread Cert.ExpertFfnIdeal.nD Cert.ExpertFfnIdeal.τ).loc Cert.ExpertFfnIdeal.main_arg3) = m ((c.tc : Thread Cert.ExpertFfnIdeal.nD Cert.ExpertFfnIdeal.τ).loc Cert.ExpertFfnIdeal.main_arg3)
          ∧ r.2.mem ((c.tc : Thread Cert.ExpertFfnIdeal.nD Cert.ExpertFfnIdeal.τ).loc Cert.ExpertFfnIdeal.main_arg4) = m ((c.tc : Thread Cert.ExpertFfnIdeal.nD Cert.ExpertFfnIdeal.τ).loc Cert.ExpertFfnIdeal.main_arg4)
          ∧ r.2.mem ((c.tc : Thread Cert.ExpertFfnIdeal.nD Cert.ExpertFfnIdeal.τ).loc Cert.ExpertFfnIdeal.main_arg5) = m ((c.tc : Thread Cert.ExpertFfnIdeal.nD Cert.ExpertFfnIdeal.τ).loc Cert.ExpertFfnIdeal.main_arg5)
          ∧ r.2.mem ((c.tc : Thread Cert.ExpertFfnIdeal.nD Cert.ExpertFfnIdeal.τ).loc Cert.ExpertFfnIdeal.main_arg6) = m ((c.tc : Thread Cert.ExpertFfnIdeal.nD Cert.ExpertFfnIdeal.τ).loc Cert.ExpertFfnIdeal.main_arg6))
      ∧ θ_run (Cert.ExpertFfnRefIdeal.defs (F := Ideal)) (onTc (τ := Cert.ExpertFfnRefIdeal.τ) (Cert.ExpertFfnRefIdeal.main (F := Ideal))) ⟨m', fun _ => 0, g'⟩ (fun r => ∀ c : Dev Cert.ExpertFfnRefIdeal.nD,
          r.2.mem ((c.tc : Thread Cert.ExpertFfnRefIdeal.nD Cert.ExpertFfnRefIdeal.τ).loc Cert.ExpertFfnRefIdeal.main_v37) = v0 c
          ∧ r.2.mem ((c.tc : Thread Cert.ExpertFfnRefIdeal.nD Cert.ExpertFfnRefIdeal.τ).loc Cert.ExpertFfnRefIdeal.main_arg0) = m' ((c.tc : Thread Cert.ExpertFfnRefIdeal.nD Cert.ExpertFfnRefIdeal.τ).loc Cert.ExpertFfnRefIdeal.main_arg0)
          ∧ r.2.mem ((c.tc : Thread Cert.ExpertFfnRefIdeal.nD Cert.ExpertFfnRefIdeal.τ).loc Cert.ExpertFfnRefIdeal.main_arg1) = m' ((c.tc : Thread Cert.ExpertFfnRefIdeal.nD Cert.ExpertFfnRefIdeal.τ).loc Cert.ExpertFfnRefIdeal.main_arg1)
          ∧ r.2.mem ((c.tc : Thread Cert.ExpertFfnRefIdeal.nD Cert.ExpertFfnRefIdeal.τ).loc Cert.ExpertFfnRefIdeal.main_arg2) = m' ((c.tc : Thread Cert.ExpertFfnRefIdeal.nD Cert.ExpertFfnRefIdeal.τ).loc Cert.ExpertFfnRefIdeal.main_arg2)
          ∧ r.2.mem ((c.tc : Thread Cert.ExpertFfnRefIdeal.nD Cert.ExpertFfnRefIdeal.τ).loc Cert.ExpertFfnRefIdeal.main_arg3) = m' ((c.tc : Thread Cert.ExpertFfnRefIdeal.nD Cert.ExpertFfnRefIdeal.τ).loc Cert.ExpertFfnRefIdeal.main_arg3)
          ∧ r.2.mem ((c.tc : Thread Cert.ExpertFfnRefIdeal.nD Cert.ExpertFfnRefIdeal.τ).loc Cert.ExpertFfnRefIdeal.main_arg4) = m' ((c.tc : Thread Cert.ExpertFfnRefIdeal.nD Cert.ExpertFfnRefIdeal.τ).loc Cert.ExpertFfnRefIdeal.main_arg4)
          ∧ r.2.mem ((c.tc : Thread Cert.ExpertFfnRefIdeal.nD Cert.ExpertFfnRefIdeal.τ).loc Cert.ExpertFfnRefIdeal.main_arg5) = m' ((c.tc : Thread Cert.ExpertFfnRefIdeal.nD Cert.ExpertFfnRefIdeal.τ).loc Cert.ExpertFfnRefIdeal.main_arg5)
          ∧ r.2.mem ((c.tc : Thread Cert.ExpertFfnRefIdeal.nD Cert.ExpertFfnRefIdeal.τ).loc Cert.ExpertFfnRefIdeal.main_arg6) = m' ((c.tc : Thread Cert.ExpertFfnRefIdeal.nD Cert.ExpertFfnRefIdeal.τ).loc Cert.ExpertFfnRefIdeal.main_arg6))

def preserves_KvPrompt_KvPromptIdeal : Prop :=
  True

def algebraic_KvPromptIdeal_KvPromptRefIdeal [hKvPromptIdeal : Cert.KvPromptIdeal.Facts] [hKvPromptRefIdeal : Cert.KvPromptRefIdeal.Facts] : Prop :=
  ∀ (m : (ℓ : Loc Cert.KvPromptIdeal.nD Cert.KvPromptIdeal.τ Cert.KvPromptIdeal.sig) → Buf (Elt Ideal) ℓ) (g : Dev Cert.KvPromptIdeal.nD → PrngReg)
    (m' : (ℓ : Loc Cert.KvPromptRefIdeal.nD Cert.KvPromptRefIdeal.τ Cert.KvPromptRefIdeal.sig) → Buf (Elt Ideal) ℓ) (g' : Dev Cert.KvPromptRefIdeal.nD → PrngReg), Pre_KvPromptIdeal m →
    (∀ c : Dev Cert.KvPromptIdeal.nD,
      m' ((c.tc : Thread Cert.KvPromptRefIdeal.nD Cert.KvPromptRefIdeal.τ).loc Cert.KvPromptRefIdeal.main_arg0) = m ((c.tc : Thread Cert.KvPromptIdeal.nD Cert.KvPromptIdeal.τ).loc Cert.KvPromptIdeal.main_arg0)
      ∧ m' ((c.tc : Thread Cert.KvPromptRefIdeal.nD Cert.KvPromptRefIdeal.τ).loc Cert.KvPromptRefIdeal.main_arg1) = m ((c.tc : Thread Cert.KvPromptIdeal.nD Cert.KvPromptIdeal.τ).loc Cert.KvPromptIdeal.main_arg1)) →
    ∃ (v0 : (c : Dev Cert.KvPromptIdeal.nD) → Buf (Elt Ideal) ((c.tc : Thread Cert.KvPromptIdeal.nD Cert.KvPromptIdeal.τ).loc Cert.KvPromptIdeal.main_v2)),
      θ_run (Cert.KvPromptIdeal.defs (F := Ideal)) (onTc (τ := Cert.KvPromptIdeal.τ) (Cert.KvPromptIdeal.main (F := Ideal))) ⟨m, fun _ => 0, g⟩ (fun r => ∀ c : Dev Cert.KvPromptIdeal.nD,
          r.2.mem ((c.tc : Thread Cert.KvPromptIdeal.nD Cert.KvPromptIdeal.τ).loc Cert.KvPromptIdeal.main_v2) = v0 c
          ∧ r.2.mem ((c.tc : Thread Cert.KvPromptIdeal.nD Cert.KvPromptIdeal.τ).loc Cert.KvPromptIdeal.main_arg0) = m ((c.tc : Thread Cert.KvPromptIdeal.nD Cert.KvPromptIdeal.τ).loc Cert.KvPromptIdeal.main_arg0)
          ∧ r.2.mem ((c.tc : Thread Cert.KvPromptIdeal.nD Cert.KvPromptIdeal.τ).loc Cert.KvPromptIdeal.main_arg1) = m ((c.tc : Thread Cert.KvPromptIdeal.nD Cert.KvPromptIdeal.τ).loc Cert.KvPromptIdeal.main_arg1))
      ∧ θ_run (Cert.KvPromptRefIdeal.defs (F := Ideal)) (onTc (τ := Cert.KvPromptRefIdeal.τ) (Cert.KvPromptRefIdeal.main (F := Ideal))) ⟨m', fun _ => 0, g'⟩ (fun r => ∀ c : Dev Cert.KvPromptRefIdeal.nD,
          r.2.mem ((c.tc : Thread Cert.KvPromptRefIdeal.nD Cert.KvPromptRefIdeal.τ).loc Cert.KvPromptRefIdeal.main_v4) = v0 c
          ∧ r.2.mem ((c.tc : Thread Cert.KvPromptRefIdeal.nD Cert.KvPromptRefIdeal.τ).loc Cert.KvPromptRefIdeal.main_arg0) = m' ((c.tc : Thread Cert.KvPromptRefIdeal.nD Cert.KvPromptRefIdeal.τ).loc Cert.KvPromptRefIdeal.main_arg0)
          ∧ r.2.mem ((c.tc : Thread Cert.KvPromptRefIdeal.nD Cert.KvPromptRefIdeal.τ).loc Cert.KvPromptRefIdeal.main_arg1) = m' ((c.tc : Thread Cert.KvPromptRefIdeal.nD Cert.KvPromptRefIdeal.τ).loc Cert.KvPromptRefIdeal.main_arg1))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)) →
    ∃ (v0 : (c : Dev Cert.KvSampleIdeal.nD) → Buf (Elt Ideal) ((c.tc : Thread Cert.KvSampleIdeal.nD Cert.KvSampleIdeal.τ).loc Cert.KvSampleIdeal.main_v2)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v2) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v4) = v0 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1))

def preserves_QPrompt_QPromptIdeal : Prop :=
  True

def algebraic_QPromptIdeal_QPromptRefIdeal [hQPromptIdeal : Cert.QPromptIdeal.Facts] [hQPromptRefIdeal : Cert.QPromptRefIdeal.Facts] : Prop :=
  ∀ (m : (ℓ : Loc Cert.QPromptIdeal.nD Cert.QPromptIdeal.τ Cert.QPromptIdeal.sig) → Buf (Elt Ideal) ℓ) (g : Dev Cert.QPromptIdeal.nD → PrngReg)
    (m' : (ℓ : Loc Cert.QPromptRefIdeal.nD Cert.QPromptRefIdeal.τ Cert.QPromptRefIdeal.sig) → Buf (Elt Ideal) ℓ) (g' : Dev Cert.QPromptRefIdeal.nD → PrngReg), Pre_QPromptIdeal m →
    (∀ c : Dev Cert.QPromptIdeal.nD,
      m' ((c.tc : Thread Cert.QPromptRefIdeal.nD Cert.QPromptRefIdeal.τ).loc Cert.QPromptRefIdeal.main_arg0) = m ((c.tc : Thread Cert.QPromptIdeal.nD Cert.QPromptIdeal.τ).loc Cert.QPromptIdeal.main_arg0)
      ∧ m' ((c.tc : Thread Cert.QPromptRefIdeal.nD Cert.QPromptRefIdeal.τ).loc Cert.QPromptRefIdeal.main_arg1) = m ((c.tc : Thread Cert.QPromptIdeal.nD Cert.QPromptIdeal.τ).loc Cert.QPromptIdeal.main_arg1)) →
    ∃ (v0 : (c : Dev Cert.QPromptIdeal.nD) → Buf (Elt Ideal) ((c.tc : Thread Cert.QPromptIdeal.nD Cert.QPromptIdeal.τ).loc Cert.QPromptIdeal.main_v1)),
      θ_run (Cert.QPromptIdeal.defs (F := Ideal)) (onTc (τ := Cert.QPromptIdeal.τ) (Cert.QPromptIdeal.main (F := Ideal))) ⟨m, fun _ => 0, g⟩ (fun r => ∀ c : Dev Cert.QPromptIdeal.nD,
          r.2.mem ((c.tc : Thread Cert.QPromptIdeal.nD Cert.QPromptIdeal.τ).loc Cert.QPromptIdeal.main_v1) = v0 c
          ∧ r.2.mem ((c.tc : Thread Cert.QPromptIdeal.nD Cert.QPromptIdeal.τ).loc Cert.QPromptIdeal.main_arg0) = m ((c.tc : Thread Cert.QPromptIdeal.nD Cert.QPromptIdeal.τ).loc Cert.QPromptIdeal.main_arg0)
          ∧ r.2.mem ((c.tc : Thread Cert.QPromptIdeal.nD Cert.QPromptIdeal.τ).loc Cert.QPromptIdeal.main_arg1) = m ((c.tc : Thread Cert.QPromptIdeal.nD Cert.QPromptIdeal.τ).loc Cert.QPromptIdeal.main_arg1))
      ∧ θ_run (Cert.QPromptRefIdeal.defs (F := Ideal)) (onTc (τ := Cert.QPromptRefIdeal.τ) (Cert.QPromptRefIdeal.main (F := Ideal))) ⟨m', fun _ => 0, g'⟩ (fun r => ∀ c : Dev Cert.QPromptRefIdeal.nD,
          r.2.mem ((c.tc : Thread Cert.QPromptRefIdeal.nD Cert.QPromptRefIdeal.τ).loc Cert.QPromptRefIdeal.main_v5) = v0 c
          ∧ r.2.mem ((c.tc : Thread Cert.QPromptRefIdeal.nD Cert.QPromptRefIdeal.τ).loc Cert.QPromptRefIdeal.main_arg0) = m' ((c.tc : Thread Cert.QPromptRefIdeal.nD Cert.QPromptRefIdeal.τ).loc Cert.QPromptRefIdeal.main_arg0)
          ∧ r.2.mem ((c.tc : Thread Cert.QPromptRefIdeal.nD Cert.QPromptRefIdeal.τ).loc Cert.QPromptRefIdeal.main_arg1) = m' ((c.tc : Thread Cert.QPromptRefIdeal.nD Cert.QPromptRefIdeal.τ).loc Cert.QPromptRefIdeal.main_arg1))

def preserves_OutAbPrompt_OutAbPromptIdeal : Prop :=
  True

def algebraic_OutAbPromptIdeal_OutAbPromptRefIdeal [hOutAbPromptIdeal : Cert.OutAbPromptIdeal.Facts] [hOutAbPromptRefIdeal : Cert.OutAbPromptRefIdeal.Facts] : Prop :=
  ∀ (m : (ℓ : Loc Cert.OutAbPromptIdeal.nD Cert.OutAbPromptIdeal.τ Cert.OutAbPromptIdeal.sig) → Buf (Elt Ideal) ℓ) (g : Dev Cert.OutAbPromptIdeal.nD → PrngReg)
    (m' : (ℓ : Loc Cert.OutAbPromptRefIdeal.nD Cert.OutAbPromptRefIdeal.τ Cert.OutAbPromptRefIdeal.sig) → Buf (Elt Ideal) ℓ) (g' : Dev Cert.OutAbPromptRefIdeal.nD → PrngReg), Pre_OutAbPromptIdeal m →
    (∀ c : Dev Cert.OutAbPromptIdeal.nD,
      m' ((c.tc : Thread Cert.OutAbPromptRefIdeal.nD Cert.OutAbPromptRefIdeal.τ).loc Cert.OutAbPromptRefIdeal.main_arg0) = m ((c.tc : Thread Cert.OutAbPromptIdeal.nD Cert.OutAbPromptIdeal.τ).loc Cert.OutAbPromptIdeal.main_arg0)
      ∧ m' ((c.tc : Thread Cert.OutAbPromptRefIdeal.nD Cert.OutAbPromptRefIdeal.τ).loc Cert.OutAbPromptRefIdeal.main_arg1) = m ((c.tc : Thread Cert.OutAbPromptIdeal.nD Cert.OutAbPromptIdeal.τ).loc Cert.OutAbPromptIdeal.main_arg1)) →
    ∃ (v0 : (c : Dev Cert.OutAbPromptIdeal.nD) → Buf (Elt Ideal) ((c.tc : Thread Cert.OutAbPromptIdeal.nD Cert.OutAbPromptIdeal.τ).loc Cert.OutAbPromptIdeal.main_v1)),
      θ_run (Cert.OutAbPromptIdeal.defs (F := Ideal)) (onTc (τ := Cert.OutAbPromptIdeal.τ) (Cert.OutAbPromptIdeal.main (F := Ideal))) ⟨m, fun _ => 0, g⟩ (fun r => ∀ c : Dev Cert.OutAbPromptIdeal.nD,
          r.2.mem ((c.tc : Thread Cert.OutAbPromptIdeal.nD Cert.OutAbPromptIdeal.τ).loc Cert.OutAbPromptIdeal.main_v1) = v0 c
          ∧ r.2.mem ((c.tc : Thread Cert.OutAbPromptIdeal.nD Cert.OutAbPromptIdeal.τ).loc Cert.OutAbPromptIdeal.main_arg0) = m ((c.tc : Thread Cert.OutAbPromptIdeal.nD Cert.OutAbPromptIdeal.τ).loc Cert.OutAbPromptIdeal.main_arg0)
          ∧ r.2.mem ((c.tc : Thread Cert.OutAbPromptIdeal.nD Cert.OutAbPromptIdeal.τ).loc Cert.OutAbPromptIdeal.main_arg1) = m ((c.tc : Thread Cert.OutAbPromptIdeal.nD Cert.OutAbPromptIdeal.τ).loc Cert.OutAbPromptIdeal.main_arg1))
      ∧ θ_run (Cert.OutAbPromptRefIdeal.defs (F := Ideal)) (onTc (τ := Cert.OutAbPromptRefIdeal.τ) (Cert.OutAbPromptRefIdeal.main (F := Ideal))) ⟨m', fun _ => 0, g'⟩ (fun r => ∀ c : Dev Cert.OutAbPromptRefIdeal.nD,
          r.2.mem ((c.tc : Thread Cert.OutAbPromptRefIdeal.nD Cert.OutAbPromptRefIdeal.τ).loc Cert.OutAbPromptRefIdeal.main_v1) = v0 c
          ∧ r.2.mem ((c.tc : Thread Cert.OutAbPromptRefIdeal.nD Cert.OutAbPromptRefIdeal.τ).loc Cert.OutAbPromptRefIdeal.main_arg0) = m' ((c.tc : Thread Cert.OutAbPromptRefIdeal.nD Cert.OutAbPromptRefIdeal.τ).loc Cert.OutAbPromptRefIdeal.main_arg0)
          ∧ r.2.mem ((c.tc : Thread Cert.OutAbPromptRefIdeal.nD Cert.OutAbPromptRefIdeal.τ).loc Cert.OutAbPromptRefIdeal.main_arg1) = m' ((c.tc : Thread Cert.OutAbPromptRefIdeal.nD Cert.OutAbPromptRefIdeal.τ).loc Cert.OutAbPromptRefIdeal.main_arg1))

def preserves_CqPrompt_CqPromptIdeal : Prop :=
  True

def algebraic_CqPromptIdeal_CqPromptRefIdeal [hCqPromptIdeal : Cert.CqPromptIdeal.Facts] [hCqPromptRefIdeal : Cert.CqPromptRefIdeal.Facts] : Prop :=
  ∀ (m : (ℓ : Loc Cert.CqPromptIdeal.nD Cert.CqPromptIdeal.τ Cert.CqPromptIdeal.sig) → Buf (Elt Ideal) ℓ) (g : Dev Cert.CqPromptIdeal.nD → PrngReg)
    (m' : (ℓ : Loc Cert.CqPromptRefIdeal.nD Cert.CqPromptRefIdeal.τ Cert.CqPromptRefIdeal.sig) → Buf (Elt Ideal) ℓ) (g' : Dev Cert.CqPromptRefIdeal.nD → PrngReg), Pre_CqPromptIdeal m →
    (∀ c : Dev Cert.CqPromptIdeal.nD,
      m' ((c.tc : Thread Cert.CqPromptRefIdeal.nD Cert.CqPromptRefIdeal.τ).loc Cert.CqPromptRefIdeal.main_arg0) = m ((c.tc : Thread Cert.CqPromptIdeal.nD Cert.CqPromptIdeal.τ).loc Cert.CqPromptIdeal.main_arg0)
      ∧ m' ((c.tc : Thread Cert.CqPromptRefIdeal.nD Cert.CqPromptRefIdeal.τ).loc Cert.CqPromptRefIdeal.main_arg1) = m ((c.tc : Thread Cert.CqPromptIdeal.nD Cert.CqPromptIdeal.τ).loc Cert.CqPromptIdeal.main_arg1)) →
    ∃ (v0 : (c : Dev Cert.CqPromptIdeal.nD) → Buf (Elt Ideal) ((c.tc : Thread Cert.CqPromptIdeal.nD Cert.CqPromptIdeal.τ).loc Cert.CqPromptIdeal.main_v1)),
      θ_run (Cert.CqPromptIdeal.defs (F := Ideal)) (onTc (τ := Cert.CqPromptIdeal.τ) (Cert.CqPromptIdeal.main (F := Ideal))) ⟨m, fun _ => 0, g⟩ (fun r => ∀ c : Dev Cert.CqPromptIdeal.nD,
          r.2.mem ((c.tc : Thread Cert.CqPromptIdeal.nD Cert.CqPromptIdeal.τ).loc Cert.CqPromptIdeal.main_v1) = v0 c
          ∧ r.2.mem ((c.tc : Thread Cert.CqPromptIdeal.nD Cert.CqPromptIdeal.τ).loc Cert.CqPromptIdeal.main_arg0) = m ((c.tc : Thread Cert.CqPromptIdeal.nD Cert.CqPromptIdeal.τ).loc Cert.CqPromptIdeal.main_arg0)
          ∧ r.2.mem ((c.tc : Thread Cert.CqPromptIdeal.nD Cert.CqPromptIdeal.τ).loc Cert.CqPromptIdeal.main_arg1) = m ((c.tc : Thread Cert.CqPromptIdeal.nD Cert.CqPromptIdeal.τ).loc Cert.CqPromptIdeal.main_arg1))
      ∧ θ_run (Cert.CqPromptRefIdeal.defs (F := Ideal)) (onTc (τ := Cert.CqPromptRefIdeal.τ) (Cert.CqPromptRefIdeal.main (F := Ideal))) ⟨m', fun _ => 0, g'⟩ (fun r => ∀ c : Dev Cert.CqPromptRefIdeal.nD,
          r.2.mem ((c.tc : Thread Cert.CqPromptRefIdeal.nD Cert.CqPromptRefIdeal.τ).loc Cert.CqPromptRefIdeal.main_v5) = v0 c
          ∧ r.2.mem ((c.tc : Thread Cert.CqPromptRefIdeal.nD Cert.CqPromptRefIdeal.τ).loc Cert.CqPromptRefIdeal.main_arg0) = m' ((c.tc : Thread Cert.CqPromptRefIdeal.nD Cert.CqPromptRefIdeal.τ).loc Cert.CqPromptRefIdeal.main_arg0)
          ∧ r.2.mem ((c.tc : Thread Cert.CqPromptRefIdeal.nD Cert.CqPromptRefIdeal.τ).loc Cert.CqPromptRefIdeal.main_arg1) = m' ((c.tc : Thread Cert.CqPromptRefIdeal.nD Cert.CqPromptRefIdeal.τ).loc Cert.CqPromptRefIdeal.main_arg1))

def preserves_CkvPrompt0_CkvPrompt0Ideal : Prop :=
  True

def algebraic_CkvPrompt0Ideal_CkvPrompt0RefIdeal [hCkvPrompt0Ideal : Cert.CkvPrompt0Ideal.Facts] [hCkvPrompt0RefIdeal : Cert.CkvPrompt0RefIdeal.Facts] : Prop :=
  ∀ (m : (ℓ : Loc Cert.CkvPrompt0Ideal.nD Cert.CkvPrompt0Ideal.τ Cert.CkvPrompt0Ideal.sig) → Buf (Elt Ideal) ℓ) (g : Dev Cert.CkvPrompt0Ideal.nD → PrngReg)
    (m' : (ℓ : Loc Cert.CkvPrompt0RefIdeal.nD Cert.CkvPrompt0RefIdeal.τ Cert.CkvPrompt0RefIdeal.sig) → Buf (Elt Ideal) ℓ) (g' : Dev Cert.CkvPrompt0RefIdeal.nD → PrngReg), Pre_CkvPrompt0Ideal m →
    (∀ c : Dev Cert.CkvPrompt0Ideal.nD,
      m' ((c.tc : Thread Cert.CkvPrompt0RefIdeal.nD Cert.CkvPrompt0RefIdeal.τ).loc Cert.CkvPrompt0RefIdeal.main_arg0) = m ((c.tc : Thread Cert.CkvPrompt0Ideal.nD Cert.CkvPrompt0Ideal.τ).loc Cert.CkvPrompt0Ideal.main_arg0)
      ∧ m' ((c.tc : Thread Cert.CkvPrompt0RefIdeal.nD Cert.CkvPrompt0RefIdeal.τ).loc Cert.CkvPrompt0RefIdeal.main_arg1) = m ((c.tc : Thread Cert.CkvPrompt0Ideal.nD Cert.CkvPrompt0Ideal.τ).loc Cert.CkvPrompt0Ideal.main_arg1)) →
    ∃ (v0 : (c : Dev Cert.CkvPrompt0Ideal.nD) → Buf (Elt Ideal) ((c.tc : Thread Cert.CkvPrompt0Ideal.nD Cert.CkvPrompt0Ideal.τ).loc Cert.CkvPrompt0Ideal.main_v1)),
      θ_run (Cert.CkvPrompt0Ideal.defs (F := Ideal)) (onTc (τ := Cert.CkvPrompt0Ideal.τ) (Cert.CkvPrompt0Ideal.main (F := Ideal))) ⟨m, fun _ => 0, g⟩ (fun r => ∀ c : Dev Cert.CkvPrompt0Ideal.nD,
          r.2.mem ((c.tc : Thread Cert.CkvPrompt0Ideal.nD Cert.CkvPrompt0Ideal.τ).loc Cert.CkvPrompt0Ideal.main_v1) = v0 c
          ∧ r.2.mem ((c.tc : Thread Cert.CkvPrompt0Ideal.nD Cert.CkvPrompt0Ideal.τ).loc Cert.CkvPrompt0Ideal.main_arg0) = m ((c.tc : Thread Cert.CkvPrompt0Ideal.nD Cert.CkvPrompt0Ideal.τ).loc Cert.CkvPrompt0Ideal.main_arg0)
          ∧ r.2.mem ((c.tc : Thread Cert.CkvPrompt0Ideal.nD Cert.CkvPrompt0Ideal.τ).loc Cert.CkvPrompt0Ideal.main_arg1) = m ((c.tc : Thread Cert.CkvPrompt0Ideal.nD Cert.CkvPrompt0Ideal.τ).loc Cert.CkvPrompt0Ideal.main_arg1))
      ∧ θ_run (Cert.CkvPrompt0RefIdeal.defs (F := Ideal)) (onTc (τ := Cert.CkvPrompt0RefIdeal.τ) (Cert.CkvPrompt0RefIdeal.main (F := Ideal))) ⟨m', fun _ => 0, g'⟩ (fun r => ∀ c : Dev Cert.CkvPrompt0RefIdeal.nD,
          r.2.mem ((c.tc : Thread Cert.CkvPrompt0RefIdeal.nD Cert.CkvPrompt0RefIdeal.τ).loc Cert.CkvPrompt0RefIdeal.main_v4) = v0 c
          ∧ r.2.mem ((c.tc : Thread Cert.CkvPrompt0RefIdeal.nD Cert.CkvPrompt0RefIdeal.τ).loc Cert.CkvPrompt0RefIdeal.main_arg0) = m' ((c.tc : Thread Cert.CkvPrompt0RefIdeal.nD Cert.CkvPrompt0RefIdeal.τ).loc Cert.CkvPrompt0RefIdeal.main_arg0)
          ∧ r.2.mem ((c.tc : Thread Cert.CkvPrompt0RefIdeal.nD Cert.CkvPrompt0RefIdeal.τ).loc Cert.CkvPrompt0RefIdeal.main_arg1) = m' ((c.tc : Thread Cert.CkvPrompt0RefIdeal.nD Cert.CkvPrompt0RefIdeal.τ).loc Cert.CkvPrompt0RefIdeal.main_arg1))

def preserves_CkvPrompt1_CkvPrompt1Ideal : Prop :=
  True

def algebraic_CkvPrompt1Ideal_CkvPrompt1RefIdeal [hCkvPrompt1Ideal : Cert.CkvPrompt1Ideal.Facts] [hCkvPrompt1RefIdeal : Cert.CkvPrompt1RefIdeal.Facts] : Prop :=
  ∀ (m : (ℓ : Loc Cert.CkvPrompt1Ideal.nD Cert.CkvPrompt1Ideal.τ Cert.CkvPrompt1Ideal.sig) → Buf (Elt Ideal) ℓ) (g : Dev Cert.CkvPrompt1Ideal.nD → PrngReg)
    (m' : (ℓ : Loc Cert.CkvPrompt1RefIdeal.nD Cert.CkvPrompt1RefIdeal.τ Cert.CkvPrompt1RefIdeal.sig) → Buf (Elt Ideal) ℓ) (g' : Dev Cert.CkvPrompt1RefIdeal.nD → PrngReg), Pre_CkvPrompt1Ideal m →
    (∀ c : Dev Cert.CkvPrompt1Ideal.nD,
      m' ((c.tc : Thread Cert.CkvPrompt1RefIdeal.nD Cert.CkvPrompt1RefIdeal.τ).loc Cert.CkvPrompt1RefIdeal.main_arg0) = m ((c.tc : Thread Cert.CkvPrompt1Ideal.nD Cert.CkvPrompt1Ideal.τ).loc Cert.CkvPrompt1Ideal.main_arg0)
      ∧ m' ((c.tc : Thread Cert.CkvPrompt1RefIdeal.nD Cert.CkvPrompt1RefIdeal.τ).loc Cert.CkvPrompt1RefIdeal.main_arg1) = m ((c.tc : Thread Cert.CkvPrompt1Ideal.nD Cert.CkvPrompt1Ideal.τ).loc Cert.CkvPrompt1Ideal.main_arg1)) →
    ∃ (v0 : (c : Dev Cert.CkvPrompt1Ideal.nD) → Buf (Elt Ideal) ((c.tc : Thread Cert.CkvPrompt1Ideal.nD Cert.CkvPrompt1Ideal.τ).loc Cert.CkvPrompt1Ideal.main_v1)),
      θ_run (Cert.CkvPrompt1Ideal.defs (F := Ideal)) (onTc (τ := Cert.CkvPrompt1Ideal.τ) (Cert.CkvPrompt1Ideal.main (F := Ideal))) ⟨m, fun _ => 0, g⟩ (fun r => ∀ c : Dev Cert.CkvPrompt1Ideal.nD,
          r.2.mem ((c.tc : Thread Cert.CkvPrompt1Ideal.nD Cert.CkvPrompt1Ideal.τ).loc Cert.CkvPrompt1Ideal.main_v1) = v0 c
          ∧ r.2.mem ((c.tc : Thread Cert.CkvPrompt1Ideal.nD Cert.CkvPrompt1Ideal.τ).loc Cert.CkvPrompt1Ideal.main_arg0) = m ((c.tc : Thread Cert.CkvPrompt1Ideal.nD Cert.CkvPrompt1Ideal.τ).loc Cert.CkvPrompt1Ideal.main_arg0)
          ∧ r.2.mem ((c.tc : Thread Cert.CkvPrompt1Ideal.nD Cert.CkvPrompt1Ideal.τ).loc Cert.CkvPrompt1Ideal.main_arg1) = m ((c.tc : Thread Cert.CkvPrompt1Ideal.nD Cert.CkvPrompt1Ideal.τ).loc Cert.CkvPrompt1Ideal.main_arg1))
      ∧ θ_run (Cert.CkvPrompt1RefIdeal.defs (F := Ideal)) (onTc (τ := Cert.CkvPrompt1RefIdeal.τ) (Cert.CkvPrompt1RefIdeal.main (F := Ideal))) ⟨m', fun _ => 0, g'⟩ (fun r => ∀ c : Dev Cert.CkvPrompt1RefIdeal.nD,
          r.2.mem ((c.tc : Thread Cert.CkvPrompt1RefIdeal.nD Cert.CkvPrompt1RefIdeal.τ).loc Cert.CkvPrompt1RefIdeal.main_v4) = v0 c
          ∧ r.2.mem ((c.tc : Thread Cert.CkvPrompt1RefIdeal.nD Cert.CkvPrompt1RefIdeal.τ).loc Cert.CkvPrompt1RefIdeal.main_arg0) = m' ((c.tc : Thread Cert.CkvPrompt1RefIdeal.nD Cert.CkvPrompt1RefIdeal.τ).loc Cert.CkvPrompt1RefIdeal.main_arg0)
          ∧ r.2.mem ((c.tc : Thread Cert.CkvPrompt1RefIdeal.nD Cert.CkvPrompt1RefIdeal.τ).loc Cert.CkvPrompt1RefIdeal.main_arg1) = m' ((c.tc : Thread Cert.CkvPrompt1RefIdeal.nD Cert.CkvPrompt1RefIdeal.τ).loc Cert.CkvPrompt1RefIdeal.main_arg1))

def preserves_CkvPrompt2_CkvPrompt2Ideal : Prop :=
  True

def algebraic_CkvPrompt2Ideal_CkvPrompt2RefIdeal [hCkvPrompt2Ideal : Cert.CkvPrompt2Ideal.Facts] [hCkvPrompt2RefIdeal : Cert.CkvPrompt2RefIdeal.Facts] : Prop :=
  ∀ (m : (ℓ : Loc Cert.CkvPrompt2Ideal.nD Cert.CkvPrompt2Ideal.τ Cert.CkvPrompt2Ideal.sig) → Buf (Elt Ideal) ℓ) (g : Dev Cert.CkvPrompt2Ideal.nD → PrngReg)
    (m' : (ℓ : Loc Cert.CkvPrompt2RefIdeal.nD Cert.CkvPrompt2RefIdeal.τ Cert.CkvPrompt2RefIdeal.sig) → Buf (Elt Ideal) ℓ) (g' : Dev Cert.CkvPrompt2RefIdeal.nD → PrngReg), Pre_CkvPrompt2Ideal m →
    (∀ c : Dev Cert.CkvPrompt2Ideal.nD,
      m' ((c.tc : Thread Cert.CkvPrompt2RefIdeal.nD Cert.CkvPrompt2RefIdeal.τ).loc Cert.CkvPrompt2RefIdeal.main_arg0) = m ((c.tc : Thread Cert.CkvPrompt2Ideal.nD Cert.CkvPrompt2Ideal.τ).loc Cert.CkvPrompt2Ideal.main_arg0)
      ∧ m' ((c.tc : Thread Cert.CkvPrompt2RefIdeal.nD Cert.CkvPrompt2RefIdeal.τ).loc Cert.CkvPrompt2RefIdeal.main_arg1) = m ((c.tc : Thread Cert.CkvPrompt2Ideal.nD Cert.CkvPrompt2Ideal.τ).loc Cert.CkvPrompt2Ideal.main_arg1)) →
    ∃ (v0 : (c : Dev Cert.CkvPrompt2Ideal.nD) → Buf (Elt Ideal) ((c.tc : Thread Cert.CkvPrompt2Ideal.nD Cert.CkvPrompt2Ideal.τ).loc Cert.CkvPrompt2Ideal.main_v1)),
      θ_run (Cert.CkvPrompt2Ideal.defs (F := Ideal)) (onTc (τ := Cert.CkvPrompt2Ideal.τ) (Cert.CkvPrompt2Ideal.main (F := Ideal))) ⟨m, fun _ => 0, g⟩ (fun r => ∀ c : Dev Cert.CkvPrompt2Ideal.nD,
          r.2.mem ((c.tc : Thread Cert.CkvPrompt2Ideal.nD Cert.CkvPrompt2Ideal.τ).loc Cert.CkvPrompt2Ideal.main_v1) = v0 c
          ∧ r.2.mem ((c.tc : Thread Cert.CkvPrompt2Ideal.nD Cert.CkvPrompt2Ideal.τ).loc Cert.CkvPrompt2Ideal.main_arg0) = m ((c.tc : Thread Cert.CkvPrompt2Ideal.nD Cert.CkvPrompt2Ideal.τ).loc Cert.CkvPrompt2Ideal.main_arg0)
          ∧ r.2.mem ((c.tc : Thread Cert.CkvPrompt2Ideal.nD Cert.CkvPrompt2Ideal.τ).loc Cert.CkvPrompt2Ideal.main_arg1) = m ((c.tc : Thread Cert.CkvPrompt2Ideal.nD Cert.CkvPrompt2Ideal.τ).loc Cert.CkvPrompt2Ideal.main_arg1))
      ∧ θ_run (Cert.CkvPrompt2RefIdeal.defs (F := Ideal)) (onTc (τ := Cert.CkvPrompt2RefIdeal.τ) (Cert.CkvPrompt2RefIdeal.main (F := Ideal))) ⟨m', fun _ => 0, g'⟩ (fun r => ∀ c : Dev Cert.CkvPrompt2RefIdeal.nD,
          r.2.mem ((c.tc : Thread Cert.CkvPrompt2RefIdeal.nD Cert.CkvPrompt2RefIdeal.τ).loc Cert.CkvPrompt2RefIdeal.main_v4) = v0 c
          ∧ r.2.mem ((c.tc : Thread Cert.CkvPrompt2RefIdeal.nD Cert.CkvPrompt2RefIdeal.τ).loc Cert.CkvPrompt2RefIdeal.main_arg0) = m' ((c.tc : Thread Cert.CkvPrompt2RefIdeal.nD Cert.CkvPrompt2RefIdeal.τ).loc Cert.CkvPrompt2RefIdeal.main_arg0)
          ∧ r.2.mem ((c.tc : Thread Cert.CkvPrompt2RefIdeal.nD Cert.CkvPrompt2RefIdeal.τ).loc Cert.CkvPrompt2RefIdeal.main_arg1) = m' ((c.tc : Thread Cert.CkvPrompt2RefIdeal.nD Cert.CkvPrompt2RefIdeal.τ).loc Cert.CkvPrompt2RefIdeal.main_arg1))

def preserves_CkvSample0_CkvSample0Ideal : Prop :=
  True

def algebraic_CkvSample0Ideal_CkvSample0RefIdeal [hCkvSample0Ideal : Cert.CkvSample0Ideal.Facts] [hCkvSample0RefIdeal : Cert.CkvSample0RefIdeal.Facts] : Prop :=
  ∀ (m : (ℓ : Loc Cert.CkvSample0Ideal.nD Cert.CkvSample0Ideal.τ Cert.CkvSample0Ideal.sig) → Buf (Elt Ideal) ℓ) (g : Dev Cert.CkvSample0Ideal.nD → PrngReg)
    (m' : (ℓ : Loc Cert.CkvSample0RefIdeal.nD Cert.CkvSample0RefIdeal.τ Cert.CkvSample0RefIdeal.sig) → Buf (Elt Ideal) ℓ) (g' : Dev Cert.CkvSample0RefIdeal.nD → PrngReg), Pre_CkvSample0Ideal m →
    (∀ c : Dev Cert.CkvSample0Ideal.nD,
      m' ((c.tc : Thread Cert.CkvSample0RefIdeal.nD Cert.CkvSample0RefIdeal.τ).loc Cert.CkvSample0RefIdeal.main_arg0) = m ((c.tc : Thread Cert.CkvSample0Ideal.nD Cert.CkvSample0Ideal.τ).loc Cert.CkvSample0Ideal.main_arg0)
      ∧ m' ((c.tc : Thread Cert.CkvSample0RefIdeal.nD Cert.CkvSample0RefIdeal.τ).loc Cert.CkvSample0RefIdeal.main_arg1) = m ((c.tc : Thread Cert.CkvSample0Ideal.nD Cert.CkvSample0Ideal.τ).loc Cert.CkvSample0Ideal.main_arg1)) →
    ∃ (v0 : (c : Dev Cert.CkvSample0Ideal.nD) → Buf (Elt Ideal) ((c.tc : Thread Cert.CkvSample0Ideal.nD Cert.CkvSample0Ideal.τ).loc Cert.CkvSample0Ideal.main_v1)),
      θ_run (Cert.CkvSample0Ideal.defs (F := Ideal)) (onTc (τ := Cert.CkvSample0Ideal.τ) (Cert.CkvSample0Ideal.main (F := Ideal))) ⟨m, fun _ => 0, g⟩ (fun r => ∀ c : Dev Cert.CkvSample0Ideal.nD,
          r.2.mem ((c.tc : Thread Cert.CkvSample0Ideal.nD Cert.CkvSample0Ideal.τ).loc Cert.CkvSample0Ideal.main_v1) = v0 c
          ∧ r.2.mem ((c.tc : Thread Cert.CkvSample0Ideal.nD Cert.CkvSample0Ideal.τ).loc Cert.CkvSample0Ideal.main_arg0) = m ((c.tc : Thread Cert.CkvSample0Ideal.nD Cert.CkvSample0Ideal.τ).loc Cert.CkvSample0Ideal.main_arg0)
          ∧ r.2.mem ((c.tc : Thread Cert.CkvSample0Ideal.nD Cert.CkvSample0Ideal.τ).loc Cert.CkvSample0Ideal.main_arg1) = m ((c.tc : Thread Cert.CkvSample0Ideal.nD Cert.CkvSample0Ideal.τ).loc Cert.CkvSample0Ideal.main_arg1))
      ∧ θ_run (Cert.CkvSample0RefIdeal.defs (F := Ideal)) (onTc (τ := Cert.CkvSample0RefIdeal.τ) (Cert.CkvSample0RefIdeal.main (F := Ideal))) ⟨m', fun _ => 0, g'⟩ (fun r => ∀ c : Dev Cert.CkvSample0RefIdeal.nD,
          r.2.mem ((c.tc : Thread Cert.CkvSample0RefIdeal.nD Cert.CkvSample0RefIdeal.τ).loc Cert.CkvSample0RefIdeal.main_v4) = v0 c
          ∧ r.2.mem ((c.tc : Thread Cert.CkvSample0RefIdeal.nD Cert.CkvSample0RefIdeal.τ).loc Cert.CkvSample0RefIdeal.main_arg0) = m' ((c.tc : Thread Cert.CkvSample0RefIdeal.nD Cert.CkvSample0RefIdeal.τ).loc Cert.CkvSample0RefIdeal.main_arg0)
          ∧ r.2.mem ((c.tc : Thread Cert.CkvSample0RefIdeal.nD Cert.CkvSample0RefIdeal.τ).loc Cert.CkvSample0RefIdeal.main_arg1) = m' ((c.tc : Thread Cert.CkvSample0RefIdeal.nD Cert.CkvSample0RefIdeal.τ).loc Cert.CkvSample0RefIdeal.main_arg1))

def preserves_CkvSample1_CkvSample1Ideal : Prop :=
  True

def algebraic_CkvSample1Ideal_CkvSample1RefIdeal [hCkvSample1Ideal : Cert.CkvSample1Ideal.Facts] [hCkvSample1RefIdeal : Cert.CkvSample1RefIdeal.Facts] : Prop :=
  ∀ (m : (ℓ : Loc Cert.CkvSample1Ideal.nD Cert.CkvSample1Ideal.τ Cert.CkvSample1Ideal.sig) → Buf (Elt Ideal) ℓ) (g : Dev Cert.CkvSample1Ideal.nD → PrngReg)
    (m' : (ℓ : Loc Cert.CkvSample1RefIdeal.nD Cert.CkvSample1RefIdeal.τ Cert.CkvSample1RefIdeal.sig) → Buf (Elt Ideal) ℓ) (g' : Dev Cert.CkvSample1RefIdeal.nD → PrngReg), Pre_CkvSample1Ideal m →
    (∀ c : Dev Cert.CkvSample1Ideal.nD,
      m' ((c.tc : Thread Cert.CkvSample1RefIdeal.nD Cert.CkvSample1RefIdeal.τ).loc Cert.CkvSample1RefIdeal.main_arg0) = m ((c.tc : Thread Cert.CkvSample1Ideal.nD Cert.CkvSample1Ideal.τ).loc Cert.CkvSample1Ideal.main_arg0)
      ∧ m' ((c.tc : Thread Cert.CkvSample1RefIdeal.nD Cert.CkvSample1RefIdeal.τ).loc Cert.CkvSample1RefIdeal.main_arg1) = m ((c.tc : Thread Cert.CkvSample1Ideal.nD Cert.CkvSample1Ideal.τ).loc Cert.CkvSample1Ideal.main_arg1)) →
    ∃ (v0 : (c : Dev Cert.CkvSample1Ideal.nD) → Buf (Elt Ideal) ((c.tc : Thread Cert.CkvSample1Ideal.nD Cert.CkvSample1Ideal.τ).loc Cert.CkvSample1Ideal.main_v1)),
      θ_run (Cert.CkvSample1Ideal.defs (F := Ideal)) (onTc (τ := Cert.CkvSample1Ideal.τ) (Cert.CkvSample1Ideal.main (F := Ideal))) ⟨m, fun _ => 0, g⟩ (fun r => ∀ c : Dev Cert.CkvSample1Ideal.nD,
          r.2.mem ((c.tc : Thread Cert.CkvSample1Ideal.nD Cert.CkvSample1Ideal.τ).loc Cert.CkvSample1Ideal.main_v1) = v0 c
          ∧ r.2.mem ((c.tc : Thread Cert.CkvSample1Ideal.nD Cert.CkvSample1Ideal.τ).loc Cert.CkvSample1Ideal.main_arg0) = m ((c.tc : Thread Cert.CkvSample1Ideal.nD Cert.CkvSample1Ideal.τ).loc Cert.CkvSample1Ideal.main_arg0)
          ∧ r.2.mem ((c.tc : Thread Cert.CkvSample1Ideal.nD Cert.CkvSample1Ideal.τ).loc Cert.CkvSample1Ideal.main_arg1) = m ((c.tc : Thread Cert.CkvSample1Ideal.nD Cert.CkvSample1Ideal.τ).loc Cert.CkvSample1Ideal.main_arg1))
      ∧ θ_run (Cert.CkvSample1RefIdeal.defs (F := Ideal)) (onTc (τ := Cert.CkvSample1RefIdeal.τ) (Cert.CkvSample1RefIdeal.main (F := Ideal))) ⟨m', fun _ => 0, g'⟩ (fun r => ∀ c : Dev Cert.CkvSample1RefIdeal.nD,
          r.2.mem ((c.tc : Thread Cert.CkvSample1RefIdeal.nD Cert.CkvSample1RefIdeal.τ).loc Cert.CkvSample1RefIdeal.main_v4) = v0 c
          ∧ r.2.mem ((c.tc : Thread Cert.CkvSample1RefIdeal.nD Cert.CkvSample1RefIdeal.τ).loc Cert.CkvSample1RefIdeal.main_arg0) = m' ((c.tc : Thread Cert.CkvSample1RefIdeal.nD Cert.CkvSample1RefIdeal.τ).loc Cert.CkvSample1RefIdeal.main_arg0)
          ∧ r.2.mem ((c.tc : Thread Cert.CkvSample1RefIdeal.nD Cert.CkvSample1RefIdeal.τ).loc Cert.CkvSample1RefIdeal.main_arg1) = m' ((c.tc : Thread Cert.CkvSample1RefIdeal.nD Cert.CkvSample1RefIdeal.τ).loc Cert.CkvSample1RefIdeal.main_arg1))

def preserves_CkvSample2_CkvSample2Ideal : Prop :=
  True

def algebraic_CkvSample2Ideal_CkvSample2RefIdeal [hCkvSample2Ideal : Cert.CkvSample2Ideal.Facts] [hCkvSample2RefIdeal : Cert.CkvSample2RefIdeal.Facts] : Prop :=
  ∀ (m : (ℓ : Loc Cert.CkvSample2Ideal.nD Cert.CkvSample2Ideal.τ Cert.CkvSample2Ideal.sig) → Buf (Elt Ideal) ℓ) (g : Dev Cert.CkvSample2Ideal.nD → PrngReg)
    (m' : (ℓ : Loc Cert.CkvSample2RefIdeal.nD Cert.CkvSample2RefIdeal.τ Cert.CkvSample2RefIdeal.sig) → Buf (Elt Ideal) ℓ) (g' : Dev Cert.CkvSample2RefIdeal.nD → PrngReg), Pre_CkvSample2Ideal m →
    (∀ c : Dev Cert.CkvSample2Ideal.nD,
      m' ((c.tc : Thread Cert.CkvSample2RefIdeal.nD Cert.CkvSample2RefIdeal.τ).loc Cert.CkvSample2RefIdeal.main_arg0) = m ((c.tc : Thread Cert.CkvSample2Ideal.nD Cert.CkvSample2Ideal.τ).loc Cert.CkvSample2Ideal.main_arg0)
      ∧ m' ((c.tc : Thread Cert.CkvSample2RefIdeal.nD Cert.CkvSample2RefIdeal.τ).loc Cert.CkvSample2RefIdeal.main_arg1) = m ((c.tc : Thread Cert.CkvSample2Ideal.nD Cert.CkvSample2Ideal.τ).loc Cert.CkvSample2Ideal.main_arg1)) →
    ∃ (v0 : (c : Dev Cert.CkvSample2Ideal.nD) → Buf (Elt Ideal) ((c.tc : Thread Cert.CkvSample2Ideal.nD Cert.CkvSample2Ideal.τ).loc Cert.CkvSample2Ideal.main_v1)),
      θ_run (Cert.CkvSample2Ideal.defs (F := Ideal)) (onTc (τ := Cert.CkvSample2Ideal.τ) (Cert.CkvSample2Ideal.main (F := Ideal))) ⟨m, fun _ => 0, g⟩ (fun r => ∀ c : Dev Cert.CkvSample2Ideal.nD,
          r.2.mem ((c.tc : Thread Cert.CkvSample2Ideal.nD Cert.CkvSample2Ideal.τ).loc Cert.CkvSample2Ideal.main_v1) = v0 c
          ∧ r.2.mem ((c.tc : Thread Cert.CkvSample2Ideal.nD Cert.CkvSample2Ideal.τ).loc Cert.CkvSample2Ideal.main_arg0) = m ((c.tc : Thread Cert.CkvSample2Ideal.nD Cert.CkvSample2Ideal.τ).loc Cert.CkvSample2Ideal.main_arg0)
          ∧ r.2.mem ((c.tc : Thread Cert.CkvSample2Ideal.nD Cert.CkvSample2Ideal.τ).loc Cert.CkvSample2Ideal.main_arg1) = m ((c.tc : Thread Cert.CkvSample2Ideal.nD Cert.CkvSample2Ideal.τ).loc Cert.CkvSample2Ideal.main_arg1))
      ∧ θ_run (Cert.CkvSample2RefIdeal.defs (F := Ideal)) (onTc (τ := Cert.CkvSample2RefIdeal.τ) (Cert.CkvSample2RefIdeal.main (F := Ideal))) ⟨m', fun _ => 0, g'⟩ (fun r => ∀ c : Dev Cert.CkvSample2RefIdeal.nD,
          r.2.mem ((c.tc : Thread Cert.CkvSample2RefIdeal.nD Cert.CkvSample2RefIdeal.τ).loc Cert.CkvSample2RefIdeal.main_v4) = v0 c
          ∧ r.2.mem ((c.tc : Thread Cert.CkvSample2RefIdeal.nD Cert.CkvSample2RefIdeal.τ).loc Cert.CkvSample2RefIdeal.main_arg0) = m' ((c.tc : Thread Cert.CkvSample2RefIdeal.nD Cert.CkvSample2RefIdeal.τ).loc Cert.CkvSample2RefIdeal.main_arg0)
          ∧ r.2.mem ((c.tc : Thread Cert.CkvSample2RefIdeal.nD Cert.CkvSample2RefIdeal.τ).loc Cert.CkvSample2RefIdeal.main_arg1) = m' ((c.tc : Thread Cert.CkvSample2RefIdeal.nD Cert.CkvSample2RefIdeal.τ).loc Cert.CkvSample2RefIdeal.main_arg1))

def preserves_OutCPrompt_OutCPromptIdeal : Prop :=
  True

def algebraic_OutCPromptIdeal_OutCPromptRefIdeal [hOutCPromptIdeal : Cert.OutCPromptIdeal.Facts] [hOutCPromptRefIdeal : Cert.OutCPromptRefIdeal.Facts] : Prop :=
  ∀ (m : (ℓ : Loc Cert.OutCPromptIdeal.nD Cert.OutCPromptIdeal.τ Cert.OutCPromptIdeal.sig) → Buf (Elt Ideal) ℓ) (g : Dev Cert.OutCPromptIdeal.nD → PrngReg)
    (m' : (ℓ : Loc Cert.OutCPromptRefIdeal.nD Cert.OutCPromptRefIdeal.τ Cert.OutCPromptRefIdeal.sig) → Buf (Elt Ideal) ℓ) (g' : Dev Cert.OutCPromptRefIdeal.nD → PrngReg), Pre_OutCPromptIdeal m →
    (∀ c : Dev Cert.OutCPromptIdeal.nD,
      m' ((c.tc : Thread Cert.OutCPromptRefIdeal.nD Cert.OutCPromptRefIdeal.τ).loc Cert.OutCPromptRefIdeal.main_arg0) = m ((c.tc : Thread Cert.OutCPromptIdeal.nD Cert.OutCPromptIdeal.τ).loc Cert.OutCPromptIdeal.main_arg0)
      ∧ m' ((c.tc : Thread Cert.OutCPromptRefIdeal.nD Cert.OutCPromptRefIdeal.τ).loc Cert.OutCPromptRefIdeal.main_arg1) = m ((c.tc : Thread Cert.OutCPromptIdeal.nD Cert.OutCPromptIdeal.τ).loc Cert.OutCPromptIdeal.main_arg1)) →
    ∃ (v0 : (c : Dev Cert.OutCPromptIdeal.nD) → Buf (Elt Ideal) ((c.tc : Thread Cert.OutCPromptIdeal.nD Cert.OutCPromptIdeal.τ).loc Cert.OutCPromptIdeal.main_v1)),
      θ_run (Cert.OutCPromptIdeal.defs (F := Ideal)) (onTc (τ := Cert.OutCPromptIdeal.τ) (Cert.OutCPromptIdeal.main (F := Ideal))) ⟨m, fun _ => 0, g⟩ (fun r => ∀ c : Dev Cert.OutCPromptIdeal.nD,
          r.2.mem ((c.tc : Thread Cert.OutCPromptIdeal.nD Cert.OutCPromptIdeal.τ).loc Cert.OutCPromptIdeal.main_v1) = v0 c
          ∧ r.2.mem ((c.tc : Thread Cert.OutCPromptIdeal.nD Cert.OutCPromptIdeal.τ).loc Cert.OutCPromptIdeal.main_arg0) = m ((c.tc : Thread Cert.OutCPromptIdeal.nD Cert.OutCPromptIdeal.τ).loc Cert.OutCPromptIdeal.main_arg0)
          ∧ r.2.mem ((c.tc : Thread Cert.OutCPromptIdeal.nD Cert.OutCPromptIdeal.τ).loc Cert.OutCPromptIdeal.main_arg1) = m ((c.tc : Thread Cert.OutCPromptIdeal.nD Cert.OutCPromptIdeal.τ).loc Cert.OutCPromptIdeal.main_arg1))
      ∧ θ_run (Cert.OutCPromptRefIdeal.defs (F := Ideal)) (onTc (τ := Cert.OutCPromptRefIdeal.τ) (Cert.OutCPromptRefIdeal.main (F := Ideal))) ⟨m', fun _ => 0, g'⟩ (fun r => ∀ c : Dev Cert.OutCPromptRefIdeal.nD,
          r.2.mem ((c.tc : Thread Cert.OutCPromptRefIdeal.nD Cert.OutCPromptRefIdeal.τ).loc Cert.OutCPromptRefIdeal.main_v1) = v0 c
          ∧ r.2.mem ((c.tc : Thread Cert.OutCPromptRefIdeal.nD Cert.OutCPromptRefIdeal.τ).loc Cert.OutCPromptRefIdeal.main_arg0) = m' ((c.tc : Thread Cert.OutCPromptRefIdeal.nD Cert.OutCPromptRefIdeal.τ).loc Cert.OutCPromptRefIdeal.main_arg0)
          ∧ r.2.mem ((c.tc : Thread Cert.OutCPromptRefIdeal.nD Cert.OutCPromptRefIdeal.τ).loc Cert.OutCPromptRefIdeal.main_arg1) = m' ((c.tc : Thread Cert.OutCPromptRefIdeal.nD Cert.OutCPromptRefIdeal.τ).loc Cert.OutCPromptRefIdeal.main_arg1))

def preserves_ResLnMix_ResLnMixIdeal : Prop :=
  True

def algebraic_ResLnMixIdeal_ResLnMixRefIdeal [hResLnMixIdeal : Cert.ResLnMixIdeal.Facts] [hResLnMixRefIdeal : Cert.ResLnMixRefIdeal.Facts] : Prop :=
  ∀ (m : (ℓ : Loc Cert.ResLnMixIdeal.nD Cert.ResLnMixIdeal.τ Cert.ResLnMixIdeal.sig) → Buf (Elt Ideal) ℓ) (g : Dev Cert.ResLnMixIdeal.nD → PrngReg)
    (m' : (ℓ : Loc Cert.ResLnMixRefIdeal.nD Cert.ResLnMixRefIdeal.τ Cert.ResLnMixRefIdeal.sig) → Buf (Elt Ideal) ℓ) (g' : Dev Cert.ResLnMixRefIdeal.nD → PrngReg), Pre_ResLnMixIdeal m →
    (∀ c : Dev Cert.ResLnMixIdeal.nD,
      m' ((c.tc : Thread Cert.ResLnMixRefIdeal.nD Cert.ResLnMixRefIdeal.τ).loc Cert.ResLnMixRefIdeal.main_arg0) = m ((c.tc : Thread Cert.ResLnMixIdeal.nD Cert.ResLnMixIdeal.τ).loc Cert.ResLnMixIdeal.main_arg0)
      ∧ m' ((c.tc : Thread Cert.ResLnMixRefIdeal.nD Cert.ResLnMixRefIdeal.τ).loc Cert.ResLnMixRefIdeal.main_arg1) = m ((c.tc : Thread Cert.ResLnMixIdeal.nD Cert.ResLnMixIdeal.τ).loc Cert.ResLnMixIdeal.main_arg1)
      ∧ m' ((c.tc : Thread Cert.ResLnMixRefIdeal.nD Cert.ResLnMixRefIdeal.τ).loc Cert.ResLnMixRefIdeal.main_arg2) = m ((c.tc : Thread Cert.ResLnMixIdeal.nD Cert.ResLnMixIdeal.τ).loc Cert.ResLnMixIdeal.main_arg2)
      ∧ m' ((c.tc : Thread Cert.ResLnMixRefIdeal.nD Cert.ResLnMixRefIdeal.τ).loc Cert.ResLnMixRefIdeal.main_arg3) = m ((c.tc : Thread Cert.ResLnMixIdeal.nD Cert.ResLnMixIdeal.τ).loc Cert.ResLnMixIdeal.main_arg3)) →
    ∃ (v0 : (c : Dev Cert.ResLnMixIdeal.nD) → Buf (Elt Ideal) ((c.tc : Thread Cert.ResLnMixIdeal.nD Cert.ResLnMixIdeal.τ).loc Cert.ResLnMixIdeal.main_v2)),
      θ_run (Cert.ResLnMixIdeal.defs (F := Ideal)) (onTc (τ := Cert.ResLnMixIdeal.τ) (Cert.ResLnMixIdeal.main (F := Ideal))) ⟨m, fun _ => 0, g⟩ (fun r => ∀ c : Dev Cert.ResLnMixIdeal.nD,
          r.2.mem ((c.tc : Thread Cert.ResLnMixIdeal.nD Cert.ResLnMixIdeal.τ).loc Cert.ResLnMixIdeal.main_v2) = v0 c
          ∧ r.2.mem ((c.tc : Thread Cert.ResLnMixIdeal.nD Cert.ResLnMixIdeal.τ).loc Cert.ResLnMixIdeal.main_arg0) = m ((c.tc : Thread Cert.ResLnMixIdeal.nD Cert.ResLnMixIdeal.τ).loc Cert.ResLnMixIdeal.main_arg0)
          ∧ r.2.mem ((c.tc : Thread Cert.ResLnMixIdeal.nD Cert.ResLnMixIdeal.τ).loc Cert.ResLnMixIdeal.main_arg1) = m ((c.tc : Thread Cert.ResLnMixIdeal.nD Cert.ResLnMixIdeal.τ).loc Cert.ResLnMixIdeal.main_arg1)
          ∧ r.2.mem ((c.tc : Thread Cert.ResLnMixIdeal.nD Cert.ResLnMixIdeal.τ).loc Cert.ResLnMixIdeal.main_arg2) = m ((c.tc : Thread Cert.ResLnMixIdeal.nD Cert.ResLnMixIdeal.τ).loc Cert.ResLnMixIdeal.main_arg2)
          ∧ r.2.mem ((c.tc : Thread Cert.ResLnMixIdeal.nD Cert.ResLnMixIdeal.τ).loc Cert.ResLnMixIdeal.main_arg3) = m ((c.tc : Thread Cert.ResLnMixIdeal.nD Cert.ResLnMixIdeal.τ).loc Cert.ResLnMixIdeal.main_arg3))
      ∧ θ_run (Cert.ResLnMixRefIdeal.defs (F := Ideal)) (onTc (τ := Cert.ResLnMixRefIdeal.τ) (Cert.ResLnMixRefIdeal.main (F := Ideal))) ⟨m', fun _ => 0, g'⟩ (fun r => ∀ c : Dev Cert.ResLnMixRefIdeal.nD,
          r.2.mem ((c.tc : Thread Cert.ResLnMixRefIdeal.nD Cert.ResLnMixRefIdeal.τ).loc Cert.ResLnMixRefIdeal.main_v26) = v0 c
          ∧ r.2.mem ((c.tc : Thread Cert.ResLnMixRefIdeal.nD Cert.ResLnMixRefIdeal.τ).loc Cert.ResLnMixRefIdeal.main_arg0) = m' ((c.tc : Thread Cert.ResLnMixRefIdeal.nD Cert.ResLnMixRefIdeal.τ).loc Cert.ResLnMixRefIdeal.main_arg0)
          ∧ r.2.mem ((c.tc : Thread Cert.ResLnMixRefIdeal.nD Cert.ResLnMixRefIdeal.τ).loc Cert.ResLnMixRefIdeal.main_arg1) = m' ((c.tc : Thread Cert.ResLnMixRefIdeal.nD Cert.ResLnMixRefIdeal.τ).loc Cert.ResLnMixRefIdeal.main_arg1)
          ∧ r.2.mem ((c.tc : Thread Cert.ResLnMixRefIdeal.nD Cert.ResLnMixRefIdeal.τ).loc Cert.ResLnMixRefIdeal.main_arg2) = m' ((c.tc : Thread Cert.ResLnMixRefIdeal.nD Cert.ResLnMixRefIdeal.τ).loc Cert.ResLnMixRefIdeal.main_arg2)
          ∧ r.2.mem ((c.tc : Thread Cert.ResLnMixRefIdeal.nD Cert.ResLnMixRefIdeal.τ).loc Cert.ResLnMixRefIdeal.main_arg3) = m' ((c.tc : Thread Cert.ResLnMixRefIdeal.nD Cert.ResLnMixRefIdeal.τ).loc Cert.ResLnMixRefIdeal.main_arg3))

def preserves_ResLnFfn_ResLnFfnIdeal : Prop :=
  True

def algebraic_ResLnFfnIdeal_ResLnFfnRefIdeal [hResLnFfnIdeal : Cert.ResLnFfnIdeal.Facts] [hResLnFfnRefIdeal : Cert.ResLnFfnRefIdeal.Facts] : Prop :=
  ∀ (m : (ℓ : Loc Cert.ResLnFfnIdeal.nD Cert.ResLnFfnIdeal.τ Cert.ResLnFfnIdeal.sig) → Buf (Elt Ideal) ℓ) (g : Dev Cert.ResLnFfnIdeal.nD → PrngReg)
    (m' : (ℓ : Loc Cert.ResLnFfnRefIdeal.nD Cert.ResLnFfnRefIdeal.τ Cert.ResLnFfnRefIdeal.sig) → Buf (Elt Ideal) ℓ) (g' : Dev Cert.ResLnFfnRefIdeal.nD → PrngReg), Pre_ResLnFfnIdeal m →
    (∀ c : Dev Cert.ResLnFfnIdeal.nD,
      m' ((c.tc : Thread Cert.ResLnFfnRefIdeal.nD Cert.ResLnFfnRefIdeal.τ).loc Cert.ResLnFfnRefIdeal.main_arg0) = m ((c.tc : Thread Cert.ResLnFfnIdeal.nD Cert.ResLnFfnIdeal.τ).loc Cert.ResLnFfnIdeal.main_arg0)
      ∧ m' ((c.tc : Thread Cert.ResLnFfnRefIdeal.nD Cert.ResLnFfnRefIdeal.τ).loc Cert.ResLnFfnRefIdeal.main_arg1) = m ((c.tc : Thread Cert.ResLnFfnIdeal.nD Cert.ResLnFfnIdeal.τ).loc Cert.ResLnFfnIdeal.main_arg1)
      ∧ m' ((c.tc : Thread Cert.ResLnFfnRefIdeal.nD Cert.ResLnFfnRefIdeal.τ).loc Cert.ResLnFfnRefIdeal.main_arg2) = m ((c.tc : Thread Cert.ResLnFfnIdeal.nD Cert.ResLnFfnIdeal.τ).loc Cert.ResLnFfnIdeal.main_arg2)
      ∧ m' ((c.tc : Thread Cert.ResLnFfnRefIdeal.nD Cert.ResLnFfnRefIdeal.τ).loc Cert.ResLnFfnRefIdeal.main_arg3) = m ((c.tc : Thread Cert.ResLnFfnIdeal.nD Cert.ResLnFfnIdeal.τ).loc Cert.ResLnFfnIdeal.main_arg3)
      ∧ m' ((c.tc : Thread Cert.ResLnFfnRefIdeal.nD Cert.ResLnFfnRefIdeal.τ).loc Cert.ResLnFfnRefIdeal.main_arg4) = m ((c.tc : Thread Cert.ResLnFfnIdeal.nD Cert.ResLnFfnIdeal.τ).loc Cert.ResLnFfnIdeal.main_arg4)) →
    ∃ (v0 : (c : Dev Cert.ResLnFfnIdeal.nD) → Buf (Elt Ideal) ((c.tc : Thread Cert.ResLnFfnIdeal.nD Cert.ResLnFfnIdeal.τ).loc Cert.ResLnFfnIdeal.main_v2)),
      θ_run (Cert.ResLnFfnIdeal.defs (F := Ideal)) (onTc (τ := Cert.ResLnFfnIdeal.τ) (Cert.ResLnFfnIdeal.main (F := Ideal))) ⟨m, fun _ => 0, g⟩ (fun r => ∀ c : Dev Cert.ResLnFfnIdeal.nD,
          r.2.mem ((c.tc : Thread Cert.ResLnFfnIdeal.nD Cert.ResLnFfnIdeal.τ).loc Cert.ResLnFfnIdeal.main_v2) = v0 c
          ∧ r.2.mem ((c.tc : Thread Cert.ResLnFfnIdeal.nD Cert.ResLnFfnIdeal.τ).loc Cert.ResLnFfnIdeal.main_arg0) = m ((c.tc : Thread Cert.ResLnFfnIdeal.nD Cert.ResLnFfnIdeal.τ).loc Cert.ResLnFfnIdeal.main_arg0)
          ∧ r.2.mem ((c.tc : Thread Cert.ResLnFfnIdeal.nD Cert.ResLnFfnIdeal.τ).loc Cert.ResLnFfnIdeal.main_arg1) = m ((c.tc : Thread Cert.ResLnFfnIdeal.nD Cert.ResLnFfnIdeal.τ).loc Cert.ResLnFfnIdeal.main_arg1)
          ∧ r.2.mem ((c.tc : Thread Cert.ResLnFfnIdeal.nD Cert.ResLnFfnIdeal.τ).loc Cert.ResLnFfnIdeal.main_arg2) = m ((c.tc : Thread Cert.ResLnFfnIdeal.nD Cert.ResLnFfnIdeal.τ).loc Cert.ResLnFfnIdeal.main_arg2)
          ∧ r.2.mem ((c.tc : Thread Cert.ResLnFfnIdeal.nD Cert.ResLnFfnIdeal.τ).loc Cert.ResLnFfnIdeal.main_arg3) = m ((c.tc : Thread Cert.ResLnFfnIdeal.nD Cert.ResLnFfnIdeal.τ).loc Cert.ResLnFfnIdeal.main_arg3)
          ∧ r.2.mem ((c.tc : Thread Cert.ResLnFfnIdeal.nD Cert.ResLnFfnIdeal.τ).loc Cert.ResLnFfnIdeal.main_arg4) = m ((c.tc : Thread Cert.ResLnFfnIdeal.nD Cert.ResLnFfnIdeal.τ).loc Cert.ResLnFfnIdeal.main_arg4))
      ∧ θ_run (Cert.ResLnFfnRefIdeal.defs (F := Ideal)) (onTc (τ := Cert.ResLnFfnRefIdeal.τ) (Cert.ResLnFfnRefIdeal.main (F := Ideal))) ⟨m', fun _ => 0, g'⟩ (fun r => ∀ c : Dev Cert.ResLnFfnRefIdeal.nD,
          r.2.mem ((c.tc : Thread Cert.ResLnFfnRefIdeal.nD Cert.ResLnFfnRefIdeal.τ).loc Cert.ResLnFfnRefIdeal.main_v27) = v0 c
          ∧ r.2.mem ((c.tc : Thread Cert.ResLnFfnRefIdeal.nD Cert.ResLnFfnRefIdeal.τ).loc Cert.ResLnFfnRefIdeal.main_arg0) = m' ((c.tc : Thread Cert.ResLnFfnRefIdeal.nD Cert.ResLnFfnRefIdeal.τ).loc Cert.ResLnFfnRefIdeal.main_arg0)
          ∧ r.2.mem ((c.tc : Thread Cert.ResLnFfnRefIdeal.nD Cert.ResLnFfnRefIdeal.τ).loc Cert.ResLnFfnRefIdeal.main_arg1) = m' ((c.tc : Thread Cert.ResLnFfnRefIdeal.nD Cert.ResLnFfnRefIdeal.τ).loc Cert.ResLnFfnRefIdeal.main_arg1)
          ∧ r.2.mem ((c.tc : Thread Cert.ResLnFfnRefIdeal.nD Cert.ResLnFfnRefIdeal.τ).loc Cert.ResLnFfnRefIdeal.main_arg2) = m' ((c.tc : Thread Cert.ResLnFfnRefIdeal.nD Cert.ResLnFfnRefIdeal.τ).loc Cert.ResLnFfnRefIdeal.main_arg2)
          ∧ r.2.mem ((c.tc : Thread Cert.ResLnFfnRefIdeal.nD Cert.ResLnFfnRefIdeal.τ).loc Cert.ResLnFfnRefIdeal.main_arg3) = m' ((c.tc : Thread Cert.ResLnFfnRefIdeal.nD Cert.ResLnFfnRefIdeal.τ).loc Cert.ResLnFfnRefIdeal.main_arg3)
          ∧ r.2.mem ((c.tc : Thread Cert.ResLnFfnRefIdeal.nD Cert.ResLnFfnRefIdeal.τ).loc Cert.ResLnFfnRefIdeal.main_arg4) = m' ((c.tc : Thread Cert.ResLnFfnRefIdeal.nD Cert.ResLnFfnRefIdeal.τ).loc Cert.ResLnFfnRefIdeal.main_arg4))

def Claim : Prop :=
  ∃ (hAbPrompt : Cert.AbPrompt.Facts) (hAbPromptIdeal : Cert.AbPromptIdeal.Facts) (hAbPromptRefIdeal : Cert.AbPromptRefIdeal.Facts) (hExpertFfn : Cert.ExpertFfn.Facts) (hExpertFfnIdeal : Cert.ExpertFfnIdeal.Facts) (hExpertFfnRefIdeal : Cert.ExpertFfnRefIdeal.Facts) (hKvPrompt : Cert.KvPrompt.Facts) (hKvPromptIdeal : Cert.KvPromptIdeal.Facts) (hKvPromptRefIdeal : Cert.KvPromptRefIdeal.Facts) (hKvSample : Cert.KvSample.Facts) (hKvSampleIdeal : Cert.KvSampleIdeal.Facts) (hKvSampleRefIdeal : Cert.KvSampleRefIdeal.Facts) (hQPrompt : Cert.QPrompt.Facts) (hQPromptIdeal : Cert.QPromptIdeal.Facts) (hQPromptRefIdeal : Cert.QPromptRefIdeal.Facts) (hOutAbPrompt : Cert.OutAbPrompt.Facts) (hOutAbPromptIdeal : Cert.OutAbPromptIdeal.Facts) (hOutAbPromptRefIdeal : Cert.OutAbPromptRefIdeal.Facts) (hCqPrompt : Cert.CqPrompt.Facts) (hCqPromptIdeal : Cert.CqPromptIdeal.Facts) (hCqPromptRefIdeal : Cert.CqPromptRefIdeal.Facts) (hCkvPrompt0 : Cert.CkvPrompt0.Facts) (hCkvPrompt0Ideal : Cert.CkvPrompt0Ideal.Facts) (hCkvPrompt0RefIdeal : Cert.CkvPrompt0RefIdeal.Facts) (hCkvPrompt1 : Cert.CkvPrompt1.Facts) (hCkvPrompt1Ideal : Cert.CkvPrompt1Ideal.Facts) (hCkvPrompt1RefIdeal : Cert.CkvPrompt1RefIdeal.Facts) (hCkvPrompt2 : Cert.CkvPrompt2.Facts) (hCkvPrompt2Ideal : Cert.CkvPrompt2Ideal.Facts) (hCkvPrompt2RefIdeal : Cert.CkvPrompt2RefIdeal.Facts) (hCkvSample0 : Cert.CkvSample0.Facts) (hCkvSample0Ideal : Cert.CkvSample0Ideal.Facts) (hCkvSample0RefIdeal : Cert.CkvSample0RefIdeal.Facts) (hCkvSample1 : Cert.CkvSample1.Facts) (hCkvSample1Ideal : Cert.CkvSample1Ideal.Facts) (hCkvSample1RefIdeal : Cert.CkvSample1RefIdeal.Facts) (hCkvSample2 : Cert.CkvSample2.Facts) (hCkvSample2Ideal : Cert.CkvSample2Ideal.Facts) (hCkvSample2RefIdeal : Cert.CkvSample2RefIdeal.Facts) (hOutCPrompt : Cert.OutCPrompt.Facts) (hOutCPromptIdeal : Cert.OutCPromptIdeal.Facts) (hOutCPromptRefIdeal : Cert.OutCPromptRefIdeal.Facts) (hResLnMix : Cert.ResLnMix.Facts) (hResLnMixIdeal : Cert.ResLnMixIdeal.Facts) (hResLnMixRefIdeal : Cert.ResLnMixRefIdeal.Facts) (hResLnFfn : Cert.ResLnFfn.Facts) (hResLnFfnIdeal : Cert.ResLnFfnIdeal.Facts) (hResLnFfnRefIdeal : Cert.ResLnFfnRefIdeal.Facts) (hPre_finite : Cert.Pre_finite.Facts) (hPre_tables_in_range : Cert.Pre_tables_in_range.Facts) (hOn_sb_heads : Cert.On_sb_heads.Facts),
    quiescent_AbPrompt (hAbPrompt := hAbPrompt)
    ∧ quiescent_AbPromptIdeal (hAbPromptIdeal := hAbPromptIdeal)
    ∧ quiescent_AbPromptIdeal_pre_finite (hAbPromptIdeal := hAbPromptIdeal) (hPre_finite := hPre_finite)
    ∧ quiescent_AbPromptRefIdeal (hAbPromptRefIdeal := hAbPromptRefIdeal)
    ∧ quiescent_AbPromptRefIdeal_pre_finite (hAbPromptRefIdeal := hAbPromptRefIdeal) (hPre_finite := hPre_finite)
    ∧ quiescent_ExpertFfn (hExpertFfn := hExpertFfn) (hPre_tables_in_range := hPre_tables_in_range)
    ∧ quiescent_ExpertFfnIdeal (hExpertFfnIdeal := hExpertFfnIdeal) (hPre_tables_in_range := hPre_tables_in_range)
    ∧ quiescent_ExpertFfnRefIdeal (hExpertFfnRefIdeal := hExpertFfnRefIdeal)
    ∧ quiescent_ExpertFfnRefIdeal_pre_tables_in_range (hExpertFfnRefIdeal := hExpertFfnRefIdeal) (hPre_tables_in_range := hPre_tables_in_range)
    ∧ quiescent_KvPrompt (hKvPrompt := hKvPrompt)
    ∧ quiescent_KvPromptIdeal (hKvPromptIdeal := hKvPromptIdeal)
    ∧ quiescent_KvPromptRefIdeal (hKvPromptRefIdeal := hKvPromptRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_QPrompt (hQPrompt := hQPrompt)
    ∧ quiescent_QPromptIdeal (hQPromptIdeal := hQPromptIdeal)
    ∧ quiescent_QPromptRefIdeal (hQPromptRefIdeal := hQPromptRefIdeal)
    ∧ quiescent_OutAbPrompt (hOutAbPrompt := hOutAbPrompt)
    ∧ quiescent_OutAbPromptIdeal (hOutAbPromptIdeal := hOutAbPromptIdeal)
    ∧ quiescent_OutAbPromptRefIdeal (hOutAbPromptRefIdeal := hOutAbPromptRefIdeal)
    ∧ quiescent_CqPrompt (hCqPrompt := hCqPrompt)
    ∧ quiescent_CqPromptIdeal (hCqPromptIdeal := hCqPromptIdeal)
    ∧ quiescent_CqPromptRefIdeal (hCqPromptRefIdeal := hCqPromptRefIdeal)
    ∧ quiescent_CkvPrompt0 (hCkvPrompt0 := hCkvPrompt0)
    ∧ quiescent_CkvPrompt0Ideal (hCkvPrompt0Ideal := hCkvPrompt0Ideal)
    ∧ quiescent_CkvPrompt0RefIdeal (hCkvPrompt0RefIdeal := hCkvPrompt0RefIdeal)
    ∧ quiescent_CkvPrompt1 (hCkvPrompt1 := hCkvPrompt1)
    ∧ quiescent_CkvPrompt1Ideal (hCkvPrompt1Ideal := hCkvPrompt1Ideal)
    ∧ quiescent_CkvPrompt1RefIdeal (hCkvPrompt1RefIdeal := hCkvPrompt1RefIdeal)
    ∧ quiescent_CkvPrompt2 (hCkvPrompt2 := hCkvPrompt2)
    ∧ quiescent_CkvPrompt2Ideal (hCkvPrompt2Ideal := hCkvPrompt2Ideal)
    ∧ quiescent_CkvPrompt2RefIdeal (hCkvPrompt2RefIdeal := hCkvPrompt2RefIdeal)
    ∧ quiescent_CkvSample0 (hCkvSample0 := hCkvSample0)
    ∧ quiescent_CkvSample0Ideal (hCkvSample0Ideal := hCkvSample0Ideal)
    ∧ quiescent_CkvSample0RefIdeal (hCkvSample0RefIdeal := hCkvSample0RefIdeal)
    ∧ quiescent_CkvSample1 (hCkvSample1 := hCkvSample1)
    ∧ quiescent_CkvSample1Ideal (hCkvSample1Ideal := hCkvSample1Ideal)
    ∧ quiescent_CkvSample1RefIdeal (hCkvSample1RefIdeal := hCkvSample1RefIdeal)
    ∧ quiescent_CkvSample2 (hCkvSample2 := hCkvSample2)
    ∧ quiescent_CkvSample2Ideal (hCkvSample2Ideal := hCkvSample2Ideal)
    ∧ quiescent_CkvSample2RefIdeal (hCkvSample2RefIdeal := hCkvSample2RefIdeal)
    ∧ quiescent_OutCPrompt (hOutCPrompt := hOutCPrompt)
    ∧ quiescent_OutCPromptIdeal (hOutCPromptIdeal := hOutCPromptIdeal)
    ∧ quiescent_OutCPromptRefIdeal (hOutCPromptRefIdeal := hOutCPromptRefIdeal)
    ∧ quiescent_ResLnMix (hResLnMix := hResLnMix)
    ∧ quiescent_ResLnMixIdeal (hResLnMixIdeal := hResLnMixIdeal)
    ∧ quiescent_ResLnMixRefIdeal (hResLnMixRefIdeal := hResLnMixRefIdeal)
    ∧ quiescent_ResLnFfn (hResLnFfn := hResLnFfn)
    ∧ quiescent_ResLnFfnIdeal (hResLnFfnIdeal := hResLnFfnIdeal)
    ∧ quiescent_ResLnFfnRefIdeal (hResLnFfnRefIdeal := hResLnFfnRefIdeal)
    ∧ preserves_AbPrompt_AbPromptIdeal
    ∧ algebraic_AbPromptIdeal_AbPromptRefIdeal_on_sb_heads_pre_finite (hAbPromptIdeal := hAbPromptIdeal) (hAbPromptRefIdeal := hAbPromptRefIdeal) (hPre_finite := hPre_finite) (hOn_sb_heads := hOn_sb_heads)
    ∧ preserves_ExpertFfn_ExpertFfnIdeal
    ∧ algebraic_ExpertFfnIdeal_ExpertFfnRefIdeal (hExpertFfnIdeal := hExpertFfnIdeal) (hExpertFfnRefIdeal := hExpertFfnRefIdeal) (hPre_tables_in_range := hPre_tables_in_range)
    ∧ preserves_KvPrompt_KvPromptIdeal
    ∧ algebraic_KvPromptIdeal_KvPromptRefIdeal (hKvPromptIdeal := hKvPromptIdeal) (hKvPromptRefIdeal := hKvPromptRefIdeal)
    ∧ preserves_KvSample_KvSampleIdeal
    ∧ algebraic_KvSampleIdeal_KvSampleRefIdeal (hKvSampleIdeal := hKvSampleIdeal) (hKvSampleRefIdeal := hKvSampleRefIdeal)
    ∧ preserves_QPrompt_QPromptIdeal
    ∧ algebraic_QPromptIdeal_QPromptRefIdeal (hQPromptIdeal := hQPromptIdeal) (hQPromptRefIdeal := hQPromptRefIdeal)
    ∧ preserves_OutAbPrompt_OutAbPromptIdeal
    ∧ algebraic_OutAbPromptIdeal_OutAbPromptRefIdeal (hOutAbPromptIdeal := hOutAbPromptIdeal) (hOutAbPromptRefIdeal := hOutAbPromptRefIdeal)
    ∧ preserves_CqPrompt_CqPromptIdeal
    ∧ algebraic_CqPromptIdeal_CqPromptRefIdeal (hCqPromptIdeal := hCqPromptIdeal) (hCqPromptRefIdeal := hCqPromptRefIdeal)
    ∧ preserves_CkvPrompt0_CkvPrompt0Ideal
    ∧ algebraic_CkvPrompt0Ideal_CkvPrompt0RefIdeal (hCkvPrompt0Ideal := hCkvPrompt0Ideal) (hCkvPrompt0RefIdeal := hCkvPrompt0RefIdeal)
    ∧ preserves_CkvPrompt1_CkvPrompt1Ideal
    ∧ algebraic_CkvPrompt1Ideal_CkvPrompt1RefIdeal (hCkvPrompt1Ideal := hCkvPrompt1Ideal) (hCkvPrompt1RefIdeal := hCkvPrompt1RefIdeal)
    ∧ preserves_CkvPrompt2_CkvPrompt2Ideal
    ∧ algebraic_CkvPrompt2Ideal_CkvPrompt2RefIdeal (hCkvPrompt2Ideal := hCkvPrompt2Ideal) (hCkvPrompt2RefIdeal := hCkvPrompt2RefIdeal)
    ∧ preserves_CkvSample0_CkvSample0Ideal
    ∧ algebraic_CkvSample0Ideal_CkvSample0RefIdeal (hCkvSample0Ideal := hCkvSample0Ideal) (hCkvSample0RefIdeal := hCkvSample0RefIdeal)
    ∧ preserves_CkvSample1_CkvSample1Ideal
    ∧ algebraic_CkvSample1Ideal_CkvSample1RefIdeal (hCkvSample1Ideal := hCkvSample1Ideal) (hCkvSample1RefIdeal := hCkvSample1RefIdeal)
    ∧ preserves_CkvSample2_CkvSample2Ideal
    ∧ algebraic_CkvSample2Ideal_CkvSample2RefIdeal (hCkvSample2Ideal := hCkvSample2Ideal) (hCkvSample2RefIdeal := hCkvSample2RefIdeal)
    ∧ preserves_OutCPrompt_OutCPromptIdeal
    ∧ algebraic_OutCPromptIdeal_OutCPromptRefIdeal (hOutCPromptIdeal := hOutCPromptIdeal) (hOutCPromptRefIdeal := hOutCPromptRefIdeal)
    ∧ preserves_ResLnMix_ResLnMixIdeal
    ∧ algebraic_ResLnMixIdeal_ResLnMixRefIdeal (hResLnMixIdeal := hResLnMixIdeal) (hResLnMixRefIdeal := hResLnMixRefIdeal)
    ∧ preserves_ResLnFfn_ResLnFfnIdeal
    ∧ algebraic_ResLnFfnIdeal_ResLnFfnRefIdeal (hResLnFfnIdeal := hResLnFfnIdeal) (hResLnFfnRefIdeal := hResLnFfnRefIdeal)
-- ==== On_sb_heads.lean ====
abbrev S16384x2048 : Shape := ⟨2, ![16384, 2048]⟩
abbrev S16384x4096 : Shape := ⟨2, ![16384, 4096]⟩
abbrev S32x12 : Shape := ⟨2, ![32, 12]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x2048 .f32) (main_arg1 : FVec F S16384x4096 .f32) (main_arg2 : FVec F S32x12 .f32) : IVec S16384x2048 1 :=
  let main_v0 : IVec S16384x2048 32 := iotaInDim S16384x2048 32 1
  let main_c : IVec S_ 32 := constantI S_ 32 1536#32
  let main_v1 : IVec S16384x2048 32 := broadcastInDim S16384x2048 ![] bcast_S_S16384x2048 main_c
  let main_v2 : IVec S16384x2048 1 := cmpi .sge main_v0 main_v1
  main_v2
-- ==== Pre_finite.lean ====
abbrev S16384x2048 : Shape := ⟨2, ![16384, 2048]⟩
abbrev S16384x4096 : Shape := ⟨2, ![16384, 4096]⟩
abbrev S32x12 : Shape := ⟨2, ![32, 12]⟩
abbrev S16384x512 : Shape := ⟨2, ![16384, 512]⟩
abbrev S_ : Shape := ⟨0, ![]⟩

class Facts : Prop where
  slices_S16384x2048_S16384x512_0_1536 : S16384x2048.Slices ![0, 1536] S16384x512
  bcast_S_S16384x512 : S_.BroadcastsInDim S16384x512 (![] : Fin 0 → Fin S16384x512.rank)
  slices_S16384x4096_S16384x512_0_1536 : S16384x4096.Slices ![0, 1536] S16384x512

variable [Facts]

def fn {F : FTy → Type} [FloatOps F] (main_arg0 : FVec F S16384x2048 .f32) (main_arg1 : FVec F S16384x4096 .f32) (main_arg2 : FVec F S32x12 .f32) : IVec S16384x512 1 :=
  let main_v0 : FVec F S16384x512 .f32 := (extractStridedSlice S16384x512 ![0, 1536] · slices_S16384x2048_S16384x512_0_1536) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extractStridedSlice S16384x512 ![0, 1536] · slices_S16384x4096_S16384x512_0_1536) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : IVec S16384x512 1 := andi main_v3 main_v7
  main_v8
-- ==== Pre_tables_in_range.lean ====
abbrev S40960x2048 : Shape := ⟨2, ![40960, 2048]⟩
abbrev S160 : Shape := ⟨1, ![160]⟩
abbrev S1 : Shape := ⟨1, ![1]⟩
abbrev S40960x1 : Shape := ⟨2, ![40960, 1]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S40960x2048 .f32) (main_arg1 : IVec S160 32) (main_arg2 : IVec S1 32) (main_arg3 : FVec F S40960x1 .f32) (main_arg4 : FVec F S32x2048x512 .f32) (main_arg5 : FVec F S32x2048x512 .f32) (main_arg6 : FVec F S32x512x2048 .f32) : IVec S160 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  main_v4
-- ==== AbPrompt.lean ====
abbrev S16384x2048 : Shape := ⟨2, ![16384, 2048]⟩
abbrev S16384x4096 : Shape := ⟨2, ![16384, 4096]⟩
abbrev S32x12 : Shape := ⟨2, ![32, 12]⟩
abbrev S256 : Shape := ⟨1, ![256]⟩
abbrev S3 : Shape := ⟨1, ![3]⟩
abbrev S3x1x1 : Shape := ⟨3, ![3, 1, 1]⟩
abbrev S_ : Shape := ⟨0, ![]⟩
abbrev S1x256x1 : Shape := ⟨3, ![1, 256, 1]⟩
abbrev S3x256x1 : Shape := ⟨3, ![3, 256, 1]⟩
abbrev S1x1x256 : Shape := ⟨3, ![1, 1, 256]⟩
abbrev S3x256x256 : Shape := ⟨3, ![3, 256, 256]⟩
abbrev S3x256x256x1 : Shape := ⟨4, ![3, 256, 256, 1]⟩
abbrev S3x256x256x12 : Shape := ⟨4, ![3, 256, 256, 12]⟩
abbrev S12x3x256x256 : Shape := ⟨4, ![12, 3, 256, 256]⟩
abbrev S256x128 : Shape := ⟨2, ![256, 128]⟩
abbrev S2048x128 : Shape := ⟨2, ![2048, 128]⟩
abbrev S1x3x256x256 : Shape := ⟨4, ![1, 3, 256, 256]⟩
abbrev S128x128 : Shape := ⟨2, ![128, 128]⟩
abbrev S256x256 : Shape := ⟨2, ![256, 256]⟩
abbrev S8x256x128 : Shape := ⟨3, ![8, 256, 128]⟩
abbrev S8x128 : Shape := ⟨2, ![8, 128]⟩
abbrev S256x1 : Shape := ⟨2, ![256, 1]⟩
abbrev S1x1x256x256 : Shape := ⟨4, ![1, 1, 256, 256]⟩

abbrev nBuf : Space → Nat
  | .hbm => 56
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S32x12, .f32⟩
  | .hbm, ⟨3, _⟩ => ⟨S256, .i32⟩
  | .hbm, ⟨4, _⟩ => ⟨S3, .i32⟩
  | .hbm, ⟨5, _⟩ => ⟨S3x1x1, .i32⟩
  | .hbm, ⟨6, _⟩ => ⟨S_, .i32⟩
  | .hbm, ⟨7, _⟩ => ⟨S3x1x1, .i32⟩
  | .hbm, ⟨8, _⟩ => ⟨S3x1x1, .i32⟩
  | .hbm, ⟨9, _⟩ => ⟨S1x256x1, .i32⟩
  | .hbm, ⟨10, _⟩ => ⟨S3x256x1, .i32⟩
  | .hbm, ⟨11, _⟩ => ⟨S3x256x1, .i32⟩
  | .hbm, ⟨12, _⟩ => ⟨S3x256x1, .i32⟩
  | .hbm, ⟨13, _⟩ => ⟨S1x1x256, .i32⟩
  | .hbm, ⟨14, _⟩ => ⟨S3x256x256, .i32⟩
  | .hbm, ⟨15, _⟩ => ⟨S3x256x256, .i32⟩
  | .hbm, ⟨16, _⟩ => ⟨S3x256x256, .i32⟩
  | .hbm, ⟨17, _⟩ => ⟨S_, .i32⟩
  | .hbm, ⟨18, _⟩ => ⟨S3x256x256, .i32⟩
  | .hbm, ⟨19, _⟩ => ⟨S3x256x256, .i32⟩
  | .hbm, ⟨20, _⟩ => ⟨S_, .i32⟩
  | .hbm, ⟨21, _⟩ => ⟨S3x256x256, .i32⟩
  | .hbm, ⟨22, _⟩ => ⟨S3x256x256, .i32⟩
  | .hbm, ⟨23, _⟩ => ⟨S3x256x256, .f32⟩
  | .hbm, ⟨24, _⟩ => ⟨S_, .f32⟩
  | .hbm, ⟨25, _⟩ => ⟨S3x256x256, .f32⟩
  | .hbm, ⟨26, _⟩ => ⟨S3x256x256, .f32⟩
  | .hbm, ⟨27, _⟩ => ⟨S3x256x256, .f32⟩
  | .hbm, ⟨28, _⟩ => ⟨S_, .f32⟩
  | .hbm, ⟨29, _⟩ => ⟨S3x256x256, .f32⟩
  | .hbm, ⟨30, _⟩ => ⟨S3x256x256, .f32⟩
  | .hbm, ⟨31, _⟩ => ⟨S_, .f32⟩
  | .hbm, ⟨32, _⟩ => ⟨S3x256x256, .f32⟩
  | .hbm, ⟨33, _⟩ => ⟨S3x256x256, .f32⟩
  | .hbm, ⟨34, _⟩ => ⟨S3x256x256, .i32⟩
  | .hbm, ⟨35, _⟩ => ⟨S_, .i32⟩
  | .hbm, ⟨36, _⟩ => ⟨S3x256x256, .i32⟩
  | .hbm, ⟨37, _⟩ => ⟨S3x256x256, .i32⟩
  | .hbm, ⟨38, _⟩ => ⟨S_, .i32⟩
  | .hbm, ⟨39, _⟩ => ⟨S3x256x256, .i32⟩
  | .hbm, ⟨40, _⟩ => ⟨S3x256x256, .i1⟩
  | .hbm, ⟨41, _⟩ => ⟨S_, .i32⟩
  | .hbm, ⟨42, _⟩ => ⟨S3x256x256, .i32⟩
  | .hbm, ⟨43, _⟩ => ⟨S3x256x256, .i32⟩
  | .hbm, ⟨44, _⟩ => ⟨S3x256x256, .i32⟩
  | .hbm, ⟨45, _⟩ => ⟨S_, .i32⟩
  | .hbm, ⟨46, _⟩ => ⟨S3x256x256, .i32⟩
  | .hbm, ⟨47, _⟩ => ⟨S3x256x256, .i1⟩
  | .hbm, ⟨48, _⟩ => ⟨S_, .i32⟩
  | .hbm, ⟨49, _⟩ => ⟨S3x256x256, .i32⟩
  | .hbm, ⟨50, _⟩ => ⟨S3x256x256, .i32⟩
  | .hbm, ⟨51, _⟩ => ⟨S3x256x256, .i32⟩
  | .hbm, ⟨52, _⟩ => ⟨S3x256x256x1, .i32⟩
  | .hbm, ⟨53, _⟩ => ⟨S3x256x256x12, .f32⟩
  | .hbm, ⟨54, _⟩ => ⟨S12x3x256x256, .f32⟩
  | .hbm, ⟨55, _⟩ => ⟨S16384x2048, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x3x256x256, .f32⟩
  | .local _ .vmem, ⟨7, _⟩ => ⟨S1x3x256x256, .f32⟩
  | .local _ .vmem, ⟨8, _⟩ => ⟨S256x128, .f32⟩
  | .local _ .vmem, ⟨9, _⟩ => ⟨S256x128, .f32⟩
  | .local _ .vmem, ⟨10, _⟩ => ⟨S128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 8], ![false, false, false]⟩

def k0_cond1 (i : grid0.Coords) : BitVec 1 :=
  let arg1 : BitVec 32 := BitVec.ofNat 32 (i 1).val
  let c12_i32 : BitVec 32 := 12#32
  let v2 : BitVec 1 := Scalar.cmpi .slt arg1 c12_i32
  let v3 : BitVec 32 := Scalar.extui v2
  let c0_i32 : BitVec 32 := 0#32
  let v4 : BitVec 1 := Scalar.cmpi .ne v3 c0_i32
  v4

def k0_mult1 (i : grid0.Coords) : BitVec 32 :=
  let arg2 : BitVec 32 := BitVec.ofNat 32 (i 2).val
  let c256_i32 : BitVec 32 := 256#32
  let v229 : BitVec 32 := Scalar.muli arg2 c256_i32
  v229
def k0_off1 (i : grid0.Coords) : Fin 2 → Nat :=
  let arg2 : BitVec 32 := BitVec.ofNat 32 (i 2).val
  let c256_i32 : BitVec 32 := 256#32
  let v229 : BitVec 32 := Scalar.muli arg2 c256_i32
  let v230 : BitVec 32 := v229
  let v231 : Index := Scalar.indexCast v230
  let c0_74 : Index := 0#32
  ![v231.toNat, 0]
@[reducible] def k0_t1_loop (i : grid0.Coords) : Scf.Loop 32 :=
  let c0_i32_85 : BitVec 32 := 0#32
  let arg2 : BitVec 32 := BitVec.ofNat 32 (i 2).val
  let v253 : BitVec 32 := Scalar.subi arg2 c0_i32_85
  let c1_i32_86 : BitVec 32 := 1#32
  let v255 : BitVec 32 := Scalar.divsi v253 c1_i32_86
  let v256 : BitVec 32 := Scalar.muli v255 c1_i32_86
  let v257 : BitVec 32 := Scalar.addi c0_i32_85 v256
  let c1_i32_87 : BitVec 32 := 1#32
  ⟨c0_i32_85, v257, c1_i32_87⟩
def k0_mult2 (i : grid0.Coords) (k0_t1 : Fin (k0_t1_loop i).trips) : BitVec 32 :=
  let c0_i32_85 : BitVec 32 := 0#32
  let c1_i32_87 : BitVec 32 := 1#32
  let arg9 : BitVec 32 := Scf.iv c0_i32_85 c1_i32_87 k0_t1
  let c256_i32_91 : BitVec 32 := 256#32
  let v263 : BitVec 32 := Scalar.muli arg9 c256_i32_91
  v263
def k0_off2 (i : grid0.Coords) (k0_t1 : Fin (k0_t1_loop i).trips) : Fin 2 → Nat :=
  let c0_i32_85 : BitVec 32 := 0#32
  let c1_i32_87 : BitVec 32 := 1#32
  let arg9 : BitVec 32 := Scf.iv c0_i32_85 c1_i32_87 k0_t1
  let c256_i32_91 : BitVec 32 := 256#32
  let v263 : BitVec 32 := Scalar.muli arg9 c256_i32_91
  let v264 : BitVec 32 := v263
  let v265 : Index := Scalar.indexCast v264
  let c0_92 : Index := 0#32
  ![v265.toNat, 0]
def k0_off3 (i : grid0.Coords) (k0_t1 : Fin (k0_t1_loop i).trips) : Fin 4 → Nat :=
  let c0_96 : Index := 0#32
  let arg2 : BitVec 32 := BitVec.ofNat 32 (i 2).val
  let c0_i32_85 : BitVec 32 := 0#32
  let c1_i32_87 : BitVec 32 := 1#32
  let arg9 : BitVec 32 := Scf.iv c0_i32_85 c1_i32_87 k0_t1
  let v272 : BitVec 32 := Scalar.subi arg2 arg9
  let c2_i32_95 : BitVec 32 := 2#32
  let v273 : BitVec 32 := Scalar.minsi v272 c2_i32_95
  let v274 : Index := Scalar.indexCast v273
  let c0_97 : Index := 0#32
  let c0_98 : Index := 0#32
  ![0, v274.toNat, 0, 0]
@[reducible] def k0_t2_loop (i : grid0.Coords) : Scf.Loop 32 :=
  let c0_i32_85 : BitVec 32 := 0#32
  let arg2 : BitVec 32 := BitVec.ofNat 32 (i 2).val
  let v253 : BitVec 32 := Scalar.subi arg2 c0_i32_85
  let c1_i32_86 : BitVec 32 := 1#32
  let v255 : BitVec 32 := Scalar.divsi v253 c1_i32_86
  let v256 : BitVec 32 := Scalar.muli v255 c1_i32_86
  let v257 : BitVec 32 := Scalar.addi c0_i32_85 v256
  let v254 : BitVec 32 := Scalar.addi c0_i32_85 v253
  let c1_i32_88 : BitVec 32 := 1#32
  ⟨v257, v254, c1_i32_88⟩
def k0_mult3 (i : grid0.Coords) (k0_t2 : Fin (k0_t2_loop i).trips) : BitVec 32 :=
  let c0_i32_85 : BitVec 32 := 0#32
  let arg2 : BitVec 32 := BitVec.ofNat 32 (i 2).val
  let v253 : BitVec 32 := Scalar.subi arg2 c0_i32_85
  let c1_i32_86 : BitVec 32 := 1#32
  let v255 : BitVec 32 := Scalar.divsi v253 c1_i32_86
  let v256 : BitVec 32 := Scalar.muli v255 c1_i32_86
  let v257 : BitVec 32 := Scalar.addi c0_i32_85 v256
  let c1_i32_88 : BitVec 32 := 1#32
  let arg9 : BitVec 32 := Scf.iv v257 c1_i32_88 k0_t2
  let c256_i32_91 : BitVec 32 := 256#32
  let v263 : BitVec 32 := Scalar.muli arg9 c256_i32_91
  v263
def k0_off4 (i : grid0.Coords) (k0_t2 : Fin (k0_t2_loop i).trips) : Fin 2 → Nat :=
  let c0_i32_85 : BitVec 32 := 0#32
  let arg2 : BitVec 32 := BitVec.ofNat 32 (i 2).val
  let v253 : BitVec 32 := Scalar.subi arg2 c0_i32_85
  let c1_i32_86 : BitVec 32 := 1#32
  let v255 : BitVec 32 := Scalar.divsi v253 c1_i32_86
  let v256 : BitVec 32 := Scalar.muli v255 c1_i32_86
  let v257 : BitVec 32 := Scalar.addi c0_i32_85 v256
  let c1_i32_88 : BitVec 32 := 1#32
  let arg9 : BitVec 32 := Scf.iv v257 c1_i32_88 k0_t2
  let c256_i32_91 : BitVec 32 := 256#32
  let v263 : BitVec 32 := Scalar.muli arg9 c256_i32_91
  let v264 : BitVec 32 := v263
  let v265 : Index := Scalar.indexCast v264
  let c0_92 : Index := 0#32
  ![v265.toNat, 0]
def k0_off5 (i : grid0.Coords) (k0_t2 : Fin (k0_t2_loop i).trips) : Fin 4 → Nat :=
  let c0_96 : Index := 0#32
  let arg2 : BitVec 32 := BitVec.ofNat 32 (i 2).val
  let c0_i32_85 : BitVec 32 := 0#32
  let v253 : BitVec 32 := Scalar.subi arg2 c0_i32_85
  let c1_i32_86 : BitVec 32 := 1#32
  let v255 : BitVec 32 := Scalar.divsi v253 c1_i32_86
  let v256 : BitVec 32 := Scalar.muli v255 c1_i32_86
  let v257 : BitVec 32 := Scalar.addi c0_i32_85 v256
  let c1_i32_88 : BitVec 32 := 1#32
  let arg9 : BitVec 32 := Scf.iv v257 c1_i32_88 k0_t2
  let v272 : BitVec 32 := Scalar.subi arg2 arg9
  let c2_i32_95 : BitVec 32 := 2#32
  let v273 : BitVec 32 := Scalar.minsi v272 c2_i32_95
  let v274 : Index := Scalar.indexCast v273
  let c0_97 : Index := 0#32
  let c0_98 : Index := 0#32
  ![0, v274.toNat, 0, 0]
def k0_cond3 (i : grid0.Coords) : BitVec 1 :=
  let arg1 : BitVec 32 := BitVec.ofNat 32 (i 1).val
  let c12_i32_0 : BitVec 32 := 12#32
  let v5 : BitVec 1 := Scalar.cmpi .sge arg1 c12_i32_0
  let v6 : BitVec 32 := Scalar.extui v5
  let c0_i32_1 : BitVec 32 := 0#32
  let v7 : BitVec 1 := Scalar.cmpi .ne v6 c0_i32_1
  v7

def k0_mult4 (i : grid0.Coords) : BitVec 32 :=
  let arg2 : BitVec 32 := BitVec.ofNat 32 (i 2).val
  let c256_i32 : BitVec 32 := 256#32
  let v20 : BitVec 32 := Scalar.muli arg2 c256_i32
  v20
def k0_off6 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v22 : Index := Scalar.indexCast v21
  let c0_7 : Index := 0#32
  ![v22.toNat, 0]
@[reducible] def k0_t3_loop (i : grid0.Coords) : Scf.Loop 32 :=
  let c0_i32_19 : BitVec 32 := 0#32
  let arg2 : BitVec 32 := BitVec.ofNat 32 (i 2).val
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let c1_i32_20 : BitVec 32 := 1#32
  ⟨c0_i32_19, v65, c1_i32_20⟩
def k0_mult5 (i : grid0.Coords) (k0_t3 : Fin (k0_t3_loop i).trips) : BitVec 32 :=
  let arg2 : BitVec 32 := BitVec.ofNat 32 (i 2).val
  let c1_i32_24 : BitVec 32 := 1#32
  let v69 : BitVec 32 := Scalar.subi arg2 c1_i32_24
  let c0_i32_19 : BitVec 32 := 0#32
  let c1_i32_20 : BitVec 32 := 1#32
  let arg9 : BitVec 32 := Scf.iv c0_i32_19 c1_i32_20 k0_t3
  let v70 : BitVec 32 := Scalar.subi v69 arg9
  let c256_i32_25 : BitVec 32 := 256#32
  let v71 : BitVec 32 := Scalar.muli v70 c256_i32_25
  v71
def k0_off7 (i : grid0.Coords) (k0_t3 : Fin (k0_t3_loop i).trips) : Fin 2 → Nat :=
  let arg2 : BitVec 32 := BitVec.ofNat 32 (i 2).val
  let c1_i32_24 : BitVec 32 := 1#32
  let v69 : BitVec 32 := Scalar.subi arg2 c1_i32_24
  let c0_i32_19 : BitVec 32 := 0#32
  let c1_i32_20 : BitVec 32 := 1#32
  let arg9 : BitVec 32 := Scf.iv c0_i32_19 c1_i32_20 k0_t3
  let v70 : BitVec 32 := Scalar.subi v69 arg9
  let c256_i32_25 : BitVec 32 := 256#32
  let v71 : BitVec 32 := Scalar.muli v70 c256_i32_25
  let v72 : BitVec 32 := v71
  let v73 : Index := Scalar.indexCast v72
  let c0_26 : Index := 0#32
  ![v73.toNat, 0]
@[reducible] def k0_t4_loop (i : grid0.Coords) : Scf.Loop 32 :=
  let c0_i32_19 : BitVec 32 := 0#32
  let arg2 : BitVec 32 := BitVec.ofNat 32 (i 2).val
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let v62 : BitVec 32 := Scalar.addi c0_i32_19 v61
  let c1_i32_21 : BitVec 32 := 1#32
  ⟨v65, v62, c1_i32_21⟩
def k0_mult6 (i : grid0.Coords) (k0_t4 : Fin (k0_t4_loop i).trips) : BitVec 32 :=
  let arg2 : BitVec 32 := BitVec.ofNat 32 (i 2).val
  let c1_i32_24 : BitVec 32 := 1#32
  let v69 : BitVec 32 := Scalar.subi arg2 c1_i32_24
  let c0_i32_19 : BitVec 32 := 0#32
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let c1_i32_21 : BitVec 32 := 1#32
  let arg9 : BitVec 32 := Scf.iv v65 c1_i32_21 k0_t4
  let v70 : BitVec 32 := Scalar.subi v69 arg9
  let c256_i32_25 : BitVec 32 := 256#32
  let v71 : BitVec 32 := Scalar.muli v70 c256_i32_25
  v71
def k0_off8 (i : grid0.Coords) (k0_t4 : Fin (k0_t4_loop i).trips) : Fin 2 → Nat :=
  let arg2 : BitVec 32 := BitVec.ofNat 32 (i 2).val
  let c1_i32_24 : BitVec 32 := 1#32
  let v69 : BitVec 32 := Scalar.subi arg2 c1_i32_24
  let c0_i32_19 : BitVec 32 := 0#32
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let c1_i32_21 : BitVec 32 := 1#32
  let arg9 : BitVec 32 := Scf.iv v65 c1_i32_21 k0_t4
  let v70 : BitVec 32 := Scalar.subi v69 arg9
  let c256_i32_25 : BitVec 32 := 256#32
  let v71 : BitVec 32 := Scalar.muli v70 c256_i32_25
  let v72 : BitVec 32 := v71
  let v73 : Index := Scalar.indexCast v72
  let c0_26 : Index := 0#32
  ![v73.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AbPromptRefIdeal.lean ====
abbrev S16384x2048 : Shape := ⟨2, ![16384, 2048]⟩
abbrev S16384x4096 : Shape := ⟨2, ![16384, 4096]⟩
abbrev S32x12 : Shape := ⟨2, ![32, 12]⟩
abbrev S8x2048x2x16x128 : Shape := ⟨5, ![8, 2048, 2, 16, 128]⟩
abbrev S8x2048x16x128 : Shape := ⟨4, ![8, 2048, 16, 128]⟩
abbrev S8x2048x4x128 : Shape := ⟨4, ![8, 2048, 4, 128]⟩
abbrev S8x2048x1x4x128 : Shape := ⟨5, ![8, 2048, 1, 4, 128]⟩
abbrev S8x4x2048x2048 : Shape := ⟨4, ![8, 4, 2048, 2048]⟩
abbrev S_ : Shape := ⟨0, ![]⟩
abbrev S2048 : Shape := ⟨1, ![2048]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S8x4x2048x2047 : Shape := ⟨4, ![8, 4, 2048, 2047]⟩
abbrev S8x4x2048x1 : Shape := ⟨4, ![8, 4, 2048, 1]⟩
abbrev S8x4x128x2048 : Shape := ⟨4, ![8, 4, 128, 2048]⟩
abbrev S8x2048x12x128 : Shape := ⟨4, ![8, 2048, 12, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .f32⟩
  | .hbm, ⟨2, _⟩ => ⟨S32x12, .f32⟩
  | .hbm, ⟨3, _⟩ => ⟨S8x2048x2x16x128, .f32⟩
  | .hbm, ⟨4, _⟩ => ⟨S8x2048x16x128, .f32⟩
  | .hbm, ⟨5, _⟩ => ⟨S8x2048x4x128, .f32⟩
  | .hbm, ⟨6, _⟩ => ⟨S8x2048x1x4x128, .f32⟩
  | .hbm, ⟨7, _⟩ => ⟨S8x2048x4x128, .f32⟩
  | .hbm, ⟨8, _⟩ => ⟨S8x2048x1x4x128, .f32⟩
  | .hbm, ⟨9, _⟩ => ⟨S8x2048x4x128, .f32⟩
  | .hbm, ⟨10, _⟩ => ⟨S8x4x2048x2048, .f32⟩
  | .hbm, ⟨11, _⟩ => ⟨S_, .f32⟩
  | .hbm, ⟨12, _⟩ => ⟨S8x4x2048x2048, .f32⟩
  | .hbm, ⟨13, _⟩ => ⟨S8x4x2048x2048, .f32⟩
  | .hbm, ⟨14, _⟩ => ⟨S2048, .i32⟩
  | .hbm, ⟨15, _⟩ => ⟨S1x1x1x2048, .i32⟩
  | .hbm, ⟨16, _⟩ => ⟨S1x1x2048x1, .i32⟩
  | .hbm, ⟨17, _⟩ => ⟨S1x1x2048x2048, .i32⟩
  | .hbm, ⟨18, _⟩ => ⟨S1x1x2048x2048, .i32⟩
  | .hbm, ⟨19, _⟩ => ⟨S1x1x2048x2048, .i1⟩
  | .hbm, ⟨20, _⟩ => ⟨S8x4x2048x2048, .f32⟩
  | .hbm, ⟨21, _⟩ => ⟨S8x4x2048x2048, .f32⟩
  | .hbm, ⟨22, _⟩ => ⟨S_, .f32⟩
  | .hbm, ⟨23, _⟩ => ⟨S8x4x2048x2048, .f32⟩
  | .hbm, ⟨24, _⟩ => ⟨S8x4x2048x2048, .f32⟩
  | .hbm, ⟨25, _⟩ => ⟨S8x4x2048x2048, .f32⟩
  | .hbm, ⟨26, _⟩ => ⟨S8x4x2048x2048, .f32⟩
  | .hbm, ⟨27, _⟩ => ⟨S8x4x2048x2048, .i1⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S8x4x2048x2048, .f32⟩
  | .hbm, ⟨36, _⟩ => ⟨S8x4x2048x2048, .f32⟩
  | .hbm, ⟨37, _⟩ => ⟨S_, .f32⟩
  | .hbm, ⟨38, _⟩ => ⟨S_, .f32⟩
  | .hbm, ⟨39, _⟩ => ⟨S8x4x2048x2048, .i1⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S_, .f32⟩
  | .hbm, ⟨44, _⟩ => ⟨S8x4x2048x2048, .f32⟩
  | .hbm, ⟨45, _⟩ => ⟨S8x4x2048x2047, .f32⟩
  | .hbm, ⟨46, _⟩ => ⟨S_, .f32⟩
  | .hbm, ⟨47, _⟩ => ⟨S8x4x2048x1, .f32⟩
  | .hbm, ⟨48, _⟩ => ⟨S8x4x2048x2048, .f32⟩
  | .hbm, ⟨49, _⟩ => ⟨S8x4x2048x2048, .f32⟩
  | .hbm, ⟨50, _⟩ => ⟨S_, .f32⟩
  | .hbm, ⟨51, _⟩ => ⟨S8x4x2048x2048, .f32⟩
  | .hbm, ⟨52, _⟩ => ⟨S8x4x2048x2048, .f32⟩
  | .hbm, ⟨53, _⟩ => ⟨S8x4x2048x2048, .f32⟩
  | .hbm, ⟨54, _⟩ => ⟨S8x4x2048x2048, .f32⟩
  | .hbm, ⟨55, _⟩ => ⟨S8x4x2048x2048, .i1⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S8x4x2048x2048, .f32⟩
  | .hbm, ⟨62, _⟩ => ⟨S8x4x2048x2048, .f32⟩
  | .hbm, ⟨63, _⟩ => ⟨S8x4x2048x2048, .f32⟩
  | .hbm, ⟨64, _⟩ => ⟨S8x4x2048x2048, .f32⟩
  | .hbm, ⟨65, _⟩ => ⟨S8x4x2048x2048, .f32⟩
  | .hbm, ⟨66, _⟩ => ⟨S8x4x2048x2048, .f32⟩
  | .hbm, ⟨67, _⟩ => ⟨S_, .f32⟩
  | .hbm, ⟨68, _⟩ => ⟨S_, .f32⟩
  | .hbm, ⟨69, _⟩ => ⟨S8x4x2048x2048, .i1⟩
  | .hbm, ⟨70, _⟩ => ⟨S8x4x2048x2048, .f32⟩
  | .hbm, ⟨71, _⟩ => ⟨S8x4x2048x2048, .f32⟩
  | .hbm, ⟨72, _⟩ => ⟨S8x4x128x2048, .f32⟩
  | .hbm, ⟨73, _⟩ => ⟨S8x2048x4x128, .f32⟩
  | .hbm, ⟨74, _⟩ => ⟨S_, .f32⟩
  | .hbm, ⟨75, _⟩ => ⟨S8x2048x12x128, .f32⟩
  | .hbm, ⟨76, _⟩ => ⟨S8x2048x16x128, .f32⟩
  | .hbm, ⟨77, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_3 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩

abbrev nD : Nat := 1
abbrev τ : Topo := Topo.v7x

variable {F : FTy → Type} [FloatOps F]
-- ==== ExpertFfn.lean ====
abbrev S40960x2048 : Shape := ⟨2, ![40960, 2048]⟩
abbrev S160 : Shape := ⟨1, ![160]⟩
abbrev S1 : Shape := ⟨1, ![1]⟩
abbrev S40960x1 : Shape := ⟨2, ![40960, 1]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 6
  | .vmem => 12
  | .smem => 2
  | _ => 0

abbrev bufTy : (tb : Table) → Fin (tcTables nBuf tb) → BufTy
  | .hbm, ⟨0, _⟩ => ⟨S40960x2048, .f32⟩
  | .hbm, ⟨1, _⟩ => ⟨S40960x1, .f32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertFfnRefIdeal.lean ====
abbrev S40960x2048 : Shape := ⟨2, ![40960, 2048]⟩
abbrev S160 : Shape := ⟨1, ![160]⟩
abbrev S1 : Shape := ⟨1, ![1]⟩
abbrev S40960x1 : Shape := ⟨2, ![40960, 1]⟩
abbrev S32x2048x512 : Shape := ⟨3, ![32, 2048, 512]⟩
abbrev S32x512x2048 : Shape := ⟨3, ![32, 512, 2048]⟩
abbrev S160x256x2048 : Shape := ⟨3, ![160, 256, 2048]⟩
abbrev S_ : Shape := ⟨0, ![]⟩
abbrev S160x1 : Shape := ⟨2, ![160, 1]⟩
abbrev S160x2048x512 : Shape := ⟨3, ![160, 2048, 512]⟩
abbrev S160x256x512 : Shape := ⟨3, ![160, 256, 512]⟩
abbrev S160x512x2048 : Shape := ⟨3, ![160, 512, 2048]⟩
abbrev S160x256 : Shape := ⟨2, ![160, 256]⟩
abbrev S40960 : Shape := ⟨1, ![40960]⟩

abbrev nBuf : Space → Nat
  | .hbm => 63
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S160, .i32⟩
  | .hbm, ⟨2, _⟩ => ⟨S1, .i32⟩
  | .hbm, ⟨3, _⟩ => ⟨S40960x1, .f32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S160x256x2048, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x2048x512, .f32⟩
  | .hbm, ⟨17, _⟩ => ⟨S160x256x512, .f32⟩
  | .hbm, ⟨18, _⟩ => ⟨S160x256x512, .f32⟩
  | .hbm, ⟨19, _⟩ => ⟨S160x256x512, .f32⟩
  | .hbm, ⟨20, _⟩ => ⟨S_, .f32⟩
  | .hbm, ⟨21, _⟩ => ⟨S160x256x512, .f32⟩
  | .hbm, ⟨22, _⟩ => ⟨S160x256x512, .f32⟩
  | .hbm, ⟨23, _⟩ => ⟨S_, .f32⟩
  | .hbm, ⟨24, _⟩ => ⟨S160x256x512, .f32⟩
  | .hbm, ⟨25, _⟩ => ⟨S160x256x512, .f32⟩
  | .hbm, ⟨26, _⟩ => ⟨S160x256x512, .f32⟩
  | .hbm, ⟨27, _⟩ => ⟨S_, .i32⟩
  | .hbm, ⟨28, _⟩ => ⟨S160, .i32⟩
  | .hbm, ⟨29, _⟩ => ⟨S160, .i1⟩
  | .hbm, ⟨30, _⟩ => ⟨S_, .i32⟩
  | .hbm, ⟨31, _⟩ => ⟨S160, .i32⟩
  | .hbm, ⟨32, _⟩ => ⟨S160, .i32⟩
  | .hbm, ⟨33, _⟩ => ⟨S160, .i32⟩
  | .hbm, ⟨34, _⟩ => ⟨S160x1, .i32⟩
  | .hbm, ⟨35, _⟩ => ⟨S160x2048x512, .f32⟩
  | .hbm, ⟨36, _⟩ => ⟨S160x256x512, .f32⟩
  | .hbm, ⟨37, _⟩ => ⟨S160x256x512, .f32⟩
  | .hbm, ⟨38, _⟩ => ⟨S_, .i32⟩
  | .hbm, ⟨39, _⟩ => ⟨S160, .i32⟩
  | .hbm, ⟨40, _⟩ => ⟨S160, .i1⟩
  | .hbm, ⟨41, _⟩ => ⟨S_, .i32⟩
  | .hbm, ⟨42, _⟩ => ⟨S160, .i32⟩
  | .hbm, ⟨43, _⟩ => ⟨S160, .i32⟩
  | .hbm, ⟨44, _⟩ => ⟨S160, .i32⟩
  | .hbm, ⟨45, _⟩ => ⟨S160x1, .i32⟩
  | .hbm, ⟨46, _⟩ => ⟨S160x512x2048, .f32⟩
  | .hbm, ⟨47, _⟩ => ⟨S160x256x2048, .f32⟩
  | .hbm, ⟨48, _⟩ => ⟨S40960x2048, .f32⟩
  | .hbm, ⟨49, _⟩ => ⟨S40960x2048, .f32⟩
  | .hbm, ⟨50, _⟩ => ⟨S40960x2048, .f32⟩
  | .hbm, ⟨51, _⟩ => ⟨S160, .i32⟩
  | .hbm, ⟨52, _⟩ => ⟨S_, .i32⟩
  | .hbm, ⟨53, _⟩ => ⟨S160, .i32⟩
  | .hbm, ⟨54, _⟩ => ⟨S160, .i1⟩
  | .hbm, ⟨55, _⟩ => ⟨S160x256, .i1⟩
  | .hbm, ⟨56, _⟩ => ⟨S40960, .i1⟩
  | .hbm, ⟨57, _⟩ => ⟨S40960x1, .i1⟩
  | .hbm, ⟨58, _⟩ => ⟨S_, .f32⟩
  | .hbm, ⟨59, _⟩ => ⟨S_, .f32⟩
  | .hbm, ⟨60, _⟩ => ⟨S40960x2048, .i1⟩
  | .hbm, ⟨61, _⟩ => ⟨S40960x2048, .f32⟩
  | .hbm, ⟨62, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== KvPrompt.lean ====
abbrev S8x2048x2048 : Shape := ⟨3, ![8, 2048, 2048]⟩
abbrev S1x2048x6144 : Shape := ⟨3, ![1, 2048, 6144]⟩
abbrev S16384x2048 : Shape := ⟨2, ![16384, 2048]⟩
abbrev S2048x6144 : Shape := ⟨2, ![2048, 6144]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x6144, .f32⟩
  | .hbm, ⟨2, _⟩ => ⟨S16384x2048, .f32⟩
  | .hbm, ⟨3, _⟩ => ⟨S2048x6144, .f32⟩
  | .hbm, ⟨4, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c4_i32 : BitVec 32 := 4#32
  let v1 : BitVec 32 := Scalar.addi c4_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvPromptRefIdeal.lean ====
abbrev S8x2048x2048 : Shape := ⟨3, ![8, 2048, 2048]⟩
abbrev S1x2048x6144 : Shape := ⟨3, ![1, 2048, 6144]⟩
abbrev S2048x6144 : Shape := ⟨2, ![2048, 6144]⟩
abbrev S8x2048x6144 : Shape := ⟨3, ![8, 2048, 6144]⟩
abbrev S8x2048x3x16x128 : Shape := ⟨5, ![8, 2048, 3, 16, 128]⟩
abbrev S8x2048x2x16x128 : Shape := ⟨5, ![8, 2048, 2, 16, 128]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x6144, .f32⟩
  | .hbm, ⟨2, _⟩ => ⟨S2048x6144, .f32⟩
  | .hbm, ⟨3, _⟩ => ⟨S8x2048x6144, .f32⟩
  | .hbm, ⟨4, _⟩ => ⟨S8x2048x3x16x128, .f32⟩
  | .hbm, ⟨5, _⟩ => ⟨S8x2048x2x16x128, .f32⟩
  | .hbm, ⟨6, _⟩ => ⟨S16384x4096, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvSample.lean ====
abbrev S128x8x2048 : Shape := ⟨3, ![128, 8, 2048]⟩
abbrev S1x2048x6144 : Shape := ⟨3, ![1, 2048, 6144]⟩
abbrev S1024x2048 : Shape := ⟨2, ![1024, 2048]⟩
abbrev S2048x6144 : Shape := ⟨2, ![2048, 6144]⟩
abbrev S1024x4096 : Shape := ⟨2, ![1024, 4096]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S128x8x2048, .f32⟩
  | .hbm, ⟨1, _⟩ => ⟨S1x2048x6144, .f32⟩
  | .hbm, ⟨2, _⟩ => ⟨S1024x2048, .f32⟩
  | .hbm, ⟨3, _⟩ => ⟨S2048x6144, .f32⟩
  | .hbm, ⟨4, _⟩ => ⟨S1024x4096, .f32⟩
  | .local _ .vmem, ⟨0, _⟩ => ⟨S1024x2048, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c4_i32 : BitVec 32 := 4#32
  let v1 : BitVec 32 := Scalar.addi c4_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvSampleRefIdeal.lean ====
abbrev S128x8x2048 : Shape := ⟨3, ![128, 8, 2048]⟩
abbrev S1x2048x6144 : Shape := ⟨3, ![1, 2048, 6144]⟩
abbrev S2048x6144 : Shape := ⟨2, ![2048, 6144]⟩
abbrev S128x8x6144 : Shape := ⟨3, ![128, 8, 6144]⟩
abbrev S128x8x3x16x128 : Shape := ⟨5, ![128, 8, 3, 16, 128]⟩
abbrev S128x8x2x16x128 : Shape := ⟨5, ![128, 8, 2, 16, 128]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048x6144, .f32⟩
  | .hbm, ⟨2, _⟩ => ⟨S2048x6144, .f32⟩
  | .hbm, ⟨3, _⟩ => ⟨S128x8x6144, .f32⟩
  | .hbm, ⟨4, _⟩ => ⟨S128x8x3x16x128, .f32⟩
  | .hbm, ⟨5, _⟩ => ⟨S128x8x2x16x128, .f32⟩
  | .hbm, ⟨6, _⟩ => ⟨S1024x4096, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QPrompt.lean ====
abbrev S16384x2048 : Shape := ⟨2, ![16384, 2048]⟩
abbrev S1x2048x6144 : Shape := ⟨3, ![1, 2048, 6144]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x6144, .f32⟩
  | .hbm, ⟨2, _⟩ => ⟨S2048x6144, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QPromptRefIdeal.lean ====
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩
abbrev S16384x3x16x128 : Shape := ⟨4, ![16384, 3, 16, 128]⟩
abbrev S16384x1x16x128 : Shape := ⟨4, ![16384, 1, 16, 128]⟩
abbrev S16384x16x128 : Shape := ⟨3, ![16384, 16, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x6144, .f32⟩
  | .hbm, ⟨2, _⟩ => ⟨S2048x6144, .f32⟩
  | .hbm, ⟨3, _⟩ => ⟨S16384x6144, .f32⟩
  | .hbm, ⟨4, _⟩ => ⟨S16384x3x16x128, .f32⟩
  | .hbm, ⟨5, _⟩ => ⟨S16384x1x16x128, .f32⟩
  | .hbm, ⟨6, _⟩ => ⟨S16384x16x128, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutAbPrompt.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x2048, .f32⟩
  | .hbm, ⟨2, _⟩ => ⟨S2048x2048, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAbPromptRefIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x2048, .f32⟩
  | .hbm, ⟨2, _⟩ => ⟨S2048x2048, .f32⟩
  | .hbm, ⟨3, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CqPrompt.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1536 : Shape := ⟨2, ![16384, 1536]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1536, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CqPromptRefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S16384x3x12x128 : Shape := ⟨4, ![16384, 3, 12, 128]⟩
abbrev S16384x1x12x128 : Shape := ⟨4, ![16384, 1, 12, 128]⟩
abbrev S16384x12x128 : Shape := ⟨3, ![16384, 12, 128]⟩
abbrev S16384x1536 : Shape := ⟨2, ![16384, 1536]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x4608, .f32⟩
  | .hbm, ⟨4, _⟩ => ⟨S16384x3x12x128, .f32⟩
  | .hbm, ⟨5, _⟩ => ⟨S16384x1x12x128, .f32⟩
  | .hbm, ⟨6, _⟩ => ⟨S16384x12x128, .f32⟩
  | .hbm, ⟨7, _⟩ => ⟨S16384x1536, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== CkvPrompt0.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c3_i32_0 : BitVec 32 := 3#32
  let v1 : BitVec 32 := Scalar.addi c3_i32_0 v0
  let c0_i32 : BitVec 32 := 0#32
  let c0_i32_1 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt0Ideal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c3_i32_0 : BitVec 32 := 3#32
  let v1 : BitVec 32 := Scalar.addi c3_i32_0 v0
  let c0_i32 : BitVec 32 := 0#32
  let c0_i32_1 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt0RefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S16384x3x12x128 : Shape := ⟨4, ![16384, 3, 12, 128]⟩
abbrev S16384x2x4x128 : Shape := ⟨4, ![16384, 2, 4, 128]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x4608, .f32⟩
  | .hbm, ⟨4, _⟩ => ⟨S16384x3x12x128, .f32⟩
  | .hbm, ⟨5, _⟩ => ⟨S16384x2x4x128, .f32⟩
  | .hbm, ⟨6, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CkvPrompt1.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c4_i32 : BitVec 32 := 4#32
  let v1 : BitVec 32 := Scalar.addi c4_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt1Ideal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c4_i32 : BitVec 32 := 4#32
  let v1 : BitVec 32 := Scalar.addi c4_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt1RefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S16384x3x12x128 : Shape := ⟨4, ![16384, 3, 12, 128]⟩
abbrev S16384x2x4x128 : Shape := ⟨4, ![16384, 2, 4, 128]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x4608, .f32⟩
  | .hbm, ⟨4, _⟩ => ⟨S16384x3x12x128, .f32⟩
  | .hbm, ⟨5, _⟩ => ⟨S16384x2x4x128, .f32⟩
  | .hbm, ⟨6, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CkvPrompt2.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c5_i32 : BitVec 32 := 5#32
  let v1 : BitVec 32 := Scalar.addi c5_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt2Ideal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c5_i32 : BitVec 32 := 5#32
  let v1 : BitVec 32 := Scalar.addi c5_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvPrompt2RefIdeal.lean ====
abbrev S16384x2048 : Shape := ⟨2, ![16384, 2048]⟩
abbrev S1x2048x4608 : Shape := ⟨3, ![1, 2048, 4608]⟩
abbrev S2048x4608 : Shape := ⟨2, ![2048, 4608]⟩
abbrev S16384x4608 : Shape := ⟨2, ![16384, 4608]⟩
abbrev S16384x3x12x128 : Shape := ⟨4, ![16384, 3, 12, 128]⟩
abbrev S16384x2x4x128 : Shape := ⟨4, ![16384, 2, 4, 128]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4608, .f32⟩
  | .hbm, ⟨2, _⟩ => ⟨S2048x4608, .f32⟩
  | .hbm, ⟨3, _⟩ => ⟨S16384x4608, .f32⟩
  | .hbm, ⟨4, _⟩ => ⟨S16384x3x12x128, .f32⟩
  | .hbm, ⟨5, _⟩ => ⟨S16384x2x4x128, .f32⟩
  | .hbm, ⟨6, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CkvSample0.lean ====
abbrev S1024x2048 : Shape := ⟨2, ![1024, 2048]⟩
abbrev S1x2048x4608 : Shape := ⟨3, ![1, 2048, 4608]⟩
abbrev S2048x4608 : Shape := ⟨2, ![2048, 4608]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x1024, .f32⟩
  | .local _ .vmem, ⟨0, _⟩ => ⟨S1024x2048, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c3_i32_0 : BitVec 32 := 3#32
  let v1 : BitVec 32 := Scalar.addi c3_i32_0 v0
  let c0_i32 : BitVec 32 := 0#32
  let c0_i32_1 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvSample0Ideal.lean ====
  let c3_i32_0 : BitVec 32 := 3#32
  let v1 : BitVec 32 := Scalar.addi c3_i32_0 v0
  let c0_i32_1 : BitVec 32 := 0#32
-- ==== CkvSample0RefIdeal.lean ====
abbrev S1024x2048 : Shape := ⟨2, ![1024, 2048]⟩
abbrev S1x2048x4608 : Shape := ⟨3, ![1, 2048, 4608]⟩
abbrev S2048x4608 : Shape := ⟨2, ![2048, 4608]⟩
abbrev S1024x4608 : Shape := ⟨2, ![1024, 4608]⟩
abbrev S1024x3x12x128 : Shape := ⟨4, ![1024, 3, 12, 128]⟩
abbrev S1024x2x4x128 : Shape := ⟨4, ![1024, 2, 4, 128]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x4608, .f32⟩
  | .hbm, ⟨4, _⟩ => ⟨S1024x3x12x128, .f32⟩
  | .hbm, ⟨5, _⟩ => ⟨S1024x2x4x128, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CkvSample1.lean ====
abbrev S1024x2048 : Shape := ⟨2, ![1024, 2048]⟩
abbrev S1x2048x4608 : Shape := ⟨3, ![1, 2048, 4608]⟩
abbrev S2048x4608 : Shape := ⟨2, ![2048, 4608]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x1024, .f32⟩
  | .local _ .vmem, ⟨0, _⟩ => ⟨S1024x2048, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c4_i32 : BitVec 32 := 4#32
  let v1 : BitVec 32 := Scalar.addi c4_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvSample1Ideal.lean ====
  let c4_i32 : BitVec 32 := 4#32
  let v1 : BitVec 32 := Scalar.addi c4_i32 v0
-- ==== CkvSample1RefIdeal.lean ====
abbrev S1024x2048 : Shape := ⟨2, ![1024, 2048]⟩
abbrev S1x2048x4608 : Shape := ⟨3, ![1, 2048, 4608]⟩
abbrev S2048x4608 : Shape := ⟨2, ![2048, 4608]⟩
abbrev S1024x4608 : Shape := ⟨2, ![1024, 4608]⟩
abbrev S1024x3x12x128 : Shape := ⟨4, ![1024, 3, 12, 128]⟩
abbrev S1024x2x4x128 : Shape := ⟨4, ![1024, 2, 4, 128]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x4608, .f32⟩
  | .hbm, ⟨4, _⟩ => ⟨S1024x3x12x128, .f32⟩
  | .hbm, ⟨5, _⟩ => ⟨S1024x2x4x128, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CkvSample2.lean ====
abbrev S1024x2048 : Shape := ⟨2, ![1024, 2048]⟩
abbrev S1x2048x4608 : Shape := ⟨3, ![1, 2048, 4608]⟩
abbrev S2048x4608 : Shape := ⟨2, ![2048, 4608]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x1024, .f32⟩
  | .local _ .vmem, ⟨0, _⟩ => ⟨S1024x2048, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c5_i32 : BitVec 32 := 5#32
  let v1 : BitVec 32 := Scalar.addi c5_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CkvSample2RefIdeal.lean ====
abbrev S1024x2048 : Shape := ⟨2, ![1024, 2048]⟩
abbrev S1x2048x4608 : Shape := ⟨3, ![1, 2048, 4608]⟩
abbrev S2048x4608 : Shape := ⟨2, ![2048, 4608]⟩
abbrev S1024x4608 : Shape := ⟨2, ![1024, 4608]⟩
abbrev S1024x3x12x128 : Shape := ⟨4, ![1024, 3, 12, 128]⟩
abbrev S1024x2x4x128 : Shape := ⟨4, ![1024, 2, 4, 128]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048x4608, .f32⟩
  | .hbm, ⟨2, _⟩ => ⟨S2048x4608, .f32⟩
  | .hbm, ⟨3, _⟩ => ⟨S1024x4608, .f32⟩
  | .hbm, ⟨4, _⟩ => ⟨S1024x3x12x128, .f32⟩
  | .hbm, ⟨5, _⟩ => ⟨S1024x2x4x128, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutCPrompt.lean ====
abbrev S16384x512 : Shape := ⟨2, ![16384, 512]⟩
abbrev S1x512x2048 : Shape := ⟨3, ![1, 512, 2048]⟩
abbrev S512x2048 : Shape := ⟨2, ![512, 2048]⟩
abbrev S16384x2048 : Shape := ⟨2, ![16384, 2048]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S1x512x2048, .f32⟩
  | .hbm, ⟨2, _⟩ => ⟨S512x2048, .f32⟩
  | .hbm, ⟨3, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutCPromptRefIdeal.lean ====
abbrev S16384x512 : Shape := ⟨2, ![16384, 512]⟩
abbrev S1x512x2048 : Shape := ⟨3, ![1, 512, 2048]⟩
abbrev S512x2048 : Shape := ⟨2, ![512, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1x512x2048, .f32⟩
  | .hbm, ⟨2, _⟩ => ⟨S512x2048, .f32⟩
  | .hbm, ⟨3, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ResLnMix.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResLnMixRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== ResLnFfn.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResLnFfnRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.AbFrame.lean ====
/-
  Hand-written. The run of the prompt attention's kernel: the first heads' blocks end at something, the stick-breaking heads'
  blocks at the value of their two counted loops, and the arguments end unchanged.
-/
module

public import proofs.«01_k».proof.Proof.Gen.AbPromptIdeal.Frame
public import proofs.«01_k».proof.Proof.Gen.AbPromptIdeal.Skeleton
public import proofs.«01_k».proof.Proof.Gen.AbPromptIdeal.Loops
public import Idealize.ShloMosaic.Lib.Pipeline.FrameBody
public import Idealize.ShloMosaic.Lib.Pipeline.Value
public import Idealize.ShloMosaic.Lib.Pipeline.ArrRel
public import Idealize.ShloMosaic.Lib.Pipeline.DatRel
public import Idealize.ShloMosaic.Lib.Pointwise.Index
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ab

open Cert.AbPromptIdeal Cert.AbPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The second branch is taken exactly where the first is not. -/
theorem cond3_iff (i : grid0.Coords) : k0_cond3 i = 1#1 ↔ ¬ k0_cond1 i = 1#1 := by
  unfold k0_cond1 k0_cond3
  simp only [Scalar.cmpi, IntOp.cmpi, Scalar.extui]
  generalize BitVec.ofNat 32 (i 1).val = a
  by_cases h : a.slt 12#32
  · simp [h, BitVec.sle_eq_not_slt]
  · simp [h, BitVec.sle_eq_not_slt]

theorem hz2 : (![0, 0] : Fin 2 → Nat) = fun _ => 0 := funext fun a => by fin_cases a <;> rfl

/-- The row and column numbers of a tile. -/
abbrev rows : IVec S256x256 32 := iota .tc S256x256 32 [0] iota_S256x256_d0_w32
abbrev cols : IVec S256x256 32 := iota .tc S256x256 32 [1] iota_S256x256_d1_w32

/-- The tile on the diagonal, and the tile of a loop's trip, of the keys or of the values. -/
def tileD (i : grid0.Coords) (hc : k0_cond3 i = 1#1) (x : Vec F S2048x128 .f32) : Vec F S256x128 .f32 :=
  View.ld x (Rect.unit (s := S2048x128) (k0_off6 i) S256x128.size (k0_off6_inb i hc))
def tileL (i : grid0.Coords) (hc : k0_cond3 i = 1#1) (k : Fin (k0_t3_loop i).trips) (x : Vec F S2048x128 .f32) : Vec F S256x128 .f32 :=
  View.ld x (Rect.unit (s := S2048x128) (k0_off7 i k) S256x128.size (k0_off7_inb i k hc))

/-- The carry and the accumulator after the diagonal tile. -/
def sbInit (i : grid0.Coords) (hc : k0_cond3 i = 1#1) (x0 : Vec F S256x128 .f32) (x1 x2 : Vec F S2048x128 .f32) :
    FVec F S256x1 .f32 × FVec F S256x128 .f32 :=
  (k0_pay2 (k0_pay53 (F := F)) (k0_pay58 rows cols x0 (tileD i hc x1)),
    k0_pay1 (k0_pay52 rows cols) (k0_pay54 (F := F)) (k0_pay55 (tileD i hc x2)) (k0_pay59 rows cols x0 (tileD i hc x1)) (k0_pay60 (F := F)))

/-- One trip. -/
def sbStep (i : grid0.Coords) (hc : k0_cond3 i = 1#1) (x0 : Vec F S256x128 .f32) (x1 x2 : Vec F S2048x128 .f32)
    (k : Fin (k0_t3_loop i).trips) (a : FVec F S256x1 .f32 × FVec F S256x128 .f32) : FVec F S256x1 .f32 × FVec F S256x128 .f32 :=
  (k0_pay7 (k0_pay50 x0) a.1 (tileL i hc k x1),
    k0_pay6 (k0_pay50 x0) (k0_pay51 (F := F) rows cols) a.1 a.2 (tileL i hc k x1) (tileL i hc k x2))

/-- The carry and the accumulator before trip `n`. -/
def sbState (i : grid0.Coords) (hc : k0_cond3 i = 1#1) (x0 : Vec F S256x128 .f32) (x1 x2 : Vec F S2048x128 .f32) :
    ℕ → FVec F S256x1 .f32 × FVec F S256x128 .f32
  | 0 => sbInit i hc x0 x1 x2
  | n + 1 => if h : n < (k0_t3_loop i).trips then sbStep i hc x0 x1 x2 ⟨n, h⟩ (sbState i hc x0 x1 x2 n) else sbState i hc x0 x1 x2 n

/-- What a stick-breaking head's block ends at. -/
def outS (i : grid0.Coords) (hc : k0_cond3 i = 1#1) (x0 : Vec F S256x128 .f32) (x1 x2 : Vec F S2048x128 .f32) : Vec F S256x128 .f32 :=
  (sbState i hc x0 x1 x2 (k0_t3_loop i).trips).2

/-- The second loop, over what a step of one leaves over, makes no trip. -/
theorem trips4 (i : grid0.Coords) : (k0_t4_loop i).trips = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide
  exact h (i 2)

/-- The first loop makes one trip for each tile before the diagonal one. -/
theorem trips3 (i : grid0.Coords) : (k0_t3_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide
  exact h (i 2)

/-- The generated recursion on the staging buffers is the one above. -/
theorem state_eq (c : Dev nD) (i : grid0.Coords) (arg3 : Memref sig .tc .vmem S256x128 .f32) (h3 : arg3.IsWhole)
    (arg4 : Memref sig .tc .vmem S2048x128 .f32) (h4 : arg4.IsWhole) (arg5 : Memref sig .tc .vmem S2048x128 .f32) (h5 : arg5.IsWhole)
    (arg6 : Memref sig .tc .vmem S1x3x256x256 .f32) (h6 : arg6.IsWhole) (arg7 : Memref sig .tc .vmem S256x128 .f32) (h7 : arg7.IsWhole)
    (arg8 : Memref sig .tc .vmem S128x128 .f32) (h8 : arg8.IsWhole) (hc : k0_cond3 i = 1#1)
    (x0 : Vec F S256x128 .f32) (x1 x2 : Vec F S2048x128 .f32) (n : ℕ) (hn : n ≤ (k0_t3_loop i).trips) :
    st_k0_t3 (F := F) Variants.none c none i arg3 h3 arg4 h4 arg5 h5 arg6 h6 arg7 h7 arg8 h8 hc (k0_pay50 x0) (k0_pay51 (F := F) rows cols)
        (h4.unread x1) (h5.unread x2) (sbInit i hc x0 x1 x2) n = sbState i hc x0 x1 x2 n := by
  induction n with
  | zero => rfl
  | succ n ih =>
    have e := st_k0_t3_succ (F := F) Variants.none c none i arg3 h3 arg4 h4 arg5 h5 arg6 h6 arg7 h7 arg8 h8 hc (k0_pay50 x0)
      (k0_pay51 (F := F) rows cols) (h4.unread x1) (h5.unread x2) (sbInit i hc x0 x1 x2) ⟨n, hn⟩
    refine e.trans ?_
    rw [show st_k0_t3 (F := F) Variants.none c none i arg3 h3 arg4 h4 arg5 h5 arg6 h6 arg7 h7 arg8 h8 hc (k0_pay50 x0) (k0_pay51 (F := F) rows cols)
        (h4.unread x1) (h5.unread x2) (sbInit i hc x0 x1 x2) (⟨n, hn⟩ : Fin _).val = sbState i hc x0 x1 x2 n from ih (Nat.le_of_lt hn)]
    rw [sbState, dif_pos (show n < (k0_t3_loop i).trips from hn)]
    unfold tripR_k0_t3 trip_k0_t3 sbStep tileL
    simp only [View.readAt_eq_ld, h4.read_unread, h5.read_unread]

/-- A store of the whole block leaves the block at what was stored. -/
theorem read_store (v : View sig .tc .vmem S256x128 .f32) (f : v.ty.Contents (Elt F)) (p : Vec F S256x128 .f32) :
    v.read (Elt F) (v.writes (Elt F) f [⟨Rect.unit (s := S256x128) ![0, 0] S256x128.size inb_S256x128_S256x128_0_0, p⟩]) = p := by
  rw [View.read_writes_eq_canon _ _ _ (View.cover_of_tiledL _ S256x128.size (by sl_kernel_rfl))]
  exact View.canon_unit_zero hz2 _ _

set_option maxHeartbeats 4000000 in
/-- The body at a stick-breaking head. -/
theorem body_sb (c : Dev nD) (i : grid0.Coords) (arg3 : Memref sig .tc .vmem S256x128 .f32) (h3 : arg3.IsWhole)
    (arg4 : Memref sig .tc .vmem S2048x128 .f32) (h4 : arg4.IsWhole) (arg5 : Memref sig .tc .vmem S2048x128 .f32) (h5 : arg5.IsWhole)
    (arg6 : Memref sig .tc .vmem S1x3x256x256 .f32) (h6 : arg6.IsWhole) (arg7 : Memref sig .tc .vmem S256x128 .f32) (h7 : arg7.IsWhole)
    (arg8 : Memref sig .tc .vmem S128x128 .f32) (h8 : arg8.IsWhole) (hc : k0_cond3 i = 1#1)
    (x0 : Vec F S256x128 .f32) (x1 x2 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg7 fullShare (outS i hc x0 x1 x2)) -∗ K ⟨⟩))
      ⊢ wp frame (wpE (defs₀ (F := F)) Variants.none c none) E (cc0_ab_prompt i arg3 h3 arg4 h4 arg5 h5 arg6 h6 arg7 h7 arg8 h8) K := by
  have hn : ¬ k0_cond1 i = 1#1 := (cond3_iff i).1 hc
  simp only [cc0_ab_prompt_eq_skeleton]; unfold cc0_ab_prompt_skel
  simp only [dif_neg hn, dif_pos hc]
  unfold owns
  iintro ⟨⟨%f0, %hf0, H0⟩, ⟨%f1, %hf1, H1⟩, ⟨%f2, %hf2, H2⟩, ⟨%d5, %f5, -, H5⟩, Hk⟩
  obtain rfl := h3.eq_unread hf0; obtain rfl := h4.eq_unread hf1; obtain rfl := h5.eq_unread hf2
  simp only [k0_part9_eq_skeleton]; unfold k0_part9_skel
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H5
  ipureintro
  rw [read_store]
  have t4 : Scf.trips (k0_t4_loop i).lb (k0_t4_loop i).ub (k0_t4_loop i).st = 0 := trips4 i
  rw [t4, st_k0_t4_zero]
  simp only [View.readAt_eq_ld, h3.read_unread, h4.read_unread, h5.read_unread, View.ld_unit_zero (S := S256x128) hz2]
  exact congrArg Prod.snd (state_eq c i arg3 h3 arg4 h4 arg5 h5 arg6 h6 arg7 h7 arg8 h8 hc x0 x1 x2 _ le_rfl)

set_option maxHeartbeats 8000000 in
/-- The body at one of the first heads: nothing is said of what it stores. -/
theorem body_first (c : Dev nD) (i : grid0.Coords) (arg3 : Memref sig .tc .vmem S256x128 .f32) (h3 : arg3.IsWhole)
    (arg4 : Memref sig .tc .vmem S2048x128 .f32) (h4 : arg4.IsWhole) (arg5 : Memref sig .tc .vmem S2048x128 .f32) (h5 : arg5.IsWhole)
    (arg6 : Memref sig .tc .vmem S1x3x256x256 .f32) (h6 : arg6.IsWhole) (arg7 : Memref sig .tc .vmem S256x128 .f32) (h7 : arg7.IsWhole)
    (arg8 : Memref sig .tc .vmem S128x128 .f32) (h8 : arg8.IsWhole) (hc : k0_cond1 i = 1#1)
    (x0 : Vec F S256x128 .f32) (x1 x2 : Vec F S2048x128 .f32) (x3 : Vec F S1x3x256x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)) -∗ K ⟨⟩))
      ⊢ wp frame (wpE (defs₀ (F := F)) Variants.none c none) E (cc0_ab_prompt i arg3 h3 arg4 h4 arg5 h5 arg6 h6 arg7 h7 arg8 h8) K := by
  have hn : ¬ k0_cond3 i = 1#1 := fun h => (cond3_iff i).1 h hc
  simp only [cc0_ab_prompt_eq_skeleton]; unfold cc0_ab_prompt_skel
  simp only [dif_neg hn, dif_pos hc]
  unfold owns
  iintro ⟨⟨%f0, %hf0, H0⟩, ⟨%f1, %hf1, H1⟩, ⟨%f2, %hf2, H2⟩, ⟨%f3, %hf3, H3⟩, ⟨%d5, %f5, -, H5⟩, ⟨%ds, %fs, -, HS⟩, Hk⟩
  obtain rfl := h3.eq_unread hf0; obtain rfl := h4.eq_unread hf1; obtain rfl := h5.eq_unread hf2; obtain rfl := h6.eq_unread hf3
  simp only [k0_part8_eq_skeleton]; unfold k0_part8_skel
  simp -proj only [k0_part3_eq_skeleton, k0_part4_eq_skeleton, k0_part5_eq_skeleton, k0_part6_eq_skeleton, k0_part7_eq_skeleton]
  unfold k0_part3_skel k0_part4_skel k0_part5_skel k0_part6_skel k0_part7_skel
  sl_exec
  rw [bind_assoc]
  sl_exec
  rw [bind_assoc]
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H5]
  · iexists _; iexists _; isplitr
    swap; · iexact H5
    ipureintro; rfl
  iexists _; iexists _; isplitr
  swap; · iexact HS
  ipureintro; rfl

/-! ## The pipeline -/

variable (m : (ℓ : Loc nD τ sig) → Buf (Elt F) ℓ) (ρ : Dev nD → PrngReg)

/-- The pipeline's data: the inputs keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦA spec0 c
  q w := Pipeline.shareOf spec0 w
  owed _ := 0

/-- The window of which only the relation below is said: the result's. -/
def fgt : Fin cfg0.W → Bool := fun w => match w with
  | ⟨4, _⟩ => true
  | _ => false

/-- What is said of the result's block at a point: at a stick-breaking head it is `outS` of the point's blocks. -/
def left (c : Dev nD) (t : Fin cfg0.N) (X : Vec F S256x128 .f32) : Prop :=
  ∀ hc : k0_cond3 (grid0.coords t) = 1#1, X = outS (grid0.coords t) hc (iblk m c 0 t) (iblk m c 1 t) (iblk m c 2 t)

def Rl (c : Dev nD) (w : Fin cfg0.W) (t : Fin cfg0.N) : ((cfg0.win w).block.Idx → Elt F (cfg0.win w).elt) → Prop := match w with
  | ⟨4, _⟩ => fun X => left m c t X
  | _ => fun _ => True

theorem A_eq (c : Dev nD) (w : Fin cfg0.W) : (dats m 0 c).A w = V m c (Pipeline.arrRef spec0 w) := rfl

theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel fgt (Rl m c)).Finds 4 t Y⌝ ∗ owns (c : Thread nD τ) (st0_4 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜left m c t X⌝ ∗ owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl]
  by_cases hc : k0_cond3 (grid0.coords t) = 1#1
  · iintro ⟨HΦ, Ho, ⟨%d0, H0⟩, ⟨%d1, H1⟩, ⟨%d2, H2⟩, H3, ⟨%Y, -, H4⟩⟩
    iapply (body_sb c (grid0.coords t) _ _ _ _ _ _ _ _ _ _ _ _ hc (iblk m c 0 t) (iblk m c 1 t) (iblk m c 2 t) Set.univ _)
    isplitl [H0]; · iexact H0
    isplitl [H1]; · iexact H1
    isplitl [H2]; · iexact H2
    isplitl [H4]; · iexists _; iexact H4
    iintro ⟨H0, H1, H2, H4⟩
    isplitl [HΦ]; · iexact HΦ
    isplitl [Ho]; · iexact Ho
    isplitl [H0]; · iexact H0
    isplitl [H1]; · iexact H1
    isplitl [H2]; · iexact H2
    isplitl [H3]; · icases H3 with ⟨%d3, H3⟩; iexact H3
    iexists _; isplitr
    swap; · iexact H4
    ipureintro; exact fun _ => rfl
  · have h1 : k0_cond1 (grid0.coords t) = 1#1 := by
      by_contra h; exact hc ((cond3_iff _).2 h)
    rw [show (dats m 0 c).Φ t.castSucc = Pipeline.ΦA spec0 c from rfl]
    unfold Pipeline.ΦA
    rw [scopedRest0_eq]
    have hs : ∀ f, (owns (c : Thread nD τ) (Memref.whole cc0_scratch0) fullShare f : sProp 𝕄)
        = (((c : Thread nD τ).loc cc0_scratch0) ↦{fullShare} f) := fun f => owns_whole (c : Thread nD τ) cc0_scratch0 fullShare f
    iintro ⟨⟨⟨%fs, HS⟩, HR⟩, Ho, ⟨%d0, H0⟩, ⟨%d1, H1⟩, ⟨%d2, H2⟩, ⟨%d3, H3⟩, ⟨%Y, -, H4⟩⟩
    iapply (body_first c (grid0.coords t) _ _ _ _ _ _ _ _ _ _ (Memref.whole cc0_scratch0) (Memref.isWhole_whole _) h1 (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS]
    · iexists fs; rw [hs]; iexact HS
    iintro ⟨H0, H1, H2, H3, ⟨%d4, H4⟩, ⟨%ds, HS⟩⟩
    isplitl [HS HR]
    · isplitl [HS]
      · iexists ds; rw [← hs]; iexact HS
      iexact HR
    isplitl [Ho]; · iexact Ho
    isplitl [H0]; · iexact H0
    isplitl [H1]; · iexact H1
    isplitl [H2]; · iexact H2
    isplitl [H3]; · iexact H3
    iexists d4; isplitr
    swap; · iexact H4
    ipureintro; exact fun h => absurd h hc

theorem row_eq (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt (Rl m c) := fun t => by
  rw [bigSep_W0, bigSep_W0, row_eq]
  exact triple_restated (sound_body m c t) rfl .rfl fun _ => .rfl

/-! ## The run and the frame -/

/-- The relational data. -/
abbrev rdats (c : Dev nD) : RDat τ (Elt F) Unit ℕ (UR sig nD τ) ℕ cfg0 c := (dats m 0 c).toRRel fgt (Rl m c)

set_option backward.isDefEq.respectTransparency.types false in
/-- The kernel runs, its arrays end at what the data allow, and every counter ends at zero. -/
theorem run_main : θ_run defs (onTc (τ := τ) (main (F := F))) (s₀ m ρ) (fun r => Pipeline.RDat.FramePost cfg0 (rdats m) (V m) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl) (howed := fun _ _ => rfl) (V := V m)
    (hmain := hmain m Variants.none) (hA := A_eq m) (hin := fun _ => .rfl) (hout := fun _ => .rfl)

end Cert.Proof.Ab

end
-- ==== Proof.AbPre.lean ====
/-
  Hand-written. The frame of the prompt attention's kernel, from its run: at the ideal values, and as printed, since the two are
  one text.
-/
module

public import proofs.«01_k».proof.Defs
public import proofs.«01_k».proof.Proof.AbFrame
public import proofs.«01_k».proof.Proof.Gen.AbPrompt
public import proofs.«01_k».proof.Proof.Gen.Pre_finite
public import proofs.«01_k».proof.Proof.Gen.On_sb_heads

@[expose] public section

namespace Cert.Proof.Ab

open Cert.AbPromptIdeal Cert.AbPromptIdeal.Gen Idealize.ShloMosaic Idealize.ShloMosaic.TcCoe Idealize.SL.Sem
open Idealize.ShloMosaic.Pipeline (Dat RDat)

variable {F : FTy → Type} [FloatOps F]

/-- What the run leaves of the arguments. -/
theorem args_kept (m : (ℓ : Loc nD τ sig) → Buf (Elt F) ℓ) (r : PUnit × MemSt nD τ sig (Elt F))
    (h : Pipeline.RDat.FramePost cfg0 (rdats m) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  obtain ⟨after, -, hA⟩ := Pipeline.RDat.FramePost.exists_exact h c
  refine ⟨?_, ?_, ?_⟩
  · exact (hA 0).trans ((((rdats m c).withAfter after).arrAt_in 0 rfl _).trans ((A_eq m c 0).trans (V_main_arg0 m c)))
  · exact (hA 2).trans ((((rdats m c).withAfter after).arrAt_in 2 rfl _).trans ((A_eq m c 2).trans (V_main_arg1 m c)))
  · exact ((h c).2 main_arg2 (Pipeline.mem_restRefs_of main_arg2 (by decide) (by decide))).trans (V_main_arg2 m c)

/-- The kernel runs, its arguments end unchanged and every counter at zero. -/
theorem unchanged (m : (ℓ : Loc nD τ sig) → Buf (Elt F) ℓ) (ρ : Dev nD → PrngReg) :
    θ_run (defs (F := F)) (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run (defs (F := F)) _ _).mono (fun r h => ⟨args_kept m r h.1, h.2⟩) (run_main m ρ)

theorem frame_ideal : Cert.quiescent_AbPromptIdeal := fun m ρ _ => unchanged m ρ
theorem frame_ideal_pre : Cert.quiescent_AbPromptIdeal_pre_finite := fun m ρ _ => unchanged m ρ

/-- The program as printed and its idealization are one text: the body, its table and @main agree. -/
theorem body_same : @Cert.AbPrompt.cc0_ab_prompt Bits _ _ = @Cert.AbPromptIdeal.cc0_ab_prompt Bits _ _ := rfl
theorem row_same : Cert.AbPrompt.defs₀ (F := Bits) = Cert.AbPromptIdeal.defs₀ (F := Bits) := by
  unfold Cert.AbPrompt.defs₀ Cert.AbPromptIdeal.defs₀
  refine congrArg Defs.onTc ?_
  funext l a
  match l, a with
  | 0, (t, s) => rfl
theorem defs_same : Cert.AbPrompt.defs (F := Bits) = Cert.AbPromptIdeal.defs (F := Bits) :=
  congrArg (Pipeline.defs (Cert.AbPrompt.pcfgs (F := Bits))) row_same
set_option maxHeartbeats 4000000 in
theorem main_same : Cert.AbPrompt.main (F := Bits) = Cert.AbPromptIdeal.main (F := Bits) := rfl

/-- So it has the same frame. -/
theorem frame_bits : Cert.quiescent_AbPrompt := fun m ρ _ => by
  have r := unchanged (F := Bits) m ρ
  rw [← defs_same, ← main_same] at r
  exact r

end Cert.Proof.Ab
-- ==== Proof.AbMath.lean ====
/-
  Hand-written. Stick breaking over one row, in tiles: sums of real numbers among the extended reals, and the weights of a
  tile from the sum over the tiles after it.
-/
module

public import Idealize.ShloMosaic.PureOps
public import Idealize.ShloMosaic.Lib.Pointwise

@[expose] public section

noncomputable section

namespace Cert.Proof.Ab

open Idealize.ShloMosaic

/-- A sum of real numbers is one among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What lies past an element of a tile: the tile's later elements, then the later tiles. -/
theorem past (L : ℕ → ℝ) (a : ℕ) (c : Fin 256) (n : ℕ) (hn : 256 * (a + 1) ≤ n) :
    ∑ s ∈ Finset.Ico (256 * a + c.val + 1) n, L s
      = (∑ e : Fin 256, if c.val < e.val then L (256 * a + e.val) else 0) + ∑ s ∈ Finset.Ico (256 * (a + 1)) n, L s := by
  have hc := c.isLt
  rw [← Finset.sum_Ico_consecutive L (show 256 * a + c.val + 1 ≤ 256 * (a + 1) by omega) hn]
  refine congrArg (· + _) ?_
  rw [← Finset.sum_filter]
  refine Finset.sum_bij' (fun s hs => (⟨s - 256 * a, ?_⟩ : Fin 256)) (fun e _ => 256 * a + e.val) ?_ ?_ ?_ ?_ ?_
  · have := Finset.mem_Ico.1 hs; omega
  · intro s hs
    have := Finset.mem_Ico.1 hs
    simp only [Finset.mem_filter, Finset.mem_univ, true_and]; omega
  · intro e he
    have h := (Finset.mem_filter.1 he).2
    have := e.isLt
    exact Finset.mem_Ico.2 ⟨by omega, by omega⟩
  · intro s hs
    have := Finset.mem_Ico.1 hs
    show 256 * a + (s - 256 * a) = s; omega
  · intro e he
    refine Fin.ext ?_
    show 256 * a + e.val - 256 * a = e.val; omega
  · intro s hs
    have := Finset.mem_Ico.1 hs
    show L s = L (256 * a + (s - 256 * a))
    congr 1; omega

/-- A tile's sum, before the later tiles' sum. -/
theorem tile_sum {M : Type} [AddCommMonoid M] (f : ℕ → M) (a n : ℕ) (hn : 256 * (a + 1) ≤ n) :
    ∑ s ∈ Finset.Ico (256 * a) n, f s = ∑ s ∈ Finset.Ico (256 * (a + 1)) n, f s + ∑ c : Fin 256, f (256 * a + c.val) := by
  rw [← Finset.sum_Ico_consecutive f (show 256 * a ≤ 256 * (a + 1) by omega) hn, add_comm]
  refine congrArg (_ + ·) ?_
  rw [Finset.sum_Ico_eq_sum_range, show 256 * (a + 1) - 256 * a = 256 by omega, Finset.sum_range]

/-- The exponent of a weight, from the products with the strict triangle: the second product, of what rounding would leave, is zero. -/
theorem exponent (L : ℕ → ℝ) (x : ℝ) (a : ℕ) (c : Fin 256) (n : ℕ) (hn : 256 * (a + 1) ≤ n) (u : Fin 256 → EReal)
    (hu : ∀ e, u e = if c.val < e.val then 1 else 0) :
    (x : EReal) + ((∑ e : Fin 256, (L (256 * a + e.val) : EReal) * u e)
        + ∑ e : Fin 256, ((L (256 * a + e.val) : EReal) - (L (256 * a + e.val) : EReal)) * u e)
        + ((∑ s ∈ Finset.Ico (256 * (a + 1)) n, L s : ℝ) : EReal)
      = ((x + ∑ s ∈ Finset.Ico (256 * a + c.val + 1) n, L s : ℝ) : EReal) := by
  have h1 : (∑ e : Fin 256, (L (256 * a + e.val) : EReal) * u e) = ((∑ e : Fin 256, if c.val < e.val then L (256 * a + e.val) else 0 : ℝ) : EReal) := by
    rw [coe_sum]
    refine Finset.sum_congr rfl fun e _ => ?_
    rw [hu]
    split
    · exact mul_one _
    · rw [mul_zero, EReal.coe_zero]
  have h2 : (∑ e : Fin 256, ((L (256 * a + e.val) : EReal) - (L (256 * a + e.val) : EReal)) * u e) = 0 := by
    refine Finset.sum_eq_zero fun e _ => ?_
    rw [← EReal.coe_sub, sub_self, EReal.coe_zero, zero_mul]
  rw [h1, h2, add_zero, past L a c n hn, ← EReal.coe_add, ← EReal.coe_add, add_assoc]

theorem coe_larger (x y : ℝ) : ((max x y : ℝ) : EReal) = max (x : EReal) (y : EReal) := EReal.coe_strictMono.monotone.map_max
theorem coe_smaller (x y : ℝ) : ((min x y : ℝ) : EReal) = min (x : EReal) (y : EReal) := EReal.coe_strictMono.monotone.map_min

/-- The logarithm of the sigmoid over the real numbers. -/
def lsR (z : ℝ) : ℝ := min z 0 - Real.log (1 + Real.exp (-|z|))

/-- The logarithm of the sigmoid, as the kernel takes it. -/
def lsE (z : EReal) : EReal := min z 0 - Ideal.log (1 + Ideal.exp (0 - max z (-z)))

theorem lsE_coe (z : ℝ) : lsE (z : EReal) = (lsR z : EReal) := by
  have hp : ¬ (1 + Real.exp (-|z|) ≤ 0) := not_le.2 (by positivity)
  have ha : (max (z : EReal) (-(z : EReal))) = ((|z| : ℝ) : EReal) := by
    rw [← EReal.coe_neg, ← coe_larger]; rfl
  unfold lsE lsR
  rw [ha, ← EReal.coe_zero, ← EReal.coe_sub, zero_sub, Ideal.exp_coe, ← EReal.coe_one, ← EReal.coe_add, Ideal.log_coe, if_neg hp, ← coe_smaller,
    ← EReal.coe_sub]

/-- The reference's logarithm of the sigmoid: the negated larger of the negated score and zero, less the same logarithm. -/
theorem ref_ls (z : ℝ) : -(max (-(z : EReal)) 0 + Ideal.log (1 + Ideal.exp (-(max (-(z : EReal)) (- -(z : EReal)))))) = (lsR z : EReal) := by
  have hp : ¬ (1 + Real.exp (-|z|) ≤ 0) := not_le.2 (by positivity)
  have ha : (max (-(z : EReal)) (- -(z : EReal))) = ((|z| : ℝ) : EReal) := by
    rw [neg_neg, max_comm, ← EReal.coe_neg, ← coe_larger]; rfl
  rw [ha, ← EReal.coe_neg |z|, Ideal.exp_coe, ← EReal.coe_one, ← EReal.coe_add, Ideal.log_coe, if_neg hp, ← EReal.coe_neg z, ← EReal.coe_zero, ← coe_larger,
    ← EReal.coe_add, ← EReal.coe_neg]
  unfold lsR
  rw [neg_add, ← min_neg_neg, neg_neg, neg_zero, ← sub_eq_add_neg]

/-- The logarithm of one minus the sigmoid, of the negated score. -/
theorem lsR_neg (z : ℝ) : lsR (-z) = lsR z - z := by
  unfold lsR
  rw [abs_neg]
  rcases le_total z 0 with h | h
  · rw [min_eq_left h, min_eq_right (by linarith)]; ring
  · rw [min_eq_right h, min_eq_left (by linarith)]; ring

/-- A row's logarithms of one minus the sigmoid of its scores `z`, masked to the columns before `t`. -/
def Lr (z : ℕ → ℝ) (t s : ℕ) : ℝ := if s < t then lsR (z s) - z s else 0
/-- A row's weights. -/
def Wr (z : ℕ → ℝ) (t s : ℕ) : EReal := if s < t then ((Real.exp (lsR (z s) + ∑ e ∈ Finset.Ico (s + 1) 2048, Lr z t e) : ℝ) : EReal) else 0

end Cert.Proof.Ab
-- ==== Proof.AbScore.lean ====
/-
  Hand-written. A stick-breaking head's scores and result, from the queries and the keys and values as the call takes them.
-/
module

public import proofs.«01_k».proof.Proof.AbMath
public import Idealize.ShloMosaic.Lib.IdealHost

@[expose] public section

noncomputable section

namespace Cert.Proof.Ab

open Idealize.ShloMosaic

/-- The scale of the scores. -/
def sc : EReal := Ideal.ofBits .f32 0x3DB504F3#32

/-- The scale is a real number. -/
theorem sc_real : ∃ c : ℝ, sc = (c : EReal) := by
  unfold sc
  simp only [Ideal.ofBits, Ideal.ieee]
  rw [if_neg (by decide), if_neg (by decide)]
  exact ⟨_, rfl⟩

/-- Signed comparison of small numbers. -/
theorem slt_ofNat (a b : Nat) (ha : a < 2 ^ 31) (hb : b < 2 ^ 31) : (BitVec.ofNat 32 a).slt (BitVec.ofNat 32 b) = decide (a < b) := by
  simp only [BitVec.slt, BitVec.toInt, BitVec.toNat_ofNat]
  refine decide_eq_decide.2 ?_
  omega

/-- The queries, and the keys with the values. -/
abbrev SQ : Shape := ⟨2, ![16384, 2048]⟩
abbrev SKV : Shape := ⟨2, ![16384, 4096]⟩

/-- Row `t` of sequence `b`. -/
def rowB (b : Fin 8) (t : Fin 2048) : Fin 16384 := ⟨b.val * 2048 + t.val, by omega⟩
/-- Element `d` of stick-breaking head `g`, among the queries or keys, and among the values. -/
def colQ (g : Fin 4) (d : Fin 128) : Fin 2048 := ⟨(12 + g.val) * 128 + d.val, by omega⟩
def colK (g : Fin 4) (d : Fin 128) : Fin 4096 := ⟨(12 + g.val) * 128 + d.val, by omega⟩
def colV (g : Fin 4) (d : Fin 128) : Fin 4096 := ⟨2048 + (12 + g.val) * 128 + d.val, by omega⟩

section Arrays

variable (x0 : SQ.Idx → EReal) (x1 : SKV.Idx → EReal)

/-- The scores of query `t` of a head. -/
def zR (b : Fin 8) (g : Fin 4) (t : Fin 2048) (s : ℕ) : ℝ := if h : s < 2048 then
  (∑ d : Fin 128, x0 (ix2 (rowB b t) (colQ g d)) * sc * x1 (ix2 (rowB b ⟨s, h⟩) (colK g d))).toReal else 0

/-- The result of query `t` of a head. -/
def Gs (b : Fin 8) (g : Fin 4) (t : Fin 2048) (d : Fin 128) : EReal :=
  ∑ s : Fin 2048, Wr (zR x0 x1 b g t) t.val s.val * x1 (ix2 (rowB b s) (colV g d))

/-- The stick-breaking heads' queries and keys are real numbers. -/
def Real01 : Prop := (∀ R g d, ∃ r : ℝ, x0 (ix2 R (colQ g d)) = (r : EReal)) ∧ ∀ R g d, ∃ r : ℝ, x1 (ix2 R (colK g d)) = (r : EReal)

variable {x0 x1}

/-- A score is a real number, scaled before the product or after. -/
theorem zR_coe (hf : Real01 x0 x1) (b : Fin 8) (g : Fin 4) (t s : Fin 2048) :
    ∑ d : Fin 128, x0 (ix2 (rowB b t) (colQ g d)) * sc * x1 (ix2 (rowB b s) (colK g d)) = ((zR x0 x1 b g t s.val : ℝ) : EReal)
    ∧ (∑ d : Fin 128, x0 (ix2 (rowB b t) (colQ g d)) * x1 (ix2 (rowB b s) (colK g d))) * sc = ((zR x0 x1 b g t s.val : ℝ) : EReal) := by
  obtain ⟨c, hc⟩ := sc_real
  choose p hp using fun d => hf.1 (rowB b t) g d
  choose q hq using fun d => hf.2 (rowB b s) g d
  have e : zR x0 x1 b g t s.val = ∑ d : Fin 128, p d * c * q d := by
    rw [zR, dif_pos s.isLt]
    simp only [hp, hc, Fin.eta, hq, ← EReal.coe_mul, ← coe_sum]
    exact EReal.toReal_coe _
  rw [e]
  simp only [hp, hc, hq, ← EReal.coe_mul, ← coe_sum, Finset.sum_mul]
  exact ⟨trivial, congrArg _ (Finset.sum_congr rfl fun d _ => by ring)⟩

end Arrays

end Cert.Proof.Ab
-- ==== Proof.AbPay.lean ====
/-
  Hand-written. The payloads of a stick-breaking head at the ideal values, read at an index.
-/
module

public import proofs.«01_k».proof.Proof.AbFrame
public import proofs.«01_k».proof.Proof.AbScore
public import Idealize.ShloMosaic.Lib.Pointwise

@[expose] public section

noncomputable section

namespace Cert.Proof.Ab

open Cert.AbPromptIdeal Cert.AbPromptIdeal.Gen Idealize.ShloMosaic Idealize.ShloMosaic.TcCoe

/-- The strictly lower triangle, as an indicator. -/
def tri (a b : Fin 256) : EReal := if b.val < a.val then 1 else 0

/-- A score of a tile. -/
def zt (x : Vec Ideal S256x128 .f32) (k : Vec Ideal S256x128 .f32) (r c : Fin 256) : EReal :=
  ∑ d : Fin 128, x (ix2 r d) * sc * k (ix2 c d)

/-- The logarithm of one minus the sigmoid, in the kernel's order. -/
def keep (z : EReal) : EReal := lsE z - z

theorem sgt_pick {a b : Fin 256} (x y : EReal) :
    Scalar.select (IntOp.cmpi CmpIPredicate.sgt (BitVec.ofNat 32 a.val) (BitVec.ofNat 32 b.val)) x y = if b.val < a.val then x else y := by
  have ha := a.isLt; have hb := b.isLt
  show Scalar.select (BitVec.ofBool ((BitVec.ofNat 32 b.val).slt (BitVec.ofNat 32 a.val))) x y = _
  rw [slt_ofNat _ _ (by omega) (by omega)]
  by_cases h : b.val < a.val
  · rw [if_pos h, decide_eq_true h]; rfl
  · rw [if_neg h, decide_eq_false h]; rfl

theorem pay51_apply (a b : Fin 256) : k0_pay51 (F := Ideal) rows cols (ix2 a b) = tri a b := by
  pointwise [k0_pay51]
  exact sgt_pick _ _

theorem pay52_apply (a b : Fin 256) : k0_pay52 rows cols (ix2 a b) = if b.val < a.val then 1#1 else 0#1 := by
  have ha := a.isLt; have hb := b.isLt
  pointwise [k0_pay52]
  show BitVec.ofBool ((BitVec.ofNat 32 b.val).slt (BitVec.ofNat 32 a.val)) = _
  rw [slt_ofNat _ _ (by omega) (by omega)]
  by_cases h : b.val < a.val
  · rw [if_pos h, decide_eq_true h]; rfl
  · rw [if_neg h, decide_eq_false h]; rfl

theorem pay56_apply (x k : Vec Ideal S256x128 .f32) (r c : Fin 256) : k0_pay56 (F := Ideal) x k (ix2 r c) = zt x k r c := by
  pointwise [k0_pay56, k0_pay50]
  rfl

theorem pay57_apply (x k : Vec Ideal S256x128 .f32) (r c : Fin 256) : k0_pay57 (F := Ideal) x k (ix2 r c) = lsE (zt x k r c) := by
  pointwise [k0_pay57, pay56_apply]
  rfl

theorem pay58_apply (x k : Vec Ideal S256x128 .f32) (r c : Fin 256) :
    k0_pay58 (F := Ideal) rows cols x k (ix2 r c) = if c.val < r.val then keep (zt x k r c) else 0 := by
  pointwise [k0_pay58, pay56_apply, pay57_apply, pay52_apply]
  by_cases h : c.val < r.val
  · rw [if_pos h, if_pos h]; rfl
  · rw [if_neg h, if_neg h]; rfl

theorem pay59_apply (x k : Vec Ideal S256x128 .f32) (r c : Fin 256) :
    k0_pay59 (F := Ideal) rows cols x k (ix2 r c)
      = lsE (zt x k r c) + ((∑ e : Fin 256, (if e.val < r.val then keep (zt x k r e) else 0) * tri e c)
        + ∑ e : Fin 256, ((if e.val < r.val then keep (zt x k r e) else 0) - (if e.val < r.val then keep (zt x k r e) else 0)) * tri e c) := by
  pointwise [k0_pay59, pay57_apply, pay58_apply, pay51_apply]

theorem pay60_apply (r c : Fin 256) : k0_pay60 (F := Ideal) (ix2 r c) = 0 := by
  pointwise [k0_pay60, k0_pay53]

theorem pay2_apply (a : FVec Ideal S256x1 .f32) (l : FVec Ideal S256x256 .f32) (r : Fin 256) :
    k0_pay2 (F := Ideal) a l (ix2 r 0) = a (ix2 r 0) + ∑ c : Fin 256, l (ix2 r c) := by
  pointwise [k0_pay2]

theorem pay1_apply (a : FVec Ideal S256x128 .f32) (v : FVec Ideal S256x128 .bf16) (p q : FVec Ideal S256x256 .f32)
    (r : Fin 256) (d : Fin 128) :
    k0_pay1 (F := Ideal) (k0_pay52 rows cols) a v p q (ix2 r d)
      = a (ix2 r d) + ∑ c : Fin 256, (if c.val < r.val then Ideal.exp (p (ix2 r c) + q (ix2 r c)) else 0) * v (ix2 c d) := by
  pointwise [k0_pay1, pay52_apply]
  refine congrArg (_ + ·) (Finset.sum_congr rfl fun c _ => ?_)
  by_cases h : c.val < r.val
  · rw [if_pos h, if_pos h]; rfl
  · rw [if_neg h, if_neg h, zero_mul]; rfl

/-! The same of a trip. -/

theorem pay3_apply (x k : Vec Ideal S256x128 .f32) (r c : Fin 256) : k0_pay3 (F := Ideal) (k0_pay50 x) k (ix2 r c) = zt x k r c := by
  pointwise [k0_pay3, k0_pay50]
  rfl

theorem pay4_apply (x k : Vec Ideal S256x128 .f32) (r c : Fin 256) : k0_pay4 (F := Ideal) (k0_pay50 x) k (ix2 r c) = lsE (zt x k r c) := by
  pointwise [k0_pay4, pay3_apply]
  rfl

theorem pay5_apply (x k : Vec Ideal S256x128 .f32) (r c : Fin 256) : k0_pay5 (F := Ideal) (k0_pay50 x) k (ix2 r c) = keep (zt x k r c) := by
  pointwise [k0_pay5, pay3_apply, pay4_apply]
  rfl

theorem pay7_apply (x k : Vec Ideal S256x128 .f32) (a : FVec Ideal S256x1 .f32) (r : Fin 256) :
    k0_pay7 (F := Ideal) (k0_pay50 x) a k (ix2 r 0) = a (ix2 r 0) + ∑ c : Fin 256, keep (zt x k r c) := by
  pointwise [k0_pay7, pay5_apply]

theorem pay6_apply (x k v : Vec Ideal S256x128 .f32) (a : FVec Ideal S256x1 .f32) (o : FVec Ideal S256x128 .f32) (r : Fin 256) (d : Fin 128) :
    k0_pay6 (F := Ideal) (k0_pay50 x) (k0_pay51 (F := Ideal) rows cols) a o k v (ix2 r d)
      = o (ix2 r d) + ∑ c : Fin 256, Ideal.exp (lsE (zt x k r c) + ((∑ e : Fin 256, keep (zt x k r e) * tri e c)
          + ∑ e : Fin 256, (keep (zt x k r e) - keep (zt x k r e)) * tri e c) + a (ix2 r 0)) * v (ix2 c d) := by
  pointwise [k0_pay6, pay4_apply, pay5_apply, pay51_apply]

end Cert.Proof.Ab
-- ==== Proof.AbState.lean ====
/-
  Hand-written. A stick-breaking head's block at the ideal values: the carry and the accumulator before each trip are sums over
  the columns taken so far, so the block ends at the sums over all of them.
-/
module

public import proofs.«01_k».proof.Proof.AbPay
public import Idealize.ShloMosaic.Lib.Pipeline.ValueKit.Tiles

@[expose] public section

noncomputable section

namespace Cert.Proof.Ab

open Cert.AbPromptIdeal Cert.AbPromptIdeal.Gen Idealize.ShloMosaic Idealize.ShloMosaic.TcCoe

/-- Where the diagonal tile and a trip's tile begin. -/
theorem off6_val (i : grid0.Coords) : k0_off6 i 0 = 256 * (i 2).val ∧ k0_off6 i 1 = 0 := by
  have h : ∀ n : Fin 8, (Scalar.indexCast (Scalar.muli (BitVec.ofNat 32 n.val) 256#32)).toNat = 256 * n.val := by decide
  exact ⟨h (i 2), rfl⟩
theorem off7_val (i : grid0.Coords) (k : Fin (k0_t3_loop i).trips) : k0_off7 i k 0 = 256 * ((i 2).val - 1 - k.val) ∧ k0_off7 i k 1 = 0 := by
  have h : ∀ n k : Fin 8, k.val < n.val → (Scalar.indexCast (Scalar.muli (Scalar.subi (Scalar.subi (BitVec.ofNat 32 n.val) 1#32)
      (0#32 + BitVec.ofNat 32 k.val * 1#32)) 256#32)).toNat = 256 * (n.val - 1 - k.val) := by decide
  have hk : k.val < (i 2).val := by rw [← trips3 i]; exact k.isLt
  have hi : (i 2).val < 8 := (i 2).isLt
  exact ⟨h (i 2) ⟨k.val, by omega⟩ hk, rfl⟩

/-- A tile, read at an index. -/
theorem tileD_apply (i : grid0.Coords) (hc : k0_cond3 i = 1#1) (x : Vec Ideal S2048x128 .f32) (c : Fin 256) (d : Fin 128)
    (h : 256 * (i 2).val + c.val < 2048) : tileD i hc x (ix2 c d) = x (ix2 ⟨256 * (i 2).val + c.val, h⟩ d) := by
  refine View.ld_unit_apply_of x _ _ _ (ix2 c d) (ix2 ⟨256 * (i 2).val + c.val, h⟩ d) fun a => ?_
  match a with
  | ⟨0, _⟩ => exact congrArg (· + c.val) (off6_val i).1.symm
  | ⟨1, _⟩ => exact (Nat.zero_add _).symm
theorem tileL_apply (i : grid0.Coords) (hc : k0_cond3 i = 1#1) (k : Fin (k0_t3_loop i).trips) (x : Vec Ideal S2048x128 .f32) (c : Fin 256) (d : Fin 128)
    (h : 256 * ((i 2).val - 1 - k.val) + c.val < 2048) : tileL i hc k x (ix2 c d) = x (ix2 ⟨256 * ((i 2).val - 1 - k.val) + c.val, h⟩ d) := by
  refine View.ld_unit_apply_of x _ _ _ (ix2 c d) (ix2 ⟨256 * ((i 2).val - 1 - k.val) + c.val, h⟩ d) fun a => ?_
  match a with
  | ⟨0, _⟩ => exact congrArg (· + c.val) (off7_val i k).1.symm
  | ⟨1, _⟩ => exact (Nat.zero_add _).symm

/-- A column of the values, at a number. -/
def col (x : Vec Ideal S2048x128 .f32) (d : Fin 128) (s : ℕ) : EReal := if h : s < 2048 then x (ix2 ⟨s, h⟩ d) else 0

theorem keep_coe (z : ℝ) : keep (z : EReal) = ((lsR z - z : ℝ) : EReal) := by
  unfold keep; rw [lsE_coe, ← EReal.coe_sub]

section Row

variable (i : grid0.Coords) (hc : k0_cond3 i = 1#1) (x0 : Vec Ideal S256x128 .f32) (x1 x2 : Vec Ideal S2048x128 .f32)
variable (Z : Fin 256 → ℕ → ℝ) (hZ : ∀ (r : Fin 256) (s : Fin 2048), ∑ d : Fin 128, x0 (ix2 r d) * sc * x1 (ix2 s d) = ((Z r s.val : ℝ) : EReal))

/-- The row of a block's row, among the rows of its batch. -/
abbrev rowAt (r : Fin 256) : ℕ := 256 * (i 2).val + r.val

include hZ in
theorem ztD (r c : Fin 256) : zt x0 (tileD i hc x1) r c = ((Z r (256 * (i 2).val + c.val) : ℝ) : EReal) := by
  have hi : (i 2).val < 8 := (i 2).isLt
  have h := c.isLt
  have hs : 256 * (i 2).val + c.val < 2048 := by omega
  refine Eq.trans ?_ (hZ r ⟨_, hs⟩)
  unfold zt
  exact Finset.sum_congr rfl fun d _ => congrArg (_ * ·) (tileD_apply i hc x1 c d hs)

include hZ in
theorem ztL (k : Fin (k0_t3_loop i).trips) (r c : Fin 256) :
    zt x0 (tileL i hc k x1) r c = ((Z r (256 * ((i 2).val - 1 - k.val) + c.val) : ℝ) : EReal) := by
  have hi : (i 2).val < 8 := (i 2).isLt
  have h := c.isLt
  have hs : 256 * ((i 2).val - 1 - k.val) + c.val < 2048 := by omega
  refine Eq.trans ?_ (hZ r ⟨_, hs⟩)
  unfold zt
  exact Finset.sum_congr rfl fun d _ => congrArg (_ * ·) (tileL_apply i hc k x1 c d hs)

/-- Past the diagonal tile the masked logarithms are zero, and so are the weights. -/
theorem Lr_late (z : ℕ → ℝ) (t a : ℕ) (h : t ≤ a) : ∑ s ∈ Finset.Ico a 2048, Lr z t s = 0 :=
  Finset.sum_eq_zero fun s hs => by
    have := (Finset.mem_Ico.1 hs).1
    rw [Lr, if_neg (by omega)]
theorem Wr_late (z : ℕ → ℝ) (t a : ℕ) (h : t ≤ a) (v : ℕ → EReal) : ∑ s ∈ Finset.Ico a 2048, Wr z t s * v s = 0 :=
  Finset.sum_eq_zero fun s hs => by
    have := (Finset.mem_Ico.1 hs).1
    rw [Wr, if_neg (by omega), zero_mul]

include hZ in
theorem init_carry (r : Fin 256) :
    (sbInit i hc x0 x1 x2).1 (ix2 r 0) = ((∑ s ∈ Finset.Ico (256 * (i 2).val) 2048, Lr (Z r) (rowAt i r) s : ℝ) : EReal) := by
  have hi : (i 2).val < 8 := (i 2).isLt
  have hr := r.isLt
  unfold sbInit
  refine (pay2_apply _ _ r).trans ?_
  rw [tile_sum _ _ 2048 (by omega), Lr_late _ _ _ (by unfold rowAt; omega), zero_add, coe_sum]
  rw [show k0_pay53 (F := Ideal) (ix2 r 0) = 0 by pointwise [k0_pay53], zero_add]
  refine Finset.sum_congr rfl fun c _ => ?_
  rw [pay58_apply, ztD i hc x0 x1 Z hZ, keep_coe, Lr]
  by_cases h : c.val < r.val
  · rw [if_pos h, if_pos (by unfold rowAt; omega)]
  · rw [if_neg h, if_neg (by unfold rowAt; omega), EReal.coe_zero]

include hZ in
theorem init_acc (r : Fin 256) (d : Fin 128) :
    (sbInit i hc x0 x1 x2).2 (ix2 r d) = ∑ s ∈ Finset.Ico (256 * (i 2).val) 2048, Wr (Z r) (rowAt i r) s * col x2 d s := by
  have hi : (i 2).val < 8 := (i 2).isLt
  have hr := r.isLt
  unfold sbInit
  refine (pay1_apply _ _ _ _ r d).trans ?_
  rw [tile_sum _ _ 2048 (by omega), Wr_late _ _ _ (by unfold rowAt; omega), zero_add]
  rw [show k0_pay54 (F := Ideal) (ix2 r d) = 0 by pointwise [k0_pay54], zero_add]
  refine Finset.sum_congr rfl fun c _ => ?_
  have hcl := c.isLt
  have hs : 256 * (i 2).val + c.val < 2048 := by omega
  refine congrArg₂ (· * ·) ?_ ?_
  · rw [Wr]
    by_cases h : c.val < r.val
    · rw [if_pos h, if_pos (by unfold rowAt; omega), pay59_apply, pay60_apply, ztD i hc x0 x1 Z hZ, lsE_coe]
      have hL : ∀ e : Fin 256, (if e.val < r.val then keep (zt x0 (tileD i hc x1) r e) else 0)
          = ((Lr (Z r) (rowAt i r) (256 * (i 2).val + e.val) : ℝ) : EReal) := fun e => by
        rw [ztD i hc x0 x1 Z hZ, keep_coe, Lr]
        by_cases h : e.val < r.val
        · rw [if_pos h, if_pos (by unfold rowAt; omega)]
        · rw [if_neg h, if_neg (by unfold rowAt; omega), EReal.coe_zero]
      simp only [hL]
      have e := exponent (Lr (Z r) (rowAt i r)) (lsR (Z r (256 * (i 2).val + c.val))) (i 2).val c 2048 (by omega) (fun e => tri e c) (fun _ => rfl)
      rw [Lr_late (Z r) (rowAt i r) (256 * ((i 2).val + 1)) (by unfold rowAt; omega), EReal.coe_zero] at e
      rw [e, Ideal.exp_coe]
    · rw [if_neg h, if_neg (by unfold rowAt; omega)]
  · rw [col, dif_pos hs]
    refine Eq.trans ?_ (tileD_apply i hc x2 c d hs)
    pointwise [k0_pay55]

include hZ in
/-- The carry and the accumulator before a trip. -/
theorem state_apply (n : ℕ) (hn : n ≤ (i 2).val) :
    (∀ r : Fin 256, (sbState i hc x0 x1 x2 n).1 (ix2 r 0) = ((∑ s ∈ Finset.Ico (256 * ((i 2).val - n)) 2048, Lr (Z r) (rowAt i r) s : ℝ) : EReal))
      ∧ ∀ (r : Fin 256) (d : Fin 128), (sbState i hc x0 x1 x2 n).2 (ix2 r d)
          = ∑ s ∈ Finset.Ico (256 * ((i 2).val - n)) 2048, Wr (Z r) (rowAt i r) s * col x2 d s := by
  have hi : (i 2).val < 8 := (i 2).isLt
  induction n with
  | zero => exact ⟨init_carry i hc x0 x1 x2 Z hZ, init_acc i hc x0 x1 x2 Z hZ⟩
  | succ n ih =>
    obtain ⟨h1, h2⟩ := ih (by omega)
    have hk : n < (k0_t3_loop i).trips := by rw [trips3]; omega
    have ha : (i 2).val - (n + 1) = (i 2).val - 1 - n := by omega
    have hb : (i 2).val - n = (i 2).val - 1 - n + 1 := by omega
    rw [sbState, dif_pos hk, ha]
    rw [hb] at h1 h2
    unfold sbStep
    refine ⟨fun r => ?_, fun r d => ?_⟩
    · refine (pay7_apply _ _ _ r).trans ?_
      rw [h1, tile_sum _ ((i 2).val - 1 - n) 2048 (by omega), EReal.coe_add, coe_sum Finset.univ]
      refine congrArg₂ (· + ·) rfl (Finset.sum_congr rfl fun c _ => ?_)
      have hcl := c.isLt
      rw [ztL i hc x0 x1 Z hZ, keep_coe, Lr, if_pos (by unfold rowAt; omega)]
    · refine (pay6_apply _ _ _ _ _ r d).trans ?_
      rw [h2, tile_sum _ ((i 2).val - 1 - n) 2048 (by omega)]
      refine congrArg₂ (· + ·) rfl (Finset.sum_congr rfl fun c _ => ?_)
      have hcl := c.isLt
      have hs : 256 * ((i 2).val - 1 - n) + c.val < 2048 := by omega
      refine congrArg₂ (· * ·) ?_ ?_
      · have hL : ∀ e : Fin 256, keep (zt x0 (tileL i hc ⟨n, hk⟩ x1) r e)
            = ((Lr (Z r) (rowAt i r) (256 * ((i 2).val - 1 - n) + e.val) : ℝ) : EReal) := fun e => by
          have := e.isLt
          rw [ztL i hc x0 x1 Z hZ, keep_coe, Lr, if_pos (by unfold rowAt; omega)]
        simp only [hL]
        rw [Wr, if_pos (by unfold rowAt; omega), h1, ztL i hc x0 x1 Z hZ, lsE_coe]
        have e := exponent (Lr (Z r) (rowAt i r)) (lsR (Z r (256 * ((i 2).val - 1 - n) + c.val))) ((i 2).val - 1 - n) c 2048 (by omega)
          (fun e => tri e c) (fun _ => rfl)
        rw [e, Ideal.exp_coe]
      · rw [col, dif_pos hs]
        exact tileL_apply i hc ⟨n, hk⟩ x2 c d hs

include hZ in
/-- What the block ends at, at an index. -/
theorem outS_apply (r : Fin 256) (d : Fin 128) :
    outS i hc x0 x1 x2 (ix2 r d) = ∑ s : Fin 2048, Wr (Z r) (rowAt i r) s.val * x2 (ix2 s d) := by
  unfold outS
  have h := (state_apply i hc x0 x1 x2 Z hZ (k0_t3_loop i).trips (trips3 i).le).2 r d
  rw [h, trips3, Nat.sub_self, Nat.mul_zero, ← Finset.range_eq_Ico, Finset.sum_range]
  refine Finset.sum_congr rfl fun s _ => congrArg₂ (· * ·) rfl ?_
  rw [col, dif_pos s.isLt]

end Row

end Cert.Proof.Ab
-- ==== Proof.AbRef.lean ====
/-
  Hand-written. The reference of the stick-breaking heads, read at the ideal values.
-/
module

public import proofs.«01_k».proof.Defs
public import proofs.«01_k».proof.Proof.Gen.AbPromptRefIdeal.Read
public import proofs.«01_k».proof.Proof.AbScore
public import proofs.«01_k».proof.Proof.Gen.Pre_finite
public import Idealize.ShloMosaic.Lib.Pointwise
public import Idealize.ShloMosaic.Lib.IdealHost
public import Idealize.ShloMosaic.Lib.Quiescent

@[expose] public section

noncomputable section

namespace Cert.Proof.Ab

open Cert.AbPromptRefIdeal Cert.AbPromptRefIdeal.Gen Cert.AbPromptRefIdeal.Read Idealize.ShloMosaic Idealize.ShloMosaic.TcCoe Idealize.SL.Sem

/-- The reference's frames, with the precondition and without. -/
theorem ref_frame : Cert.quiescent_AbPromptRefIdeal := fun m ρ _ =>
  (θ_run Cert.AbPromptRefIdeal.defs _ _).mono (fun r h => ⟨fun c => (h c).2, sem_eq_zero_of_no_sems (by decide) r.2⟩)
    (Cert.AbPromptRefIdeal.Value.run (F := Ideal) m ρ)
theorem ref_frame_pre : Cert.quiescent_AbPromptRefIdeal_pre_finite := fun m ρ _ => ref_frame m ρ trivial

section Read

variable {x0 : S16384x2048.Idx → EReal} {x1 : S16384x4096.Idx → EReal}

/-- The queries, keys and values of the stick-breaking heads. -/
theorem q_apply (b : Fin 8) (g : Fin 4) (t : Fin 2048) (d : Fin 128) (i : S8x2048x4x128.Idx)
    (h0 : (i 0).val = b.val) (h1 : (i 1).val = t.val) (h2 : (i 2).val = g.val) (h3 : (i 3).val = d.val) :
    val_main_v2 (F := Ideal) x0 i = x0 (ix2 (rowB b t) (colQ g d)) := by
  refine (val_main_v2_apply _ i).trans ((val_main_v1_apply _ _).trans (congrArg x0 (funext fun a => Fin.ext ?_)))
  have := b.isLt; have := g.isLt; have := t.isLt; have := d.isLt
  match a with
  | ⟨0, _⟩ =>
    show ((((i 0).val * 2048 + (i 1).val) * 16 + (12 + (i 2).val)) * 128 + (i 3).val) / 2048 = b.val * 2048 + t.val
    omega
  | ⟨1, _⟩ =>
    show ((((i 0).val * 2048 + (i 1).val) * 16 + (12 + (i 2).val)) * 128 + (i 3).val) % 2048 = (12 + g.val) * 128 + d.val
    omega
theorem k_apply (b : Fin 8) (g : Fin 4) (t : Fin 2048) (d : Fin 128) (i : S8x2048x4x128.Idx)
    (h0 : (i 0).val = b.val) (h1 : (i 1).val = t.val) (h2 : (i 2).val = g.val) (h3 : (i 3).val = d.val) :
    val_main_v4 (F := Ideal) x1 i = x1 (ix2 (rowB b t) (colK g d)) := by
  refine (val_main_v4_apply _ i).trans ((val_main_v3_apply _ _).trans ((val_main_v0_apply _ _).trans (congrArg x1 (funext fun a => Fin.ext ?_))))
  have := b.isLt; have := g.isLt; have := t.isLt; have := d.isLt
  match a with
  | ⟨0, _⟩ => simp [rowB, colK, h0, h1, h2, h3]; omega
  | ⟨1, _⟩ => simp [rowB, colK, h0, h1, h2, h3]; omega
theorem v_apply (b : Fin 8) (g : Fin 4) (t : Fin 2048) (d : Fin 128) (i : S8x2048x4x128.Idx)
    (h0 : (i 0).val = b.val) (h1 : (i 1).val = t.val) (h2 : (i 2).val = g.val) (h3 : (i 3).val = d.val) :
    val_main_v6 (F := Ideal) x1 i = x1 (ix2 (rowB b t) (colV g d)) := by
  refine (val_main_v6_apply _ i).trans ((val_main_v5_apply _ _).trans ((val_main_v0_apply _ _).trans (congrArg x1 (funext fun a => Fin.ext ?_))))
  have := b.isLt; have := g.isLt; have := t.isLt; have := d.isLt
  match a with
  | ⟨0, _⟩ => simp [rowB, colV, h0, h1, h2, h3]; omega
  | ⟨1, _⟩ => simp [rowB, colV, h0, h1, h2, h3]; omega

/-- The scores. -/
theorem v9_apply (hf : Real01 x0 x1) (i : S8x4x2048x2048.Idx) :
    val_main_v9 (F := Ideal) x0 x1 i = ((zR x0 x1 (i 0) (i 1) (i 2) (i 3).val : ℝ) : EReal) := by
  rw [val_main_v9_apply, val_main_v7_apply, val_main_v8_apply, val_main_cst_apply]
  refine Eq.trans ?_ (zR_coe hf (i 0) (i 1) (i 2) (i 3)).2
  refine congrArg (· * sc) (Finset.sum_congr rfl fun d _ => congrArg₂ (· * ·) ?_ ?_)
  · exact q_apply (i 0) (i 1) (i 2) d _ rfl rfl rfl rfl
  · exact k_apply (i 0) (i 1) (i 3) d _ rfl rfl rfl rfl

/-- The negated soft plus as the reference spells it. -/
theorem soft_eq (x : EReal) :
    FloatOps.hostNegf (F := Ideal) (φ := .f32) (Scalar.select
        (FloatOps.cmpf (F := Ideal) (φ := .f32) CmpFPredicate.une (FloatOps.subf (F := Ideal) (φ := .f32) x (FloatOps.ofBits .f32 0#32))
          (FloatOps.subf (F := Ideal) (φ := .f32) x (FloatOps.ofBits .f32 0#32)))
        (FloatOps.addf (F := Ideal) (φ := .f32) x (FloatOps.ofBits .f32 0#32))
        (FloatOps.addf (F := Ideal) (φ := .f32) (FloatOps.maximumf (F := Ideal) (φ := .f32) x (FloatOps.ofBits .f32 0#32))
          (FloatOps.hostUnary (F := Ideal) (φ := .f32) HostUnaryOp.log1p
            (FloatOps.hostUnary (F := Ideal) (φ := .f32) HostUnaryOp.exp
              (FloatOps.hostNegf (F := Ideal) (φ := .f32)
                (FloatOps.hostAbsf (F := Ideal) (φ := .f32) (FloatOps.subf (F := Ideal) (φ := .f32) x (FloatOps.ofBits .f32 0#32))))))))
      = -(max x 0 + Ideal.log (1 + Ideal.exp (-(max x (-x))))) := by
  have hz : FloatOps.ofBits (F := Ideal) .f32 0#32 = (0 : EReal) := Ideal.ofBits_zero_f32
  rw [hz]
  have h0 : FloatOps.subf (F := Ideal) (φ := .f32) x (0 : EReal) = x := sub_zero x
  rw [h0]
  have hc : FloatOps.cmpf (F := Ideal) (φ := .f32) CmpFPredicate.une x x = 0#1 := by
    show Ideal.cmp CmpFPredicate.une x x = 0#1
    simp [Ideal.cmp]
  rw [hc]
  rfl

/-- The log-sigmoid of a score, and of its negation. -/
theorem v23_apply (hf : Real01 x0 x1) (i : S8x4x2048x2048.Idx) :
    val_main_v23 (F := Ideal) x0 x1 i = ((lsR (zR x0 x1 (i 0) (i 1) (i 2) (i 3).val) : ℝ) : EReal) := by
  rw [← ref_ls, ← v9_apply hf i]
  exact soft_eq (-(val_main_v9 (F := Ideal) x0 x1 i))
theorem v17_apply (hf : Real01 x0 x1) (i : S8x4x2048x2048.Idx) :
    val_main_v17 (F := Ideal) x0 x1 i = ((lsR (zR x0 x1 (i 0) (i 1) (i 2) (i 3).val) - zR x0 x1 (i 0) (i 1) (i 2) (i 3).val : ℝ) : EReal) := by
  rw [← lsR_neg, ← ref_ls, EReal.coe_neg, ← v9_apply hf i]
  exact soft_eq (-(-(val_main_v9 (F := Ideal) x0 x1 i)))

/-- The mask: a column before the row. -/
theorem v15_apply (j : S1x1x2048x2048.Idx) : val_main_v15 (F := Ideal) j = if (j 3).val < (j 2).val then 1#1 else 0#1 := by
  have h2 : (j 2).val < 2048 := (j 2).isLt
  have h3 : (j 3).val < 2048 := (j 3).isLt
  have e : val_main_v15 (F := Ideal) j = IntOp.cmpi .slt (BitVec.ofNat 32 (j 3).val) (BitVec.ofNat 32 (j 2).val) := by
    rw [val_main_v15_apply, val_main_v13_apply, val_main_v14_apply, val_main_v11_apply, val_main_v12_apply, val_main_v10_apply, val_main_v10_apply]
  rw [e]
  simp only [IntOp.cmpi, slt_ofNat _ _ (show (j 3).val < 2 ^ 31 by omega) (show (j 2).val < 2 ^ 31 by omega)]
  by_cases h : (j 3).val < (j 2).val <;> simp [h]

/-- What a column takes from the stick. -/
theorem v18_apply (hf : Real01 x0 x1) (i : S8x4x2048x2048.Idx) :
    val_main_v18 (F := Ideal) x0 x1 i = ((Lr (zR x0 x1 (i 0) (i 1) (i 2)) (i 2).val (i 3).val : ℝ) : EReal) := by
  rw [val_main_v18_apply, v17_apply hf, val_main_call1_v1_apply, v15_apply]
  show Scalar.select (if (i 3).val < (i 2).val then 1#1 else 0#1) _ _ = _
  unfold Lr
  by_cases h : (i 3).val < (i 2).val
  · rw [if_pos h, if_pos h]; rfl
  · rw [if_neg h, if_neg h]
    exact Ideal.ofBits_zero_f32

/-- A sum over a list, from an initial value. -/
theorem foldl_sum {M : Type} [AddCommMonoid M] {n : ℕ} (f : Fin n → M) (v : M) :
    (List.finRange n).foldl (fun r k => r + f k) v = v + ∑ k, f k := by
  rw [← List.sum_ofFn, List.ofFn_eq_map]
  generalize List.finRange n = l
  induction l generalizing v with
  | nil => simp
  | cons a l ih => rw [List.foldl_cons, ih, List.map_cons, List.sum_cons, add_assoc]

/-- A window sum from zero, over the window's elements. -/
theorem window_sum {s t : Shape} (window strides lo hi : Fin s.rank → Nat) (h : s.ReduceWindows window strides lo hi t)
    (x : s.Idx → EReal) (j : t.Idx) :
    Ideal.hostReduceWindowAdd window strides lo hi h x 0 j = ∑ w : (⟨s.rank, window⟩ : Shape).Idx,
      (let p : Fin s.rank → Nat := fun a => (j (a.cast h.1.symm)).val * strides a + (w a).val
       if hin : ∀ a, lo a ≤ p a ∧ p a - lo a < s.size a then x (fun a => ⟨p a - lo a, (hin a).2⟩) else 0) := by
  unfold Ideal.hostReduceWindowAdd Host.reduceWindow
  refine (foldl_sum _ _).trans ((zero_add _).trans ?_)
  refine Eq.trans (Finset.sum_congr rfl fun k _ => ?_) (Equiv.sum_comp (⟨s.rank, window⟩ : Shape).rowMajor.symm (fun w =>
      (let p : Fin s.rank → Nat := fun a => (j (a.cast h.1.symm)).val * strides a + (w a).val
       if hin : ∀ a, lo a ≤ p a ∧ p a - lo a < s.size a then x (fun a => ⟨p a - lo a, (hin a).2⟩) else (0 : EReal))))
  dsimp only
  congr

/-- The window of a tail sum, and an element of it. -/
abbrev SW : Shape := ⟨4, ![1, 1, 1, 2048]⟩
def inW (e : Fin 2048) : SW.Idx := ix4 (0 : Fin 1) (0 : Fin 1) (0 : Fin 1) e

theorem inW_bijective : Function.Bijective inW := by
  refine ⟨fun a b h => congrFun h 3, fun w => ⟨w 3, funext fun a => ?_⟩⟩
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- A sum of the elements at and after the `s`th of a row, the places past the end at zero. -/
theorem tail_sum (f : ℕ → ℝ) (s : ℕ) :
    ∑ e : Fin 2048, (if s + e.val < 2048 then ((f (s + e.val) : ℝ) : EReal) else 0) = ((∑ e ∈ Finset.Ico s 2048, f e : ℝ) : EReal) := by
  rw [coe_sum, Finset.sum_Ico_eq_sum_range, ← Finset.sum_range (fun e => if s + e < 2048 then ((f (s + e) : ℝ) : EReal) else 0)]
  refine ((Finset.sum_subset (Finset.range_subset_range.2 (Nat.sub_le 2048 s)) fun e _ he => ?_).symm.trans (Finset.sum_congr rfl fun e he => ?_))
  · have := Nat.not_lt.1 fun h => he (Finset.mem_range.2 h)
    exact if_neg (by omega)
  · have := Finset.mem_range.1 he
    exact if_pos (by omega)

/-- A window's term at one of its elements. -/
def term (y : S8x4x2048x2048.Idx → EReal) (i : S8x4x2048x2048.Idx) (w : SW.Idx) : EReal :=
  let p : Fin 4 → Nat := fun a => (i a).val * (![1, 1, 1, 1] : Fin 4 → Nat) a + (w a).val
  if hin : ∀ a : Fin 4, (![0, 0, 0, 0] : Fin 4 → Nat) a ≤ p a ∧ p a - (![0, 0, 0, 0] : Fin 4 → Nat) a < S8x4x2048x2048.size a then
    y (fun a => ⟨p a - (![0, 0, 0, 0] : Fin 4 → Nat) a, (hin a).2⟩) else 0

theorem term_apply (y : S8x4x2048x2048.Idx → EReal) (i : S8x4x2048x2048.Idx) (f : ℕ → ℝ)
    (hy : ∀ j : S8x4x2048x2048.Idx, j 0 = i 0 → j 1 = i 1 → j 2 = i 2 → y j = ((f (j 3).val : ℝ) : EReal)) (e : Fin 2048) :
    term y i (inW e) = if (i 3).val + e.val < 2048 then ((f ((i 3).val + e.val) : ℝ) : EReal) else 0 := by
  have q0 : (i 0).val < 8 := (i 0).isLt
  have q1 : (i 1).val < 4 := (i 1).isLt
  have q2 : (i 2).val < 2048 := (i 2).isLt
  unfold term
  by_cases h : (i 3).val + e.val < 2048
  · rw [if_pos h, dif_pos]
    · refine (hy _ (Fin.ext ?_) (Fin.ext ?_) (Fin.ext ?_)).trans ?_
      · show (i 0).val * 1 + 0 - 0 = (i 0).val; omega
      · show (i 1).val * 1 + 0 - 0 = (i 1).val; omega
      · show (i 2).val * 1 + 0 - 0 = (i 2).val; omega
      · show ((f ((i 3).val * 1 + e.val - 0) : ℝ) : EReal) = _
        rw [Nat.mul_one, Nat.sub_zero]
    · intro a
      match a with
      | ⟨0, _⟩ => show 0 ≤ (i 0).val * 1 + 0 ∧ (i 0).val * 1 + 0 - 0 < 8; omega
      | ⟨1, _⟩ => show 0 ≤ (i 1).val * 1 + 0 ∧ (i 1).val * 1 + 0 - 0 < 4; omega
      | ⟨2, _⟩ => show 0 ≤ (i 2).val * 1 + 0 ∧ (i 2).val * 1 + 0 - 0 < 2048; omega
      | ⟨3, _⟩ => show 0 ≤ (i 3).val * 1 + e.val ∧ (i 3).val * 1 + e.val - 0 < 2048; omega
  · rw [if_neg h, dif_neg]
    intro hin
    have h3 : (i 3).val * 1 + e.val - 0 < 2048 := (hin 3).2
    omega

/-- The tail sums of what the columns take. -/
theorem v19_apply (hf : Real01 x0 x1) (i : S8x4x2048x2048.Idx) :
    val_main_v19 (F := Ideal) x0 x1 i
      = ((∑ e ∈ Finset.Ico (i 3).val 2048, Lr (zR x0 x1 (i 0) (i 1) (i 2)) (i 2).val e : ℝ) : EReal) := by
  have h18 := v18_apply hf
  have hv : val_main_call2_v0 (F := Ideal) (Shape.Idx.first h_S_) = (0 : EReal) := Ideal.ofBits_zero_f32
  unfold val_main_v19
  generalize val_main_v18 (F := Ideal) x0 x1 = y at h18
  rw [Host.reduceWindowAdd, hv]
  refine (window_sum (s := S8x4x2048x2048) (t := S8x4x2048x2048) _ _ _ _ _ y i).trans ?_
  refine (inW_bijective.sum_comp (term y i)).symm.trans ?_
  rw [← tail_sum]
  refine Finset.sum_congr rfl fun e _ => term_apply y i _ (fun j h0 h1 h2 => ?_) e
  rw [h18, h0, h1, h2]

/-- The tail sums past each column. -/
theorem v22_apply (hf : Real01 x0 x1) (i : S8x4x2048x2048.Idx) :
    val_main_v22 (F := Ideal) x0 x1 i
      = ((∑ e ∈ Finset.Ico ((i 3).val + 1) 2048, Lr (zR x0 x1 (i 0) (i 1) (i 2)) (i 2).val e : ℝ) : EReal) := by
  have h3 : (i 3).val < 2048 := (i 3).isLt
  unfold val_main_v22
  by_cases h : (i 3).val < 2047
  · refine (concatenate_pair_apply_left (t := S8x4x2048x2048) (s₁ := S8x4x2048x2047) (s₂ := S8x4x2048x1) 3 _ _ _ i rfl
      (ix4 (i 0) (i 1) (i 2) (⟨(i 3).val, h⟩ : Fin 2047)) (fun b => ?_)).trans ?_
    · match b with | ⟨0, _⟩ => rfl | ⟨1, _⟩ => rfl | ⟨2, _⟩ => rfl | ⟨3, _⟩ => rfl
    · refine (val_main_v20_apply _ _ _).trans ((v19_apply hf _).trans ?_)
      show ((∑ e ∈ Finset.Ico (1 + (i 3).val) 2048, Lr (zR x0 x1 (i 0) (i 1) (i 2)) (i 2).val e : ℝ) : EReal) = _
      rw [Nat.add_comm]
  · refine (concatenate_pair_apply_right (t := S8x4x2048x2048) (s₁ := S8x4x2048x2047) (s₂ := S8x4x2048x1) 3 _ _ _ i rfl rfl
      (ix4 (i 0) (i 1) (i 2) (0 : Fin 1)) (fun b hb => ?_) ?_).trans ?_
    · match b, hb with | ⟨0, _⟩, _ => rfl | ⟨1, _⟩, _ => rfl | ⟨2, _⟩, _ => rfl | ⟨3, _⟩, hb => exact absurd rfl hb
    · show 0 + 2047 = (i 3).val; omega
    · rw [Finset.Ico_eq_empty (by omega), Finset.sum_empty]
      exact Ideal.ofBits_zero_f32

/-- The weights. -/
theorem v26_apply (hf : Real01 x0 x1) (i : S8x4x2048x2048.Idx) :
    val_main_v26 (F := Ideal) x0 x1 i = Wr (zR x0 x1 (i 0) (i 1) (i 2)) (i 2).val (i 3).val := by
  rw [val_main_v26_apply, val_main_v25_apply, val_main_v24_apply, v23_apply hf, v22_apply hf, val_main_call4_v1_apply, v15_apply]
  show Scalar.select (if (i 3).val < (i 2).val then 1#1 else 0#1) _ _ = _
  unfold Wr
  by_cases h : (i 3).val < (i 2).val
  · rw [if_pos h, if_pos h]
    exact (congrArg Ideal.exp (EReal.coe_add _ _).symm).trans rfl
  · rw [if_neg h, if_neg h]
    exact Ideal.ofBits_zero_f32

/-- The reference's result on the stick-breaking heads' columns. -/
theorem ref_apply (hf : Real01 x0 x1) (b : Fin 8) (g : Fin 4) (t : Fin 2048) (d : Fin 128) :
    val_main_v31 (F := Ideal) x0 x1 (ix2 (rowB b t) (colQ g d)) = Gs x0 x1 b g t d := by
  have := b.isLt; have := g.isLt; have := t.isLt; have := d.isLt
  refine (val_main_v31_apply _ _ _).trans ?_
  unfold val_main_v30
  refine (concatenate_pair_apply_right (t := S8x2048x16x128) (s₁ := S8x2048x12x128) (s₂ := S8x2048x4x128) 2 _ _ _ _ rfl rfl
    (ix4 b t g d) (fun b' hb => ?_) ?_).trans ?_
  · match b', hb with
    | ⟨0, _⟩, _ =>
      show b.val = ((b.val * 2048 + t.val) * 2048 + ((12 + g.val) * 128 + d.val)) / 4194304
      omega
    | ⟨1, _⟩, _ =>
      show t.val = ((b.val * 2048 + t.val) * 2048 + ((12 + g.val) * 128 + d.val)) / 2048 % 2048
      omega
    | ⟨2, _⟩, hb => exact absurd rfl hb
    | ⟨3, _⟩, _ =>
      show d.val = ((b.val * 2048 + t.val) * 2048 + ((12 + g.val) * 128 + d.val)) % 128
      omega
  · show g.val + 12 = ((b.val * 2048 + t.val) * 2048 + ((12 + g.val) * 128 + d.val)) / 128 % 16
    omega
  · refine (val_main_v28_apply _ _ _).trans ((val_main_v27_apply _ _ _).trans (Finset.sum_congr rfl fun s _ => ?_))
    rw [mul_comm]
    refine congrArg₂ (· * ·) ?_ ?_
    · exact v26_apply hf _
    · exact v_apply b g s d _ rfl rfl rfl rfl

end Read

end Cert.Proof.Ab
-- ==== Proof.Proj.lean ====
/-
  Hand-written. What the layer's projections have in common: the product of rows of activations with chosen columns of a
  weight array that carries a unit axis in front, and the index facts the modules of the single calls use.
-/
module

public import proofs.«01_k».proof.Proof.Gen.QPromptIdeal.Skeleton
public import proofs.«01_k».proof.Proof.Gen.KvSampleIdeal.Skeleton
public import Idealize.ShloMosaic.Lib.Pointwise

@[expose] public section

noncomputable section

namespace Cert.Proof.Proj

open Idealize.ShloMosaic

variable {M K N C : Nat}

/-- Rows of `x` times the columns `col` of `w`. -/
def proj (col : Fin C → Fin N) (x : Vec Ideal ⟨2, ![M, K]⟩ .f32) (w : Vec Ideal ⟨3, ![1, K, N]⟩ .f32) : Vec Ideal ⟨2, ![M, C]⟩ .f32 :=
  fun i => ∑ k : Fin K, x (ix2 (i 0) k) * w (ix3 0 k (col (i 1)))

theorem hz : (![0, 0] : Fin 2 → Nat) = fun _ => 0 := funext fun a => by fin_cases a <;> rfl

/-- A two-axis index from its two positions. -/
theorem eq_ix2 (i : (⟨2, ![M, K]⟩ : Shape).Idx) (a : Fin M) (b : Fin K) (h0 : (i 0).val = a.val) (h1 : (i 1).val = b.val) : i = ix2 a b :=
  funext fun x => match x with
    | ⟨0, _⟩ => Fin.ext h0
    | ⟨1, _⟩ => Fin.ext h1

/-- A three-axis index with a unit axis in front, from its two positions. -/
theorem eq_ix3 (i : (⟨3, ![1, K, N]⟩ : Shape).Idx) (a : Fin K) (b : Fin N) (h1 : (i 1).val = a.val) (h2 : (i 2).val = b.val) : i = ix3 0 a b :=
  funext fun x => match x with
    | ⟨0, _⟩ => Fin.ext (by have : (i 0).val < 1 := (i 0).isLt; show (i 0).val = 0; omega)
    | ⟨1, _⟩ => Fin.ext h1
    | ⟨2, _⟩ => Fin.ext h2

/-- The weights without their unit axis, read at an index. -/
theorem drop_unit (w : Vec Ideal ⟨3, ![1, K, N]⟩ .f32) (h : (⟨3, ![1, K, N]⟩ : Shape).ShapeCasts ⟨2, ![K, N]⟩) (k : Fin K) (r : Fin N) :
    shapeCast ⟨2, ![K, N]⟩ w h (ix2 k r) = w (ix3 0 k r) := by
  refine shapeCast_apply (s := ⟨3, ![1, K, N]⟩) _ _ _ _ ?_
  rw [Shape.rowMajor_val_three, Shape.rowMajor_val_two]
  show (0 * K + k.val) * N + r.val = k.val * N + r.val
  rw [Nat.zero_mul, Nat.zero_add]

/-- An activations' array with its two leading axes merged. -/
def rows {A B : Nat} (h : M = A * B) (hB : 0 < B) (x : Vec Ideal ⟨3, ![A, B, K]⟩ .f32) : Vec Ideal ⟨2, ![M, K]⟩ .f32 := fun i =>
  x (ix3 ⟨(i 0).val / B, Nat.div_lt_of_lt_mul (by rw [Nat.mul_comm, ← h]; exact (i 0).isLt)⟩ ⟨(i 0).val % B, Nat.mod_lt _ hB⟩ (i 1))

/-- The host's reshape is that. -/
theorem rows_cast {A B : Nat} (h : M = A * B) (hB : 0 < B) (x : Vec Ideal ⟨3, ![A, B, K]⟩ .f32)
    (hs : (⟨3, ![A, B, K]⟩ : Shape).ShapeCasts ⟨2, ![M, K]⟩) : shapeCast ⟨2, ![M, K]⟩ x hs = rows h hB x := by
  funext i
  refine shapeCast_apply (s := ⟨3, ![A, B, K]⟩) _ _ _ _ ?_
  rw [Shape.rowMajor_val_three, Shape.rowMajor_val_two]
  show ((i 0).val / B * B + (i 0).val % B) * K + (i 1).val = (i 0).val * K + (i 1).val
  rw [Nat.div_add_mod']

/-- The columns a call with blocks of 512 columns takes, from the weights' block `b` on and `s` blocks further each time. -/
def col (b s : Nat) (h : ∀ q < C, (b + q / 512 * s) * 512 + q % 512 < N) (q : Fin C) : Fin N :=
  ⟨(b + q.val / 512 * s) * 512 + q.val % 512, h q.val q.isLt⟩

/-- The kernel's product of two blocks, read at an index. -/
theorem pay_apply (x : Vec Ideal ⟨2, ![1024, 2048]⟩ .f32) (w : Vec Ideal ⟨2, ![2048, 512]⟩ .f32) (j : (⟨2, ![1024, 512]⟩ : Shape).Idx) :
    Cert.QPromptIdeal.Gen.k0_pay1 (F := Ideal) x w j = ∑ k : Fin 2048, x (ix2 (j 0) k) * w (ix2 k (j 1)) := by
  pointwise [Cert.QPromptIdeal.Gen.k0_pay1]

/-- The same where the activations come reshaped from the host: the kernel then restates their shape too. -/
theorem pay_apply_reshaped (x : Vec Ideal ⟨2, ![1024, 2048]⟩ .f32) (w : Vec Ideal ⟨2, ![2048, 512]⟩ .f32) (j : (⟨2, ![1024, 512]⟩ : Shape).Idx) :
    Cert.KvSampleIdeal.Gen.k0_pay1 (F := Ideal) x w j = ∑ k : Fin 2048, x (ix2 (j 0) k) * w (ix2 k (j 1)) := by
  pointwise [Cert.KvSampleIdeal.Gen.k0_pay1]

/-- A block of rows times a block of columns is a block of the product: `ex`, `ew` and `o` say where the blocks' elements
    stand in the arrays, `ix`, `iw` and `io` are the blocks' positions. -/
theorem block_eq {P b s : Nat} {h : ∀ q < C, (b + q / 512 * s) * 512 + q % 512 < N} (X : Vec Ideal ⟨2, ![M, K]⟩ .f32)
    (w : Vec Ideal ⟨3, ![1, K, N]⟩ .f32) (W : Vec Ideal ⟨2, ![K, N]⟩ .f32) (hs : (⟨3, ![1, K, N]⟩ : Shape).ShapeCasts ⟨2, ![K, N]⟩)
    (hW : W = shapeCast ⟨2, ![K, N]⟩ w hs)
    (ex : (⟨2, ![P, K]⟩ : Shape).Idx → (⟨2, ![M, K]⟩ : Shape).Idx) (ew : (⟨2, ![K, 512]⟩ : Shape).Idx → (⟨2, ![K, N]⟩ : Shape).Idx)
    (j : (⟨2, ![P, 512]⟩ : Shape).Idx) (o : (⟨2, ![M, C]⟩ : Shape).Idx) (ix iw io : Fin 2 → Nat)
    (hix : ix 0 = io 0 ∧ ix 1 = 0 ∧ iw 0 = 0 ∧ iw 1 = b + io 1 * s)
    (hx0 : ∀ y, (ex y 0).val = ix 0 * P + (y 0).val) (hx1 : ∀ y, (ex y 1).val = ix 1 * K + (y 1).val)
    (hw0 : ∀ y, (ew y 0).val = iw 0 * K + (y 0).val) (hw1 : ∀ y, (ew y 1).val = iw 1 * 512 + (y 1).val)
    (ho0 : (o 0).val = io 0 * P + (j 0).val) (ho1 : (o 1).val = io 1 * 512 + (j 1).val) :
    ∑ k : Fin K, X (ex (ix2 (j 0) k)) * W (ew (ix2 k (j 1))) = proj (col b s h) X w o := by
  obtain ⟨e1, e2, e3, e4⟩ := hix
  subst hW
  unfold proj
  refine Finset.sum_congr rfl fun k _ => congrArg₂ (· * ·) (congrArg X (eq_ix2 _ _ _ ?_ ?_))
    ((congrArg (shapeCast _ w hs) (eq_ix2 _ k (col b s h (o 1)) ?_ ?_)).trans (drop_unit w hs k _))
  · rw [hx0, ho0, e1]; rfl
  · rw [hx1, e2, Nat.zero_mul, Nat.zero_add]; rfl
  · rw [hw0, e3, Nat.zero_mul, Nat.zero_add]; rfl
  · have hj : (j 1).val < 512 := (j 1).isLt
    have d : (o 1).val / 512 = io 1 ∧ (o 1).val % 512 = (j 1).val := by omega
    rw [hw1, e4]
    show _ = (b + (o 1).val / 512 * s) * 512 + (o 1).val % 512
    rw [d.1, d.2]; rfl

/-- The parts of a flat position in rows of two arrays of four heads. -/
theorem flat_parts (a c : Nat) (hc : c < 1024) : (a * 1024 + c) / 1024 = a ∧ (a * 1024 + c) / 512 % 2 = c / 512
    ∧ (a * 1024 + c) / 128 % 4 = c / 128 % 4 ∧ (a * 1024 + c) % 128 = c % 128 := by
  refine ⟨?_, ?_, ?_, ?_⟩ <;> omega

end Cert.Proof.Proj

end
-- ==== Proof.AbValue.lean ====
/-
  Hand-written. The stick-breaking heads of the first layer's attention: the kernel's result array at the ideal values, and the
  claim that it is the reference's.
-/
module

public import proofs.«01_k».proof.Proof.AbState
public import proofs.«01_k».proof.Proof.AbPre
public import proofs.«01_k».proof.Proof.AbRef
public import proofs.«01_k».proof.Proof.Proj

@[expose] public section

noncomputable section

namespace Cert.Proof.Ab

open Cert.AbPromptIdeal Cert.AbPromptIdeal.Gen Idealize.ShloMosaic Idealize.ShloMosaic.TcCoe Idealize.SL.Sem
open Idealize.ShloMosaic.Pipeline (Dat RDat)

/-- Where the windows stand at a point of the grid. -/
theorem index_eq : ∀ t : Fin cfg0.N, (win0_0.index t 0 = t.val / 128 * 8 + t.val % 8 ∧ win0_0.index t 1 = t.val / 8 % 16)
    ∧ (win0_1.index t 0 = t.val / 128 ∧ win0_1.index t 1 = t.val / 8 % 16)
    ∧ (win0_2.index t 0 = t.val / 128 ∧ win0_2.index t 1 = 16 + t.val / 8 % 16)
    ∧ (win0_4.index t 0 = t.val / 128 * 8 + t.val % 8 ∧ win0_4.index t 1 = t.val / 8 % 16) :=
  (by decide +kernel : ∀ t : Fin grid0.N, (win0_0.index t 0 = t.val / 128 * 8 + t.val % 8 ∧ win0_0.index t 1 = t.val / 8 % 16)
    ∧ (win0_1.index t 0 = t.val / 128 ∧ win0_1.index t 1 = t.val / 8 % 16)
    ∧ (win0_2.index t 0 = t.val / 128 ∧ win0_2.index t 1 = 16 + t.val / 8 % 16)
    ∧ (win0_4.index t 0 = t.val / 128 * 8 + t.val % 8 ∧ win0_4.index t 1 = t.val / 8 % 16))

/-- The block of queries at a point, and whether its head breaks sticks. -/
theorem point_eq : ∀ t : Fin cfg0.N, (grid0.coords t 2).val = t.val % 8 ∧ (12 ≤ t.val / 8 % 16 → k0_cond3 (grid0.coords t) = 1#1) :=
  (by decide +kernel : ∀ t : Fin grid0.N, (grid0.coords t 2).val = t.val % 8 ∧ (12 ≤ t.val / 8 % 16 → k0_cond3 (grid0.coords t) = 1#1))

variable (m : (ℓ : Loc nD τ sig) → Buf (Elt Ideal) ℓ)

/-- The blocks, read at an index of the arrays. -/
theorem blk0 (c : Dev nD) (t : Fin cfg0.N) (p : Fin 256) (k : Fin 128) (R : Fin 16384) (C : Fin 2048)
    (hR : R.val = (t.val / 128 * 8 + t.val % 8) * 256 + p.val) (hC : C.val = t.val / 8 % 16 * 128 + k.val) :
    (iblk m c 0 t : Vec Ideal S256x128 .f32) (ix2 p k) = (m ((c : Thread nD τ).loc main_arg0) : Vec Ideal S16384x2048 .f32) (ix2 R C) := by
  obtain ⟨⟨h0, h1⟩, -⟩ := index_eq t
  unfold iblk
  rw [View.read_apply]
  show V m c main_arg0 _ = _
  rw [V_main_arg0]
  refine congrArg (m ((c : Thread nD τ).loc main_arg0)) (Proj.eq_ix2 _ _ _ ?_ ?_)
  · show win0_0.index t 0 * 256 + 1 * p.val = R.val; rw [h0, hR]; omega
  · show win0_0.index t 1 * 128 + 1 * k.val = C.val; rw [h1, hC]; omega
theorem blk1 (c : Dev nD) (t : Fin cfg0.N) (p : Fin 2048) (k : Fin 128) (R : Fin 16384) (C : Fin 4096)
    (hR : R.val = t.val / 128 * 2048 + p.val) (hC : C.val = t.val / 8 % 16 * 128 + k.val) :
    (iblk m c 1 t : Vec Ideal S2048x128 .f32) (ix2 p k) = (m ((c : Thread nD τ).loc main_arg1) : Vec Ideal S16384x4096 .f32) (ix2 R C) := by
  obtain ⟨-, ⟨h0, h1⟩, -⟩ := index_eq t
  unfold iblk
  rw [View.read_apply]
  show V m c main_arg1 _ = _
  rw [V_main_arg1]
  refine congrArg (m ((c : Thread nD τ).loc main_arg1)) (Proj.eq_ix2 _ _ _ ?_ ?_)
  · show win0_1.index t 0 * 2048 + 1 * p.val = R.val; rw [h0, hR]; omega
  · show win0_1.index t 1 * 128 + 1 * k.val = C.val; rw [h1, hC]; omega
theorem blk2 (c : Dev nD) (t : Fin cfg0.N) (p : Fin 2048) (k : Fin 128) (R : Fin 16384) (C : Fin 4096)
    (hR : R.val = t.val / 128 * 2048 + p.val) (hC : C.val = (16 + t.val / 8 % 16) * 128 + k.val) :
    (iblk m c 2 t : Vec Ideal S2048x128 .f32) (ix2 p k) = (m ((c : Thread nD τ).loc main_arg1) : Vec Ideal S16384x4096 .f32) (ix2 R C) := by
  obtain ⟨-, -, ⟨h0, h1⟩, -⟩ := index_eq t
  unfold iblk
  rw [View.read_apply]
  show V m c main_arg1 _ = _
  rw [V_main_arg1]
  refine congrArg (m ((c : Thread nD τ).loc main_arg1)) (Proj.eq_ix2 _ _ _ ?_ ?_)
  · show win0_2.index t 0 * 2048 + 1 * p.val = R.val; rw [h0, hR]; omega
  · show win0_2.index t 1 * 128 + 1 * k.val = C.val; rw [h1, hC]; omega

/-- The point that writes an element of the result, and the element's place in the point's block. -/
def tOf (i : S16384x2048.Idx) : Fin cfg0.N :=
  ⟨((i 0).val / 2048 * 16 + (i 1).val / 128) * 8 + (i 0).val / 256 % 8, by
    have h0 : (i 0).val < 16384 := (i 0).isLt
    have h1 : (i 1).val < 2048 := (i 1).isLt
    show _ < 1024; omega⟩
def locOf (i : S16384x2048.Idx) : S256x128.Idx :=
  ix2 (⟨(i 0).val % 256, Nat.mod_lt _ (by omega)⟩ : Fin 256) (⟨(i 1).val % 128, Nat.mod_lt _ (by omega)⟩ : Fin 128)

/-- The array the points leave, from what each leaves. -/
def join (after : (w' : Fin cfg0.W) → Fin cfg0.N → (cfg0.win w').block.Idx → Elt Ideal (cfg0.win w').elt) : S16384x2048.Idx → EReal :=
  fun i => (after 4 (tOf i) : S256x128.Idx → EReal) (locOf i)

theorem flushed_eq (c : Dev nD) (after : (w' : Fin cfg0.W) → Fin cfg0.N → (cfg0.win w').block.Idx → Elt Ideal (cfg0.win w').elt)
    (t : Fin cfg0.N) : ((rdats m c).withAfter after).flushed 4 t = ((cfg0.win 4).blk t).view.read (Elt Ideal) (join after) := by
  funext j
  have hN : t.val < 1024 := t.isLt
  have hj0 : (j 0).val < 256 := (j 0).isLt
  have hj1 : (j 1).val < 128 := (j 1).isLt
  obtain ⟨-, -, -, ⟨h0, h1⟩⟩ := index_eq t
  rw [View.read_apply]
  have e : ((cfg0.win 4).blk t).view.emb j
      = (ix2 ⟨(t.val / 128 * 8 + t.val % 8) * 256 + (j 0).val, by omega⟩ ⟨t.val / 8 % 16 * 128 + (j 1).val, by omega⟩ : S16384x2048.Idx) :=
    Proj.eq_ix2 _ _ _ (show win0_4.index t 0 * 256 + 1 * (j 0).val = (t.val / 128 * 8 + t.val % 8) * 256 + (j 0).val by rw [h0]; omega)
      (show win0_4.index t 1 * 128 + 1 * (j 1).val = t.val / 8 % 16 * 128 + (j 1).val by rw [h1]; omega)
  rw [e]
  show (after 4 t : S256x128.Idx → EReal) j = join after _
  unfold join
  have et : tOf (ix2 ⟨(t.val / 128 * 8 + t.val % 8) * 256 + (j 0).val, by omega⟩ ⟨t.val / 8 % 16 * 128 + (j 1).val, by omega⟩ : S16384x2048.Idx) = t := by
    refine Fin.ext ?_
    show (((t.val / 128 * 8 + t.val % 8) * 256 + (j 0).val) / 2048 * 16 + (t.val / 8 % 16 * 128 + (j 1).val) / 128) * 8
      + ((t.val / 128 * 8 + t.val % 8) * 256 + (j 0).val) / 256 % 8 = t.val
    omega
  have el : locOf (ix2 ⟨(t.val / 128 * 8 + t.val % 8) * 256 + (j 0).val, by omega⟩ ⟨t.val / 8 % 16 * 128 + (j 1).val, by omega⟩ : S16384x2048.Idx) = j := by
    refine funext fun a => Fin.ext ?_
    match a with
    | ⟨0, _⟩ => show ((t.val / 128 * 8 + t.val % 8) * 256 + (j 0).val) % 256 = (j 0).val; omega
    | ⟨1, _⟩ => show (t.val / 8 % 16 * 128 + (j 1).val) % 128 = (j 1).val; omega
  rw [et, el]

/-- The blocks tile the result array. -/
theorem cover (i : S16384x2048.Idx) : ∃ t : Fin cfg0.N, (cfg0.win 4).flush t = true ∧ i ∈ ((cfg0.win 4).blk t).view.set := by
  have h0 : (i 0 : Nat) < 16384 := (i 0).isLt
  have h1 : (i 1 : Nat) < 2048 := (i 1).isLt
  refine ⟨tOf i, flush0_4 _, ?_⟩
  obtain ⟨-, -, -, ⟨e0, e1⟩⟩ := index_eq (tOf i)
  have ev : (tOf i).val = ((i 0).val / 2048 * 16 + (i 1).val / 128) * 8 + (i 0).val / 256 % 8 := rfl
  show i ∈ ((View.whole main_v41).slice (win0_4.rect (tOf i))).set
  rw [View.set_slice_whole, Rect.mem_set_unit]
  intro a
  match a with
  | ⟨0, _⟩ =>
    show win0_4.index _ 0 * 256 ≤ (i 0 : Nat) ∧ (i 0 : Nat) < win0_4.index _ 0 * 256 + 256
    rw [e0, ev]; omega
  | ⟨1, _⟩ =>
    show win0_4.index _ 1 * 128 ≤ (i 1 : Nat) ∧ (i 1 : Nat) < win0_4.index _ 1 * 128 + 128
    rw [e1, ev]; omega

/-- What the run leaves at an element of a stick-breaking head. -/
theorem kernel_apply (r : PUnit × MemSt nD τ sig (Elt Ideal)) (h : Pipeline.RDat.FramePost cfg0 (rdats m) (V m) r) (c : Dev nD)
    (hf : Real01 (m ((c : Thread nD τ).loc main_arg0)) (m ((c : Thread nD τ).loc main_arg1)))
    (b : Fin 8) (g : Fin 4) (t : Fin 2048) (d : Fin 128) :
    (r.2.mem ((c : Thread nD τ).loc main_v41) : S16384x2048.Idx → EReal) (ix2 (rowB b t) (colQ g d))
      = Gs (m ((c : Thread nD τ).loc main_arg0)) (m ((c : Thread nD τ).loc main_arg1)) b g t d := by
  have hb := b.isLt; have hg := g.isLt; have ht := t.isLt; have hd := d.isLt
  obtain ⟨after, hL, hA⟩ := Pipeline.RDat.FramePost.exists_exact h c
  have hm : r.2.mem ((c : Thread nD τ).loc main_v41) = join after :=
    (hA 4).trans (((rdats m c).withAfter after).arrAt_eq_of_cover 4 _ (fun t _ => flushed_eq m c after t) cover)
  rw [hm]
  unfold join
  generalize hu : tOf (ix2 (rowB b t) (colQ g d)) = u
  have uv : u.val = (b.val * 16 + (12 + g.val)) * 8 + t.val / 256 := by
    rw [← hu]
    show ((b.val * 2048 + t.val) / 2048 * 16 + ((12 + g.val) * 128 + d.val) / 128) * 8 + (b.val * 2048 + t.val) / 256 % 8 = _
    omega
  have lv : locOf (ix2 (rowB b t) (colQ g d)) = ix2 (⟨t.val % 256, Nat.mod_lt _ (by omega)⟩ : Fin 256) d := by
    refine funext fun a => Fin.ext ?_
    match a with
    | ⟨0, _⟩ => show (b.val * 2048 + t.val) % 256 = t.val % 256; omega
    | ⟨1, _⟩ => show ((12 + g.val) * 128 + d.val) % 128 = d.val; omega
  rw [lv]
  obtain ⟨p2, pc⟩ := point_eq u
  have hc := pc (by rw [uv]; omega)
  have hl : left m c u (after 4 u) := Dat.toRRel_leaves (dat := dats m 0 c) (fgt := fgt) (Rl := Rl m c) (w := 4) rfl (hL 4 u (flush0_4 u))
  rw [hl hc]
  refine (outS_apply (grid0.coords u) hc _ _ _
    (fun r s => zR (m ((c : Thread nD τ).loc main_arg0)) (m ((c : Thread nD τ).loc main_arg1)) b g ⟨t.val / 256 * 256 + r.val, by omega⟩ s)
    (fun r s => ?_) _ d).trans ?_
  · refine Eq.trans (Finset.sum_congr rfl fun e _ => ?_) (zR_coe hf b g ⟨t.val / 256 * 256 + r.val, by omega⟩ s).1
    refine congrArg₂ (· * ·) (congrArg (· * sc) (blk0 m c u r e _ _ ?_ ?_)) (blk1 m c u s e _ _ ?_ ?_)
    · show b.val * 2048 + (t.val / 256 * 256 + r.val) = (u.val / 128 * 8 + u.val % 8) * 256 + r.val
      rw [uv]; omega
    · show (12 + g.val) * 128 + e.val = u.val / 8 % 16 * 128 + e.val
      rw [uv]; omega
    · show b.val * 2048 + s.val = u.val / 128 * 2048 + s.val
      rw [uv]; omega
    · show (12 + g.val) * 128 + e.val = u.val / 8 % 16 * 128 + e.val
      rw [uv]; omega
  · have et : (⟨t.val / 256 * 256 + t.val % 256, by omega⟩ : Fin 2048) = t := Fin.ext (by show t.val / 256 * 256 + t.val % 256 = t.val; omega)
    have er : rowAt (grid0.coords u) (⟨t.val % 256, Nat.mod_lt _ (by omega)⟩ : Fin 256) = t.val := by
      show 256 * (grid0.coords u 2).val + t.val % 256 = t.val
      rw [p2, uv]; omega
    dsimp only
    rw [et, er]
    refine Finset.sum_congr rfl fun s _ => congrArg₂ (· * ·) rfl (blk2 m c u s d _ _ ?_ ?_)
    · show b.val * 2048 + s.val = u.val / 128 * 2048 + s.val
      rw [uv]; omega
    · show 2048 + (12 + g.val) * 128 + d.val = (16 + u.val / 8 % 16) * 128 + d.val
      rw [uv]; omega

/-- The precondition says of the stick-breaking heads' queries and keys that they are real numbers. -/
theorem real_of (x0 : FVec Ideal S16384x2048 .f32) (x1 : FVec Ideal S16384x4096 .f32) (x2 : FVec Ideal S32x12 .f32)
    (h : Cert.Pre_finite.fn (F := Ideal) x0 x1 x2 = fun _ => 1#1) : Real01 x0 x1 := by
  have andi_one (a b : BitVec 1) : IntOp.andi a b = 1#1 ↔ a = 1#1 ∧ b = 1#1 := by revert a b; decide
  have fin (x : EReal) (hx : Ideal.cmp .olt (max x (-x)) (Ideal.ofBits .f32 0x7F800000#32) = 1#1) : ∃ r : ℝ, x = (r : EReal) := by
    have hlt : max x (-x) < ⊤ := by
      rw [show Ideal.ofBits .f32 0x7F800000#32 = ⊤ by simp [Ideal.ofBits, Ideal.ieee]] at hx
      by_contra hn
      rw [Ideal.cmp] at hx
      simp [hn] at hx
    induction x using EReal.rec with
    | bot => simp at hlt
    | top => simp at hlt
    | coe r => exact ⟨r, rfl⟩
  have at2 (R : Fin 16384) (C : Fin 512) := (andi_one _ _).1 (congrFun h (ix2 R C))
  refine ⟨fun R g d => ?_, fun R g d => ?_⟩
  · have hC := (at2 R ⟨g.val * 128 + d.val, by omega⟩).1
    refine fin _ (Eq.trans ?_ hC)
    refine congrArg (fun v => Ideal.cmp .olt (max v (-v)) (Ideal.ofBits .f32 0x7F800000#32)) (extractStridedSlice_apply _ x0 _ _ _ fun a => ?_).symm
    match a with
    | ⟨0, _⟩ => show R.val = 0 + R.val; omega
    | ⟨1, _⟩ => show (12 + g.val) * 128 + d.val = 1536 + (g.val * 128 + d.val); omega
  · have hC := (at2 R ⟨g.val * 128 + d.val, by omega⟩).2
    refine fin _ (Eq.trans ?_ hC)
    refine congrArg (fun v => Ideal.cmp .olt (max v (-v)) (Ideal.ofBits .f32 0x7F800000#32)) (extractStridedSlice_apply _ x1 _ _ _ fun a => ?_).symm
    match a with
    | ⟨0, _⟩ => show R.val = 0 + R.val; omega
    | ⟨1, _⟩ => show (12 + g.val) * 128 + d.val = 1536 + (g.val * 128 + d.val); omega

/-- Both programs run, and on the stick-breaking heads' columns end with the same array. -/
theorem algebraic : Cert.algebraic_AbPromptIdeal_AbPromptRefIdeal_on_sb_heads_pre_finite := by
  intro m g m' g' hpre hargs
  have hf := fun c => real_of _ _ _ (hpre c)
  have on (x0 : FVec Ideal S16384x2048 .f32) (x1 : FVec Ideal S16384x4096 .f32) (x2 : FVec Ideal S32x12 .f32) (i : S16384x2048.Idx)
      (hi : Cert.On_sb_heads.fn (F := Ideal) x0 x1 x2 i = 1#1) : ∃ (b : Fin 8) (g : Fin 4) (t : Fin 2048) (d : Fin 128), i = ix2 (rowB b t) (colQ g d) := by
    have h0 : (i 0).val < 16384 := (i 0).isLt
    have h1 : (i 1).val < 2048 := (i 1).isLt
    have hs : 1536 ≤ (i 1).val := by
      have hc : IntOp.cmpi .sge (BitVec.ofNat 32 (i 1).val) 1536#32 = 1#1 := hi
      have hl := slt_ofNat (i 1).val 1536 (by omega) (by omega)
      by_contra hn
      rw [decide_eq_true (by omega : (i 1).val < 1536)] at hl
      simp only [IntOp.cmpi, BitVec.sle_eq_not_slt] at hc
      rw [show (1536#32 : BitVec 32) = BitVec.ofNat 32 1536 from rfl, hl] at hc
      exact absurd hc (by decide)
    refine ⟨⟨(i 0).val / 2048, by omega⟩, ⟨(i 1).val / 128 - 12, by omega⟩, ⟨(i 0).val % 2048, by omega⟩, ⟨(i 1).val % 128, by omega⟩, ?_⟩
    refine Proj.eq_ix2 _ _ _ ?_ ?_
    · show (i 0).val = (i 0).val / 2048 * 2048 + (i 0).val % 2048; omega
    · show (i 1).val = (12 + ((i 1).val / 128 - 12)) * 128 + (i 1).val % 128; omega
  refine ⟨fun c => Cert.AbPromptRefIdeal.Read.val_main_v31 (F := Ideal) (m ((c : Thread nD τ).loc main_arg0)) (m ((c : Thread nD τ).loc main_arg1)), ?_, ?_⟩
  · refine (θ_run defs _ _).mono (fun r h c => ⟨fun i hi => ?_, args_kept m r h.1 c⟩) (run_main m g)
    obtain ⟨b, g, t, d, rfl⟩ := on _ _ _ i hi
    exact (kernel_apply m r h.1 c (hf c) b g t d).trans (ref_apply (hf c) b g t d).symm
  · refine (θ_run Cert.AbPromptRefIdeal.defs _ _).mono (fun r h c => ⟨fun i _ => ?_, (h c).2⟩) (Cert.AbPromptRefIdeal.Value.run m' g')
    obtain ⟨a0, a1, a2⟩ := hargs c
    rw [(h c).1, Cert.AbPromptRefIdeal.Read.val_main_v31_eq, a0, a1]

end Cert.Proof.Ab

end
-- ==== Proof.KvValue.lean ====
/-
  Hand-written. The projection's matmul kernel at the ideal values: the result array holds, at every index, the sum over the
  model axis of the activations' row times the weights' column, the columns taken from the keys' offset on; and the
  reference's product, split in heads and sliced, is the same sum.
-/
module

public import proofs.«01_k».proof.Defs
public import proofs.«01_k».proof.Proof.Gen.KvPromptIdeal.Value
public import proofs.«01_k».proof.Proof.Gen.KvPromptRefIdeal.Read
public import proofs.«01_k».proof.Proof.Proj
public import Idealize.ShloMosaic.Lib.Quiescent
public import Idealize.ShloMosaic.Lib.Pipeline.ValueKit.Geometry

@[expose] public section

noncomputable section

namespace Cert.Proof.Kv

open Cert.KvPromptIdeal Cert.KvPromptIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 4096 → Fin 6144 := col 4 1 (by omega)

/-- The activations' rows. -/
abbrev flat (x : Vec Ideal S8x2048x2048 .f32) : Vec Ideal S16384x2048 .f32 := rows (A := 8) (B := 2048) rfl (by decide) x

/-- The activations as the kernel's region finds them: the argument with its two leading axes merged. -/
theorem V_x (c : Dev nD) : (V m c main_v0 : Vec Ideal S16384x2048 .f32) = flat (m ((c : Thread nD τ).loc main_arg0)) := by
  have h : (V m c main_v0 : Vec Ideal S16384x2048 .f32)
      = shapeCast S16384x2048 (m ((c : Thread nD τ).loc main_arg0)) shapeCasts_S8x2048x2048_S16384x2048 := by
    unfold V
    after_results <;> rfl
  exact h.trans (rows_cast _ _ _ _)

/-- The weights there: the argument without its unit axis. -/
theorem V_w (c : Dev nD) : (V m c main_v1 : Vec Ideal S2048x6144 .f32)
    = shapeCast S2048x6144 (m ((c : Thread nD τ).loc main_arg1)) shapeCasts_S1x2048x6144_S2048x6144 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 4 + win0_2.index t 1 * 1 :=
  (by decide +kernel : ∀ t : Fin grid0.N, win0_0.index t 0 = win0_2.index t 0 ∧ win0_0.index t 1 = 0 ∧ win0_1.index t 0 = 0
    ∧ win0_1.index t 1 = 4 + win0_2.index t 1 * 1)

/-- The result array is the product. -/
theorem final (c : Dev nD) : (dats m 0 c).arrAt 2 cfg0.N
    = proj cols (flat (m ((c : Thread nD τ).loc main_arg0))) (m ((c : Thread nD τ).loc main_arg1)) := by
  rw [← V_x m c]
  refine (dats m 0 c).arrAt_eq_of_covers 2 _ (by decide +kernel) fun t _ j => ?_
  rw [after0_2]
  unfold out0_2
  rw [View.canon_unit_zero hz, View.ld_unit_zero hz, View.ld_unit_zero hz]
  refine (pay_apply_reshaped _ _ j).trans (Eq.trans ?_ (block_eq (V m c main_v0) _ (V m c main_v1) _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1)))
  unfold iblk
  generalize V m c = v
  rfl

/-- The reference's result is the product too. -/
theorem ref_eq (x : Vec Ideal S8x2048x2048 .f32) (w : Vec Ideal S1x2048x6144 .f32) :
    Cert.KvPromptRefIdeal.Read.val_main_v4 (F := Ideal) x w = proj cols (flat x) w := by
  funext i
  open Cert.KvPromptRefIdeal.Read in
  rw [val_main_v4_apply, val_main_v3_apply, val_main_v2_apply, val_main_v1_apply]
  unfold proj
  refine Finset.sum_congr rfl fun k _ => ?_
  rw [Cert.KvPromptRefIdeal.Read.val_main_v0_apply]
  have h0 : (i 0 : Nat) < 16384 := (i 0).isLt
  have h1 : (i 1 : Nat) < 4096 := (i 1).isLt
  have hk : k.val < 2048 := k.isLt
  refine congrArg₂ (· * ·) (congrArg x (funext fun a => Fin.ext ?_)) (congrArg w (eq_ix3 _ _ _ ?_ ?_))
  · match a with
    | ⟨0, _⟩ => simp; omega
    | ⟨1, _⟩ => simp; omega
    | ⟨2, _⟩ => simp
  all_goals simp [cols, col]
  all_goals omega

/-- Both programs run, and end with the product of the shared arguments. -/
theorem algebraic : Cert.algebraic_KvPromptIdeal_KvPromptRefIdeal := by
  intro m g m' g' _ hargs
  refine ⟨fun c => proj cols (flat (m ((c : Thread nD τ).loc main_arg0))) (m ((c : Thread nD τ).loc main_arg1)), ?_, ?_⟩
  · exact (θ_run defs _ _).mono (fun r h c => ⟨((h c).1).trans (final m c), (h c).2⟩) (Value.run_blocks m g)
  · refine (θ_run Cert.KvPromptRefIdeal.defs _ _).mono (fun r h c => ⟨((h c).1).trans ?_, (h c).2⟩) (Cert.KvPromptRefIdeal.Value.run m' g')
    rw [(hargs c).1, (hargs c).2]
    exact (Cert.KvPromptRefIdeal.Read.val_main_v4_eq _ _).trans (ref_eq _ _)

/-- The reference's frame. -/
theorem ref_frame : Cert.quiescent_KvPromptRefIdeal := fun m ρ _ =>
  (θ_run Cert.KvPromptRefIdeal.defs _ _).mono (fun r h => ⟨fun c => (h c).2, sem_eq_zero_of_no_sems (by decide) r.2⟩)
    (Cert.KvPromptRefIdeal.Value.run (F := Ideal) m ρ)

end Cert.Proof.Kv

end
-- ==== Proof.FfnFrame.lean ====
/-
  Hand-written. The frame of the experts' kernel, whose body branches on the word of a prefetched table (the number of live
  blocks): on a live block the gated product is stored, on the others zeros, and the arguments end unchanged.
-/
module

public import proofs.«01_k».proof.Proof.Gen.ExpertFfnIdeal.Launch
public import proofs.«01_k».proof.Proof.Gen.ExpertFfnIdeal.Skeleton
public import Idealize.ShloMosaic.Lib.Pipeline.FrameBody
public import Idealize.ShloMosaic.Lib.Pipeline.Value
public import Idealize.ShloMosaic.Lib.Pointwise.Index
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Ffn

open Cert.ExpertFfnIdeal Cert.ExpertFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev tabE : Memref sig .tc .smem S160 .i32 := Memref.whole main_arg1
abbrev tabN : Memref sig .tc .smem S1 .i32 := Memref.whole main_arg2

/-- A table held at half the full share, the pipeline keeping the other half. -/
abbrev Tab (c : Dev nD) {S : Shape} {e : EltTy} (M : Memref sig .tc .smem S e) : Type := Buf (Elt F) (M.view.loc (c : Thread nD τ))
abbrev held (c : Dev nD) {S : Shape} {e : EltTy} (M : Memref sig .tc .smem S e) (f : Tab (F := F) c M) : sProp 𝕄 :=
  M.view.loc (c : Thread nD τ) ↦{fullShare.right} f

/-- The number of live blocks. -/
abbrev live (xn : Vec F S1 .i32) : BitVec 32 := xn (ix1 0)

/-- What the body leaves in the result's block. -/
def outV (i : grid0.Coords) (w : BitVec 32) (x0 : Vec F S256x2048 .f32) (x1 x2 : Vec F S1x2048x512 .f32) (x3 : Vec F S1x512x2048 .f32)
    (x4 : Vec F S256x1 .f32) : Vec F S256x2048 .f32 :=
  if k0_cond1 i w = 1#1 then k0_pay1 x0 x1 x2 x3 x4 else k0_pay2

/-- The second branch is taken exactly where the first is not. -/
theorem cond2_iff (i : grid0.Coords) (w : BitVec 32) : k0_cond2 i w = 1#1 ↔ ¬ k0_cond1 i w = 1#1 := by
  unfold k0_cond1 k0_cond2
  simp only [Scalar.cmpi, IntOp.cmpi, Scalar.extui]
  generalize BitVec.ofNat 32 (i 0).val = a
  by_cases h : a.slt w
  · simp [h, BitVec.sle_eq_not_slt]
  · simp [h, BitVec.sle_eq_not_slt]

theorem hz2 : (![0, 0] : Fin 2 → Nat) = fun _ => 0 := funext fun a => by fin_cases a <;> rfl
theorem hz3 : (![0, 0, 0] : Fin 3 → Nat) = fun _ => 0 := funext fun a => by fin_cases a <;> rfl

/-- A table of one word is read at its one index. -/
theorem idx1_eq (x y : S1.Idx) : x = y := by
  funext a
  obtain rfl : a = 0 := Subsingleton.elim _ _
  exact Fin.ext (by have h1 : (x 0).val < 1 := (x 0).isLt; have h2 : (y 0).val < 1 := (y 0).isLt; omega)

/-- A store of the whole block leaves the block at what was stored. -/
theorem read_store (v : View sig .tc .vmem S256x2048 .f32) (f : v.ty.Contents (Elt F)) (p : Vec F S256x2048 .f32) :
    v.read (Elt F) (v.writes (Elt F) f [⟨Rect.unit (s := S256x2048) ![0, 0] S256x2048.size inb_S256x2048_S256x2048_0_0, p⟩]) = p := by
  rw [View.read_writes_eq_canon _ _ _ (View.cover_of_tiledL _ S256x2048.size (by sl_kernel_rfl))]
  exact View.canon_unit_zero hz2 _ _

set_option maxHeartbeats 1000000 in
/-- The body on any staging buffers: the inputs stay, the result's block ends at `outV`. -/
theorem body_run (c : Dev nD) (i : grid0.Coords) (arg3 : Memref sig .tc .vmem S256x2048 .f32) (h3 : arg3.IsWhole)
    (arg4 : Memref sig .tc .vmem S1x2048x512 .f32) (h4 : arg4.IsWhole) (arg5 : Memref sig .tc .vmem S1x2048x512 .f32) (h5 : arg5.IsWhole)
    (arg6 : Memref sig .tc .vmem S1x512x2048 .f32) (h6 : arg6.IsWhole) (arg7 : Memref sig .tc .vmem S256x1 .f32) (h7 : arg7.IsWhole)
    (arg8 : Memref sig .tc .vmem S256x2048 .f32) (h8 : arg8.IsWhole)
    (x0 : Vec F S256x2048 .f32) (x1 x2 : Vec F S1x2048x512 .f32) (x3 : Vec F S1x512x2048 .f32)
    (x4 : Vec F S256x1 .f32) (xe : Tab (F := F) c tabE) (xn : Tab (F := F) c tabN) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ held c tabE xe ∗ held c tabN xn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outV i (live xn) x0 x1 x2 x3 x4) ∗ held c tabE xe ∗ held c tabN xn) -∗ K ⟨⟩))
      ⊢ wp frame (wpE (defs₀ (F := F)) Variants.none c none) E (cc0_expert_ffn i tabE (Memref.isWhole_whole _) tabN (Memref.isWhole_whole _) arg3 h3 arg4 h4 arg5 h5 arg6 h6 arg7 h7 arg8 h8) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := h3.eq_unread hf0; obtain rfl := h4.eq_unread hf1; obtain rfl := h5.eq_unread hf2; obtain rfl := h6.eq_unread hf3; obtain rfl := h7.eq_unread hf4
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    have hw : body_run.sl.r c xn = live xn := by
      unfold body_run.sl.r
      exact congrArg (show Vec F S1 .i32 from xn) (idx1_eq _ _)
    rw [hw]
    unfold outV
    by_cases hc : k0_cond1 i (live xn) = 1#1
    · rw [dif_neg (fun h => (cond2_iff i _).1 h hc), dif_pos hc, if_pos hc, read_store]
      simp only [View.readAt_eq_ld, h3.read_unread, h4.read_unread, h5.read_unread, h6.read_unread, h7.read_unread,
        View.ld_unit_zero (S := S256x2048) hz2, View.ld_unit_zero (S := S256x1) hz2, View.ld_unit_zero (S := S1x2048x512) hz3,
        View.ld_unit_zero (S := S1x512x2048) hz3]
    · rw [dif_pos ((cond2_iff i _).2 hc), if_neg hc, read_store]
  isplitl [HT0]; · iexact HT0
  iexact HT1

/-! ## The pipeline at the launch memory's tables -/

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The side condition of the tables: every expert they name is there. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The halves of the tables that the region hands the body. -/
theorem halves (c : Dev nD) : (Pipeline.ΦT pre0 (tbl m) c : sProp 𝕄) = iprop(held c tabE (tbl m 0) ∗ held c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Every block of the result is written back. -/
theorem flush5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the body leaves in the result's block at a point. -/
def outAt (hO : Ok m) (c : Dev nD) (t : Fin (cfgM m hO).N) : Vec F S256x2048 .f32 :=
  outV (grid0.coords t) (live (tbl m 1)) (iblk m hO c 0 t) (iblk m hO c 1 t) (iblk m hO c 2 t) (iblk m hO c 3 t) (iblk m hO c 4 t)

/-- The pipeline's data: inputs keep their blocks, the result's block is `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := rfl

/-- An input's staging buffer holds its block at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun _ => rfl) t d).trans rfl
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun _ => rfl) t d).trans rfl

/-- The body at a point, on the point's staging buffers. -/
abbrev bodyAt (a : (pcfg0 (F := F)).Adm) (t : Fin (cfg0 a).N) : Prog (TpuEff nD τ sig (Elt F) Λ₀ .tc) PUnit :=
  cc0_expert_ffn (grid0.coords t) tabE (Memref.isWhole_whole _) tabN (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ (dats m hO 0 c).leavesExact 5 t)

/-- Whether or not the point is marked idle for the result, its block is written back, so it is left at `outAt`. -/
theorem leaves5 (hO : Ok m) (c : Dev nD) (t : Fin (cfgM m hO).N) :
    (dats m hO 0 c).leavesExact 5 t = owns (c : Thread nD τ) (spec0_5.stage ((cfgM m hO).slots t 5)) fullShare (outAt m hO c t) := by
  unfold Dat.leavesExact
  rw [flush5 (adm m hO) t]
  split <;> rfl

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4]
  rw [leaves5]
  rw [show (dats m hO 0 c).Φ t.succ = (dats m hO 0 c).Φ t.castSucc from rfl,
    show (dats m hO 0 c).owesAt () t.succ = (dats m hO 0 c).owesAt () t.castSucc from rfl,
    show (dats m hO 0 c).after 0 t = iblk m hO c 0 t from rfl, show (dats m hO 0 c).after 1 t = iblk m hO c 1 t from rfl,
    show (dats m hO 0 c).after 2 t = iblk m hO c 2 t from rfl, show (dats m hO 0 c).after 3 t = iblk m hO c 3 t from rfl,
    show (dats m hO 0 c).after 4 t = iblk m hO c 4 t from rfl]
  rw [show (dats m hO 0 c).Φ t.castSucc = iprop(Pipeline.ΦA spec0 c ∗ Pipeline.ΦT pre0 (tbl m) c) from rfl, halves]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, row_eq m hO]
  exact triple_restated (sound_body m hO c t) rfl .rfl fun _ => .rfl

/-! ## The run and the frame -/

set_option backward.isDefEq.respectTransparency.types false in
/-- The kernel runs, its arrays end at what the data says, and every counter ends at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The result array's final contents, the arguments unchanged, the counters at zero. -/
theorem run_result (hO : Ok m) : θ_run defs (onTc (τ := τ) (main (F := F))) ⟨m, fun _ => 0, ρ⟩ (fun r => (∀ c : Dev nD,
      r.2.mem ((c.tc : Thread nD τ).loc main_v0) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).1 0).trans ((dats m hO 0 c).arrAt_in 0 rfl _),
      (h.1 c).2 main_arg1 (by decide : main_arg1 ∈ Pipeline.restRefs sig spec0),
      (h.1 c).2 main_arg2 (by decide : main_arg2 ∈ Pipeline.restRefs sig spec0),
      ((h.1 c).1 4).trans ((dats m hO 0 c).arrAt_in 4 rfl _),
      ((h.1 c).1 1).trans ((dats m hO 0 c).arrAt_in 1 rfl _),
      ((h.1 c).1 2).trans ((dats m hO 0 c).arrAt_in 2 rfl _),
      ((h.1 c).1 3).trans ((dats m hO 0 c).arrAt_in 3 rfl _)⟩, h.2⟩) (run_main m ρ hO)

/-- The arguments unchanged and the counters at zero. -/
theorem unchanged (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_result m ρ hO)

end Cert.Proof.Ffn

end
-- ==== Proof.FfnPre.lean ====
/-
  Hand-written. The experts' kernel under its precondition: every expert that the table names is one of the thirty-two, so the
  windows lie inside the weights, and the kernel runs with its arguments unchanged, as printed and at the ideal values.
-/
module

public import proofs.«01_k».proof.Defs
public import proofs.«01_k».proof.Proof.FfnFrame
public import proofs.«01_k».proof.Proof.Gen.ExpertFfn
public import proofs.«01_k».proof.Proof.Gen.Pre_tables_in_range

@[expose] public section

namespace Cert.Proof.Ffn

open Cert.ExpertFfnIdeal Cert.ExpertFfnIdeal.Gen Idealize.ShloMosaic Idealize.ShloMosaic.TcCoe Idealize.SL.Sem

variable {F : FTy → Type} [FloatOps F]

/-- The precondition says of every word of the table that it is at least 0 and less than 32. -/
theorem word_lt (x0 : FVec F S40960x2048 .f32) (e : IVec S160 32) (n : IVec S1 32) (x3 : FVec F S40960x1 .f32)
    (x4 x5 : FVec F S32x2048x512 .f32) (x6 : FVec F S32x512x2048 .f32)
    (h : Cert.Pre_tables_in_range.fn (F := F) x0 e n x3 x4 x5 x6 = fun _ => 1#1) (j : S160.Idx) : (e j).toNat < 32 := by
  have hj := congrFun h j
  have andi_one (a b : BitVec 1) : IntOp.andi a b = 1#1 ↔ a = 1#1 ∧ b = 1#1 := by revert a b; decide
  simp only [Cert.Pre_tables_in_range.fn, constantI, broadcastInDim, cmpi, andi, andi_one] at hj
  have ofBool_one (p : Bool) : (BitVec.ofBool p = 1#1) ↔ p = true := by cases p <;> decide
  simp only [ofBool_one, IntOp.cmpi, BitVec.sle, BitVec.slt, decide_eq_true_eq, BitVec.toInt, BitVec.toNat_ofNat] at hj
  have h32 := (e j).isLt
  omega

/-- So the tables are admissible. -/
theorem ok_of (m : (ℓ : Loc nD τ sig) → Buf (Elt F) ℓ)
    (h : ∀ j : S160.Idx, ((m (((0 : Dev nD) : Thread nD τ).loc main_arg1) : IVec S160 32) j).toNat < 32) : Ok m := by
  have one (k : Nat) (hk : k < 32) : (k + 1) * 1 ≤ 32 := by omega
  refine ⟨fun i => ⟨fun a => ?_, .inl rfl⟩, fun i => ⟨fun a => ?_, .inl rfl⟩, fun i => ⟨fun a => ?_, .inl rfl⟩⟩
  · match a with
    | ⟨0, _⟩ => exact one _ (h _)
    | ⟨1, _⟩ => show (0 + 1) * 2048 ≤ 2048; omega
    | ⟨2, _⟩ => show (0 + 1) * 512 ≤ 512; omega
  · match a with
    | ⟨0, _⟩ => exact one _ (h _)
    | ⟨1, _⟩ => show (0 + 1) * 2048 ≤ 2048; omega
    | ⟨2, _⟩ => show (0 + 1) * 512 ≤ 512; omega
  · match a with
    | ⟨0, _⟩ => exact one _ (h _)
    | ⟨1, _⟩ => show (0 + 1) * 512 ≤ 512; omega
    | ⟨2, _⟩ => show (0 + 1) * 2048 ≤ 2048; omega

theorem ok_of_pre (m : (ℓ : Loc nD τ sig) → Buf (Elt Ideal) ℓ) (h : Cert.Pre_ExpertFfnIdeal m) : Ok m :=
  ok_of m (word_lt _ _ _ _ _ _ _ (h 0))

theorem frame_ideal : Cert.quiescent_ExpertFfnIdeal := fun m ρ h =>
  unchanged m ρ (ok_of_pre m h)

/-- The program as printed and its idealization are one text: the body, its table, the pipeline and @main agree. -/
theorem body_same : @Cert.ExpertFfn.cc0_expert_ffn Bits _ _ = @Cert.ExpertFfnIdeal.cc0_expert_ffn Bits _ _ := rfl
theorem row_same : Cert.ExpertFfn.defs₀ (F := Bits) = Cert.ExpertFfnIdeal.defs₀ (F := Bits) := by
  unfold Cert.ExpertFfn.defs₀ Cert.ExpertFfnIdeal.defs₀
  refine congrArg Defs.onTc ?_
  funext l a
  match l, a with
  | 0, (t, s) => rfl
theorem defs_same : Cert.ExpertFfn.defs (F := Bits) = Cert.ExpertFfnIdeal.defs (F := Bits) :=
  congrArg (Pipeline.defs Cert.ExpertFfn.pcfgs) row_same
theorem main_same : Cert.ExpertFfn.main (F := Bits) = Cert.ExpertFfnIdeal.main (F := Bits) := rfl

/-- So it has the same frame. -/
theorem frame_bits : Cert.quiescent_ExpertFfn := fun m ρ h => by
  have r := unchanged (F := Bits) m ρ (ok_of m (word_lt _ _ _ _ _ _ _ (h 0)))
  rw [← defs_same, ← main_same] at r
  exact r

end Cert.Proof.Ffn
-- ==== Proof.FfnValue.lean ====
/-
  Hand-written. The experts' kernel at the ideal values: a row of a live block ends at its expert's gated network of the
  row, scaled by the row's gate, a row of the other blocks at zero.
-/
module

public import proofs.«01_k».proof.Defs
public import proofs.«01_k».proof.Proof.FfnPre
public import Idealize.ShloMosaic.Lib.Pointwise

@[expose] public section

noncomputable section

namespace Cert.Proof.Ffn

open Cert.ExpertFfnIdeal Cert.ExpertFfnIdeal.Gen Idealize.ShloMosaic Idealize.ShloMosaic.TcCoe Idealize.SL.Sem
open Idealize.ShloMosaic.Pipeline (Dat)

/-- A hidden unit: its gate product through the sigmoid-weighted unit, times its up product. -/
def unit (g u : EReal) : EReal := g * Ideal.div 1 (1 + Ideal.exp (0 - g)) * u

/-- The block's payload, read at an index. -/
theorem pay_apply (x : Vec Ideal S256x2048 .f32) (wg wu : Vec Ideal S1x2048x512 .f32) (wd : Vec Ideal S1x512x2048 .f32)
    (gt : Vec Ideal S256x1 .f32) (j : S256x2048.Idx) :
    k0_pay1 (F := Ideal) x wg wu wd gt j
      = (∑ h : Fin 512, unit (∑ k : Fin 2048, x (ix2 (j 0) k) * wg (ix3 0 k h)) (∑ k : Fin 2048, x (ix2 (j 0) k) * wu (ix3 0 k h))
          * wd (ix3 0 h (j 1))) * gt (ix2 (j 0) 0) := by
  pointwise [k0_pay1]
  rfl
theorem zero_apply (j : S256x2048.Idx) : k0_pay2 (F := Ideal) j = 0 := by
  pointwise [k0_pay2]

/-- The kernel's and the reference's test of a block number against the number of live blocks. -/
theorem cond1_iff (i : grid0.Coords) (w : BitVec 32) : k0_cond1 i w = 1#1 ↔ (BitVec.ofNat 32 (i 0).val).slt w = true := by
  unfold k0_cond1
  simp only [Scalar.cmpi, IntOp.cmpi, Scalar.extui]
  generalize BitVec.ofNat 32 (i 0).val = a
  by_cases h : a.slt w <;> simp [h]

/-- The result array, as one function of the arguments: `b` is the row's block, `e` the block's expert. -/
def row (x : Vec Ideal S40960x2048 .f32) (gt : Vec Ideal S40960x1 .f32) (wg wu : Vec Ideal S32x2048x512 .f32)
    (wd : Vec Ideal S32x512x2048 .f32) (e : Fin 32) (r : Fin 40960) (d : Fin 2048) : EReal :=
  (∑ h : Fin 512, unit (∑ k : Fin 2048, x (ix2 r k) * wg (ix3 e k h)) (∑ k : Fin 2048, x (ix2 r k) * wu (ix3 e k h))
    * wd (ix3 e h d)) * gt (ix2 r 0)
def G (x : Vec Ideal S40960x2048 .f32) (ex : Fin 160 → Fin 32) (n : BitVec 32) (gt : Vec Ideal S40960x1 .f32)
    (wg wu : Vec Ideal S32x2048x512 .f32) (wd : Vec Ideal S32x512x2048 .f32) : Vec Ideal S40960x2048 .f32 := fun i =>
  if (BitVec.ofNat 32 ((i 0).val / 256)).slt n = true then
    row x gt wg wu wd (ex ⟨(i 0).val / 256, by have : (i 0).val < 40960 := (i 0).isLt; omega⟩) (i 0) (i 1)
  else 0

/-- The experts a table names, where they are in range. -/
def experts (e : IVec S160 32) (h : ∀ j : S160.Idx, (e j).toNat < 32) (b : Fin 160) : Fin 32 := ⟨(e (ix1 b)).toNat, h _⟩

/-! ## The kernel's side -/

section Kernel

variable (m : (ℓ : Loc nD τ sig) → Buf (Elt Ideal) ℓ) (ρ : Dev nD → PrngReg)
variable (hE : ∀ j : S160.Idx, ((m (((0 : Dev nD) : Thread nD τ).loc main_arg1) : IVec S160 32) j).toNat < 32)

abbrev cfgE := cfgM m (ok_of m hE)
/-- The array `G` of the launch memory. -/
abbrev GM (c : Dev nD) : Vec Ideal S40960x2048 .f32 :=
  G (m ((c : Thread nD τ).loc main_arg0)) (experts (m (((0 : Dev nD) : Thread nD τ).loc main_arg1)) hE) (live (tbl m 1))
    (m ((c : Thread nD τ).loc main_arg3)) (m ((c : Thread nD τ).loc main_arg4)) (m ((c : Thread nD τ).loc main_arg5)) (m ((c : Thread nD τ).loc main_arg6))

/-- The grid's one coordinate is the point. -/
theorem coord : ∀ t : Fin grid0.N, (grid0.coords t 0).val = t.val := by decide +kernel

/-- Where the windows stand at a point. -/
abbrev pos0 (t : Fin (cfgE m hE).N) : Fin 2 → Nat := ((cfgE m hE).win 0).index t
abbrev pos1 (t : Fin (cfgE m hE).N) : Fin 3 → Nat := ((cfgE m hE).win 1).index t
abbrev pos2 (t : Fin (cfgE m hE).N) : Fin 3 → Nat := ((cfgE m hE).win 2).index t
abbrev pos3 (t : Fin (cfgE m hE).N) : Fin 3 → Nat := ((cfgE m hE).win 3).index t
abbrev pos4 (t : Fin (cfgE m hE).N) : Fin 2 → Nat := ((cfgE m hE).win 4).index t
abbrev pos5 (t : Fin (cfgE m hE).N) : Fin 2 → Nat := ((cfgE m hE).win 5).index t
theorem at0 (t : Fin (cfgE m hE).N) : pos0 m hE t 0 = t.val ∧ pos0 m hE t 1 = 0 :=
  (by decide +kernel : ∀ t : Fin grid0.N, cc0_transform_0 (grid0.coords t) 0 = t.val ∧ cc0_transform_0 (grid0.coords t) 1 = 0) t
theorem at4 (t : Fin (cfgE m hE).N) : pos4 m hE t 0 = t.val ∧ pos4 m hE t 1 = 0 :=
  (by decide +kernel : ∀ t : Fin grid0.N, cc0_transform_4 (grid0.coords t) 0 = t.val ∧ cc0_transform_4 (grid0.coords t) 1 = 0) t
theorem at5 (t : Fin (cfgE m hE).N) : pos5 m hE t 0 = t.val ∧ pos5 m hE t 1 = 0 :=
  (by decide +kernel : ∀ t : Fin grid0.N, cc0_transform_5 (grid0.coords t) 0 = t.val ∧ cc0_transform_5 (grid0.coords t) 1 = 0) t

/-- The word that the weights' index maps read. -/
theorem word (t : Fin (cfgE m hE).N) (i : S160.Idx) (hi : (i 0).val = (BitVec.ofNat 32 (grid0.coords t 0).val).toNat) :
    ((tbl m 0 : IVec S160 32) i).toNat = (experts (m (((0 : Dev nD) : Thread nD τ).loc main_arg1)) hE t).val := by
  have hc := coord t
  have ht : t.val < 160 := t.isLt
  unfold experts tbl
  refine congrArg BitVec.toNat (congrArg (m (((0 : Dev nD) : Thread nD τ).loc main_arg1)) (funext fun a => ?_))
  obtain rfl : a = 0 := Subsingleton.elim _ _
  refine Fin.ext ?_
  rw [hi, hc, BitVec.toNat_ofNat]
  show t.val % 2 ^ 32 = t.val
  omega
theorem at1 (t : Fin (cfgE m hE).N) : pos1 m hE t 0 = (experts (m (((0 : Dev nD) : Thread nD τ).loc main_arg1)) hE t).val :=
  by
  refine word m hE t _ ?_
  exact Nat.add_zero _
theorem at2 (t : Fin (cfgE m hE).N) : pos2 m hE t 0 = (experts (m (((0 : Dev nD) : Thread nD τ).loc main_arg1)) hE t).val :=
  by
  refine word m hE t _ ?_
  exact Nat.add_zero _
theorem at3 (t : Fin (cfgE m hE).N) : pos3 m hE t 0 = (experts (m (((0 : Dev nD) : Thread nD τ).loc main_arg1)) hE t).val :=
  by
  refine word m hE t _ ?_
  exact Nat.add_zero _

/-- The blocks, read at an index of the arrays. -/
theorem blk0 (c : Dev nD) (t : Fin (cfgE m hE).N) (p : Fin 256) (k : Fin 2048) (h : t.val * 256 + p.val < 40960) :
    (iblk m (ok_of m hE) c 0 t : Vec Ideal S256x2048 .f32) (ix2 p k) = (m ((c : Thread nD τ).loc main_arg0) : Vec Ideal S40960x2048 .f32) (ix2 ⟨t.val * 256 + p.val, h⟩ k) := by
  unfold iblk
  refine (View.read_apply _ _).trans ?_
  show (m ((c : Thread nD τ).loc main_arg0)) _ = (m ((c : Thread nD τ).loc main_arg0)) _
  refine congrArg (m ((c : Thread nD τ).loc main_arg0)) (funext fun a => Fin.ext ?_)
  have hi := at0 m hE t
  match a with
  | ⟨0, _⟩ => show pos0 m hE t 0 * 256 + 1 * p.val = t.val * 256 + p.val; rw [hi.1]; omega
  | ⟨1, _⟩ => show pos0 m hE t 1 * 2048 + 1 * k.val = k.val; rw [hi.2]; omega
theorem blk4 (c : Dev nD) (t : Fin (cfgE m hE).N) (p : Fin 256) (h : t.val * 256 + p.val < 40960) :
    (iblk m (ok_of m hE) c 4 t : Vec Ideal S256x1 .f32) (ix2 p 0) = (m ((c : Thread nD τ).loc main_arg3) : Vec Ideal S40960x1 .f32) (ix2 ⟨t.val * 256 + p.val, h⟩ 0) := by
  unfold iblk
  refine (View.read_apply _ _).trans ?_
  show (m ((c : Thread nD τ).loc main_arg3)) _ = (m ((c : Thread nD τ).loc main_arg3)) _
  refine congrArg (m ((c : Thread nD τ).loc main_arg3)) (funext fun a => Fin.ext ?_)
  have hi := at4 m hE t
  match a with
  | ⟨0, _⟩ => show pos4 m hE t 0 * 256 + 1 * p.val = t.val * 256 + p.val; rw [hi.1]; omega
  | ⟨1, _⟩ => show pos4 m hE t 1 * 1 + 1 * 0 = 0; rw [hi.2]
theorem blk1 (c : Dev nD) (t : Fin (cfgE m hE).N) (k : Fin 2048) (h : Fin 512) :
    (iblk m (ok_of m hE) c 1 t : Vec Ideal S1x2048x512 .f32) (ix3 0 k h)
      = (m ((c : Thread nD τ).loc main_arg4) : Vec Ideal S32x2048x512 .f32) (ix3 (experts (m (((0 : Dev nD) : Thread nD τ).loc main_arg1)) hE t) k h) := by
  unfold iblk
  refine (View.read_apply _ _).trans ?_
  show (m ((c : Thread nD τ).loc main_arg4)) _ = (m ((c : Thread nD τ).loc main_arg4)) _
  refine congrArg (m ((c : Thread nD τ).loc main_arg4)) (funext fun a => Fin.ext ?_)
  match a with
  | ⟨0, _⟩ => show pos1 m hE t 0 * 1 + 1 * 0 = _; rw [at1, Nat.mul_one]; rfl
  | ⟨1, _⟩ => show 0 * 2048 + 1 * k.val = k.val; omega
  | ⟨2, _⟩ => show 0 * 512 + 1 * h.val = h.val; omega
theorem blk2 (c : Dev nD) (t : Fin (cfgE m hE).N) (k : Fin 2048) (h : Fin 512) :
    (iblk m (ok_of m hE) c 2 t : Vec Ideal S1x2048x512 .f32) (ix3 0 k h)
      = (m ((c : Thread nD τ).loc main_arg5) : Vec Ideal S32x2048x512 .f32) (ix3 (experts (m (((0 : Dev nD) : Thread nD τ).loc main_arg1)) hE t) k h) := by
  unfold iblk
  refine (View.read_apply _ _).trans ?_
  show (m ((c : Thread nD τ).loc main_arg5)) _ = (m ((c : Thread nD τ).loc main_arg5)) _
  refine congrArg (m ((c : Thread nD τ).loc main_arg5)) (funext fun a => Fin.ext ?_)
  match a with
  | ⟨0, _⟩ => show pos2 m hE t 0 * 1 + 1 * 0 = _; rw [at2, Nat.mul_one]; rfl
  | ⟨1, _⟩ => show 0 * 2048 + 1 * k.val = k.val; omega
  | ⟨2, _⟩ => show 0 * 512 + 1 * h.val = h.val; omega
theorem blk3 (c : Dev nD) (t : Fin (cfgE m hE).N) (h : Fin 512) (d : Fin 2048) :
    (iblk m (ok_of m hE) c 3 t : Vec Ideal S1x512x2048 .f32) (ix3 0 h d)
      = (m ((c : Thread nD τ).loc main_arg6) : Vec Ideal S32x512x2048 .f32) (ix3 (experts (m (((0 : Dev nD) : Thread nD τ).loc main_arg1)) hE t) h d) := by
  unfold iblk
  refine (View.read_apply _ _).trans ?_
  show (m ((c : Thread nD τ).loc main_arg6)) _ = (m ((c : Thread nD τ).loc main_arg6)) _
  refine congrArg (m ((c : Thread nD τ).loc main_arg6)) (funext fun a => Fin.ext ?_)
  match a with
  | ⟨0, _⟩ => show pos3 m hE t 0 * 1 + 1 * 0 = _; rw [at3, Nat.mul_one]; rfl
  | ⟨1, _⟩ => show 0 * 512 + 1 * h.val = h.val; omega
  | ⟨2, _⟩ => show 0 * 2048 + 1 * d.val = d.val; omega

/-- What a point leaves in the result's block, at an index. -/
theorem out_apply (c : Dev nD) (t : Fin (cfgE m hE).N) (j : S256x2048.Idx) (h : t.val * 256 + (j 0).val < 40960) :
    outAt m (ok_of m hE) c t j = GM m hE c (ix2 ⟨t.val * 256 + (j 0).val, h⟩ (j 1)) := by
  have hj0 : (j 0).val < 256 := (j 0).isLt
  have hb : (t.val * 256 + (j 0).val) / 256 = t.val := by omega
  unfold outAt outV
  show _ = (if (BitVec.ofNat 32 ((t.val * 256 + (j 0).val) / 256)).slt (live (tbl m 1)) = true then _ else _)
  rw [if_congr (cond1_iff _ _) rfl rfl, coord t]
  simp only [hb]
  by_cases hs : (BitVec.ofNat 32 t.val).slt (live (tbl m 1)) = true
  · rw [if_pos hs, if_pos hs]
    refine (pay_apply _ _ _ _ _ j).trans ?_
    show _ = row _ _ _ _ _ (experts (m (((0 : Dev nD) : Thread nD τ).loc main_arg1)) hE ⟨(t.val * 256 + (j 0).val) / 256, _⟩) ⟨t.val * 256 + (j 0).val, h⟩ (j 1)
    rw [show (⟨(t.val * 256 + (j 0).val) / 256, by omega⟩ : Fin 160) = t from Fin.ext hb]
    unfold row
    refine congrArg₂ (· * ·) (Finset.sum_congr rfl fun u _ => congrArg₂ (· * ·) (congrArg₂ unit ?_ ?_) (blk3 m hE c t u _)) (blk4 m hE c t _ h)
    · exact Finset.sum_congr rfl fun k _ => congrArg₂ (· * ·) (blk0 m hE c t _ k h) (blk1 m hE c t k u)
    · exact Finset.sum_congr rfl fun k _ => congrArg₂ (· * ·) (blk0 m hE c t _ k h) (blk2 m hE c t k u)
  · rw [if_neg hs, if_neg hs]
    exact zero_apply j

/-- What a point writes back is its block of the array. -/
theorem flushed_eq (c : Dev nD) (t : Fin (cfgE m hE).N) :
    (dats m (ok_of m hE) 0 c).flushed 5 t = (((cfgE m hE).win 5).blk t).view.read (Elt Ideal) (GM m hE c) := by
  have hN : t.val < 160 := t.isLt
  refine funext fun (j : S256x2048.Idx) => ?_
  have hj0 : (j 0).val < 256 := (j 0).isLt
  refine (out_apply m hE c t j (by omega)).trans ?_
  refine Eq.trans ?_ (View.read_apply _ _).symm
  show GM m hE c _ = GM m hE c _
  refine congrArg (GM m hE c) (funext fun a => Fin.ext ?_)
  have hi := at5 m hE t
  match a with
  | ⟨0, _⟩ => show t.val * 256 + (j 0).val = pos5 m hE t 0 * 256 + 1 * (j 0).val; rw [hi.1]; omega
  | ⟨1, _⟩ => show (j 1).val = pos5 m hE t 1 * 2048 + 1 * (j 1).val; rw [hi.2]; omega

/-- The blocks tile the result array. -/
theorem cover (i : S40960x2048.Idx) : ∃ t : Fin (cfgE m hE).N, ((cfgE m hE).win 5).flush t = true ∧ i ∈ (((cfgE m hE).win 5).blk t).view.set := by
  have h0 : (i 0 : Nat) < 40960 := (i 0).isLt
  have h1 : (i 1 : Nat) < 2048 := (i 1).isLt
  have hlt : (i 0 : Nat) / 256 < 160 := by omega
  obtain ⟨t, ht⟩ : ∃ t : Fin (cfgE m hE).N, t.val = (i 0 : Nat) / 256 := ⟨⟨(i 0 : Nat) / 256, hlt⟩, rfl⟩
  refine ⟨t, flush5 _ t, ?_⟩
  have hi := at5 m hE t
  show i ∈ ((View.whole main_v0).slice (((cfgE m hE).win 5).rect t)).set
  erw [View.set_slice_whole]
  refine Rect.mem_set_unit.2 ?_
  intro a
  match a with
  | ⟨0, _⟩ =>
    show pos5 m hE t 0 * 256 ≤ (i 0 : Nat) ∧ (i 0 : Nat) < pos5 m hE t 0 * 256 + 256
    rw [hi.1]; omega
  | ⟨1, _⟩ =>
    show pos5 m hE t 1 * 2048 ≤ (i 1 : Nat) ∧ (i 1 : Nat) < pos5 m hE t 1 * 2048 + 2048
    rw [hi.2]; omega

theorem final (c : Dev nD) : (dats m (ok_of m hE) 0 c).arrAt 5 (cfgE m hE).N = GM m hE c :=
  (dats m (ok_of m hE) 0 c).arrAt_eq_of_cover 5 _ (fun t _ => flushed_eq m hE c t) (cover m hE)

end Kernel

end Cert.Proof.Ffn

end
-- ==== Proof.FfnRef.lean ====
/-
  Hand-written. The experts' reference at the ideal values: its einsums over the gathered weights, scaled by the gates and
  masked by the number of live blocks, are the array that the kernel leaves.
-/
module

public import proofs.«01_k».proof.Defs
public import proofs.«01_k».proof.Proof.FfnValue
public import proofs.«01_k».proof.Proof.Gen.ExpertFfnRefIdeal.Run
public import proofs.«01_k».proof.Proof.Gen.ExpertFfnRefIdeal.Read
public import Idealize.ShloMosaic.Lib.Pointwise
public import Idealize.ShloMosaic.Lib.Quiescent

@[expose] public section

noncomputable section

namespace Cert.Proof.Ffn

open Cert.ExpertFfnIdeal Cert.ExpertFfnIdeal.Gen Idealize.ShloMosaic Idealize.ShloMosaic.TcCoe Idealize.SL.Sem
open Cert.ExpertFfnRefIdeal.Read

/-- The dimension numbers of a gather along the leading axis of a rank-three operand. -/
abbrev leadDims (N n A B : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A gather along the leading axis of a rank-three operand, read at an index: the operand's entry at the row that the
    column of indices names. -/
theorem gather_lead {α : Type} {N n A B : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (k : Fin A) (h : Fin B) (e : Fin N)
    (he : (idx (ix2 b (0 : Fin 1))).toInt = e.val) :
    Host.gather (leadDims N n A B wf) x idx (ix3 b k h) = x (ix3 e k h) := by
  generalize hd : (leadDims N n A B wf) = d
  have h1 : d.offsetDims = [1, 2] := by subst hd; rfl
  have h2 : d.collapsedSliceDims = [0] := by subst hd; rfl
  have h3 : d.operandBatchingDims = [] := by subst hd; rfl
  unfold Host.gather
  refine congrArg x (funext fun a => Fin.ext ?_)
  have hbN : ∀ a', a' ∉ d.operandBatchingDims := fun a' => by rw [h3]; exact List.not_mem_nil
  match a with
  | ⟨0, _⟩ =>
    show d.start _ _ 0 + d.batchCoord _ 0 + d.offCoord _ 0 = e.val
    rw [d.batchCoord_eq_zero _ _ (hbN 0), d.offCoord_eq_zero _ _ (fun h => ((d.mem_sKept 0).1 h).1 (by rw [h2]; exact List.mem_singleton.2 rfl))]
    simp only [Nat.add_zero]
    subst hd
    unfold GatherDims.start
    rw [dif_pos (show (0 : Fin 3) ∈ [(0 : Fin 3)] from List.mem_singleton.mpr rfl)]
    have hsi : ∀ q, (leadDims N n A B wf).siIdx (ix3 b k h) ⟨List.idxOf (0 : Fin 3) [(0 : Fin 3)], q⟩ = ix2 b (0 : Fin 1) := by
      intro q
      funext b'; refine Fin.ext ?_
      match b' with
      | ⟨0, _⟩ => rfl
      | ⟨1, _⟩ => rfl
    refine (congrArg (fun z => min (idx z).toInt.toNat (N - 1)) (hsi _)).trans ?_
    rw [he]
    have := e.isLt
    show min ((e.val : Int)).toNat (N - 1) = e.val
    omega
  | ⟨1, _⟩ =>
    show d.start _ _ 1 + d.batchCoord _ 1 + d.offCoord _ 1 = k.val
    rw [d.batchCoord_eq_zero _ _ (hbN 1)]
    subst hd
    unfold GatherDims.start GatherDims.offCoord
    rw [dif_neg (show (1 : Fin 3) ∉ [(0 : Fin 3)] by decide),
      dif_pos ((GatherDims.mem_sKept _ _).2 ⟨(show (1 : Fin 3) ∉ [(0 : Fin 3)] by decide), List.not_mem_nil⟩)]
    show 0 + 0 + _ = _
    rw [Nat.add_zero, Nat.zero_add]
    rfl
  | ⟨2, _⟩ =>
    show d.start _ _ 2 + d.batchCoord _ 2 + d.offCoord _ 2 = h.val
    rw [d.batchCoord_eq_zero _ _ (hbN 2)]
    subst hd
    unfold GatherDims.start GatherDims.offCoord
    rw [dif_neg (show (2 : Fin 3) ∉ [(0 : Fin 3)] by decide),
      dif_pos ((GatherDims.mem_sKept _ _).2 ⟨(show (2 : Fin 3) ∉ [(0 : Fin 3)] by decide), List.not_mem_nil⟩)]
    show 0 + 0 + _ = _
    rw [Nat.add_zero, Nat.zero_add]
    rfl

variable (e : IVec S160 32) (hE : ∀ j : S160.Idx, (e j).toNat < 32)

theorem toInt_eq (w : BitVec 32) (h : w.toNat < 32) : w.toInt = w.toNat ∧ w.slt 0#32 = false := by
  have : w.toInt = w.toNat := by rw [BitVec.toInt]; split <;> omega
  refine ⟨this, ?_⟩
  simp only [BitVec.slt, this, BitVec.toInt_zero, decide_eq_false_iff_not]
  omega

include hE in
/-- A word in range is not wrapped around. -/
theorem index_word (i : S160.Idx) : val_main_v5 (F := Ideal) e i = e i ∧ val_main_v14 (F := Ideal) e i = e i ∧ val_main_v23 (F := Ideal) e i = e i := by
  have h := (toInt_eq (e i) (hE i)).2
  refine ⟨?_, ?_, ?_⟩
  · rw [val_main_v5_apply, val_main_v2_apply, val_main_v1_apply, val_main_c_apply]
    simp only [IntOp.cmpi, h]; rfl
  · rw [val_main_v14_apply, val_main_v11_apply, val_main_v10_apply, val_main_c_1_apply]
    simp only [IntOp.cmpi, h]; rfl
  · rw [val_main_v23_apply, val_main_v20_apply, val_main_v19_apply, val_main_c_3_apply]
    simp only [IntOp.cmpi, h]; rfl

/-- The three gathers. -/
theorem gate_apply (w : Vec Ideal S32x2048x512 .f32) (b : Fin 160) (k : Fin 2048) (h : Fin 512) :
    val_main_v7 (F := Ideal) e w (ix3 b k h) = w (ix3 (experts e hE b) k h) := by
  unfold val_main_v7
  refine gather_lead (wf := _) w _ b k h _ ?_
  rw [val_main_v6_apply, (index_word e hE _).1]
  refine (toInt_eq _ (hE _)).1.trans ?_
  exact congrArg (fun j => ((e j).toNat : Int)) (funext fun a => by obtain rfl : a = 0 := Subsingleton.elim _ _; rfl)
theorem up_apply (w : Vec Ideal S32x2048x512 .f32) (b : Fin 160) (k : Fin 2048) (h : Fin 512) :
    val_main_v16 (F := Ideal) e w (ix3 b k h) = w (ix3 (experts e hE b) k h) := by
  unfold val_main_v16
  refine gather_lead (wf := _) w _ b k h _ ?_
  rw [val_main_v15_apply, (index_word e hE _).2.1]
  refine (toInt_eq _ (hE _)).1.trans ?_
  exact congrArg (fun j => ((e j).toNat : Int)) (funext fun a => by obtain rfl : a = 0 := Subsingleton.elim _ _; rfl)
theorem down_apply (w : Vec Ideal S32x512x2048 .f32) (b : Fin 160) (h : Fin 512) (d : Fin 2048) :
    val_main_v25 (F := Ideal) e w (ix3 b h d) = w (ix3 (experts e hE b) h d) := by
  unfold val_main_v25
  refine gather_lead (wf := _) w _ b h d _ ?_
  rw [val_main_v24_apply, (index_word e hE _).2.2]
  refine (toInt_eq _ (hE _)).1.trans ?_
  exact congrArg (fun j => ((e j).toNat : Int)) (funext fun a => by obtain rfl : a = 0 := Subsingleton.elim _ _; rfl)

/-- The activations by block and row of the block. -/
theorem x_apply (x : Vec Ideal S40960x2048 .f32) (b : Fin 160) (p : Fin 256) (k : Fin 2048) (h : b.val * 256 + p.val < 40960) :
    val_main_v0 (F := Ideal) x (ix3 b p k) = x (ix2 ⟨b.val * 256 + p.val, h⟩ k) := by
  rw [val_main_v0_apply]
  refine congrArg x (funext fun a => Fin.ext ?_)
  match a with
  | ⟨0, _⟩ => show ((b.val * 256 + p.val) * 2048 + k.val) / 2048 = b.val * 256 + p.val; omega
  | ⟨1, _⟩ => show ((b.val * 256 + p.val) * 2048 + k.val) % 2048 = k.val; omega

/-- Where the three products read their operands. -/
theorem l8 (b : Fin 160) (p : Fin 256) (k : Fin 2048) (h : Fin 512) : lidx_main_v8 (ix3 b p h) k = ix3 b p k :=
  funext fun a => match a with | ⟨0, _⟩ => rfl | ⟨1, _⟩ => rfl | ⟨2, _⟩ => rfl
theorem r8 (b : Fin 160) (p : Fin 256) (k : Fin 2048) (h : Fin 512) : ridx_main_v8 (ix3 b p h) k = ix3 b k h :=
  funext fun a => match a with | ⟨0, _⟩ => rfl | ⟨1, _⟩ => rfl | ⟨2, _⟩ => rfl
theorem l17 (b : Fin 160) (p : Fin 256) (k : Fin 2048) (h : Fin 512) : lidx_main_v17 (ix3 b p h) k = ix3 b p k :=
  funext fun a => match a with | ⟨0, _⟩ => rfl | ⟨1, _⟩ => rfl | ⟨2, _⟩ => rfl
theorem r17 (b : Fin 160) (p : Fin 256) (k : Fin 2048) (h : Fin 512) : ridx_main_v17 (ix3 b p h) k = ix3 b k h :=
  funext fun a => match a with | ⟨0, _⟩ => rfl | ⟨1, _⟩ => rfl | ⟨2, _⟩ => rfl
theorem l26 (b : Fin 160) (p : Fin 256) (k : Fin 512) (h : Fin 2048) : lidx_main_v26 (ix3 b p h) k = ix3 b p k :=
  funext fun a => match a with | ⟨0, _⟩ => rfl | ⟨1, _⟩ => rfl | ⟨2, _⟩ => rfl
theorem r26 (b : Fin 160) (p : Fin 256) (k : Fin 512) (h : Fin 2048) : ridx_main_v26 (ix3 b p h) k = ix3 b k h :=
  funext fun a => match a with | ⟨0, _⟩ => rfl | ⟨1, _⟩ => rfl | ⟨2, _⟩ => rfl

/-- The hidden layer. -/
theorem hidden_apply (x : Vec Ideal S40960x2048 .f32) (wg wu : Vec Ideal S32x2048x512 .f32) (b : Fin 160) (p : Fin 256) (h : Fin 512)
    (hr : b.val * 256 + p.val < 40960) :
    val_main_v18 (F := Ideal) x e wg wu (ix3 b p h)
      = unit (∑ k : Fin 2048, x (ix2 ⟨b.val * 256 + p.val, hr⟩ k) * wg (ix3 (experts e hE b) k h))
          (∑ k : Fin 2048, x (ix2 ⟨b.val * 256 + p.val, hr⟩ k) * wu (ix3 (experts e hE b) k h)) := by
  have hg : val_main_v8 (F := Ideal) x e wg (ix3 b p h) = ∑ k : Fin 2048, x (ix2 ⟨b.val * 256 + p.val, hr⟩ k) * wg (ix3 (experts e hE b) k h) := by
    rw [val_main_v8_apply]
    exact Finset.sum_congr rfl fun k _ => congrArg₂ (· * ·) ((congrArg _ (l8 b p k h)).trans (x_apply x b p k hr)) ((congrArg _ (r8 b p k h)).trans <| gate_apply e hE wg b k h)
  have hu : val_main_v17 (F := Ideal) x e wu (ix3 b p h) = ∑ k : Fin 2048, x (ix2 ⟨b.val * 256 + p.val, hr⟩ k) * wu (ix3 (experts e hE b) k h) := by
    rw [val_main_v17_apply]
    exact Finset.sum_congr rfl fun k _ => congrArg₂ (· * ·) ((congrArg _ (l17 b p k h)).trans (x_apply x b p k hr)) ((congrArg _ (r17 b p k h)).trans <| up_apply e hE wu b k h)
  rw [val_main_v18_apply, val_main_v9_apply, val_main_call0_v5_apply, val_main_call0_v4_apply, val_main_call0_cst_0_apply, val_main_call0_v3_apply,
    val_main_call0_v2_apply, val_main_call0_cst_apply, val_main_call0_v1_apply, val_main_call0_v0_apply, hg, hu]
  generalize (∑ k : Fin 2048, x (ix2 ⟨b.val * 256 + p.val, hr⟩ k) * wg (ix3 (experts e hE b) k h)) = g
  generalize (∑ k : Fin 2048, x (ix2 ⟨b.val * 256 + p.val, hr⟩ k) * wu (ix3 (experts e hE b) k h)) = u
  unfold unit
  show g * Ideal.div (Ideal.ofBits .f32 0x3F800000#32) (Ideal.ofBits .f32 0x3F800000#32 + Ideal.exp (-g)) * u = _
  rw [Ideal.ofBits_one_f32, zero_sub]

/-- The reference's result. -/
theorem ref_eq (x : Vec Ideal S40960x2048 .f32) (n : IVec S1 32) (gt : Vec Ideal S40960x1 .f32) (wg wu : Vec Ideal S32x2048x512 .f32)
    (wd : Vec Ideal S32x512x2048 .f32) :
    val_main_v37 (F := Ideal) x e n gt wg wu wd = G x (experts e hE) (n (ix1 0)) gt wg wu wd := by
  funext i
  have h0 : (i 0 : Nat) < 40960 := (i 0).isLt
  have h1 : (i 1 : Nat) < 2048 := (i 1).isLt
  have hn : val_main_v31 (F := Ideal) n = fun _ => n (ix1 0) := by
    funext j
    unfold val_main_v31
    exact congrArg n (idx1_eq _ _)
  rw [val_main_v37_apply, val_main_call1_v1_apply, val_main_v36_apply, val_main_v35_apply, val_main_v34_apply, val_main_v33_apply,
    val_main_v30_apply, val_main_v32_apply, hn, val_main_call1_v2_apply, val_main_call1_v0_apply, val_main_cst_apply, val_main_v29_apply,
    val_main_v28_apply, val_main_v27_apply]
  have hrow : (i 0 : Nat) / 256 * 256 + (i 0 : Nat) % 256 < 40960 := by omega
  have hq : idx_main_v27 i = ix3 ⟨(i 0 : Nat) / 256, by omega⟩ ⟨(i 0 : Nat) % 256, by omega⟩ ⟨(i 1 : Nat), h1⟩ := by
    funext a
    apply Fin.ext
    match a with
    | ⟨0, _⟩ => show ((i 0 : Nat) * 2048 + (i 1 : Nat)) / 524288 = (i 0 : Nat) / 256; omega
    | ⟨1, _⟩ => show ((i 0 : Nat) * 2048 + (i 1 : Nat)) / 2048 % 256 = (i 0 : Nat) % 256; omega
    | ⟨2, _⟩ => show ((i 0 : Nat) * 2048 + (i 1 : Nat)) % 2048 = (i 1 : Nat); omega
  have hr : (⟨(i 0 : Nat) / 256 * 256 + (i 0 : Nat) % 256, hrow⟩ : Fin 40960) = i 0 := Fin.ext (by show (i 0 : Nat) / 256 * 256 + (i 0 : Nat) % 256 = (i 0 : Nat); omega)
  have hd : val_main_v26 (F := Ideal) x e wg wu wd (idx_main_v27 i)
      = ∑ h : Fin 512, unit (∑ k : Fin 2048, x (ix2 (i 0) k) * wg (ix3 (experts e hE ⟨(i 0 : Nat) / 256, by omega⟩) k h))
          (∑ k : Fin 2048, x (ix2 (i 0) k) * wu (ix3 (experts e hE ⟨(i 0 : Nat) / 256, by omega⟩) k h)) * wd (ix3 (experts e hE ⟨(i 0 : Nat) / 256, by omega⟩) h (i 1)) := by
    rw [hq]
    refine (val_main_v26_apply _ _ _ _ _ _).trans ?_
    refine Finset.sum_congr rfl fun h _ => congrArg₂ (· * ·) ?_ ((congrArg _ (r26 _ _ h _)).trans (down_apply e hE wd _ h (i 1)))
    refine (congrArg _ (l26 _ _ h _)).trans ?_
    refine (hidden_apply e hE x wg wu ⟨(i 0 : Nat) / 256, by omega⟩ ⟨(i 0 : Nat) % 256, by omega⟩ h hrow).trans ?_
    rw [hr]
  rw [hd]
  unfold G row
  generalize (∑ h : Fin 512, _ : EReal) = y
  have hg : idx_main_v28 i = ix2 (i 0) 0 := funext fun a => match a with
    | ⟨0, _⟩ => rfl
    | ⟨1, _⟩ => rfl
  rw [hg]
  show (if BitVec.ofBool ((BitVec.ofNat 32 ((i 0 : Nat) / 256)).slt (n (ix1 0))) = 1 then y * gt (ix2 (i 0) 0) else Ideal.ofBits .f32 0x00000000#32) = _
  rw [Ideal.ofBits_zero_f32]
  cases (BitVec.ofNat 32 ((i 0 : Nat) / 256)).slt (n (ix1 0)) <;> rfl

/-- Both programs run, and end with `G` of the shared arguments. -/
theorem algebraic : Cert.algebraic_ExpertFfnIdeal_ExpertFfnRefIdeal := by
  intro m g m' g' hpre hargs
  have hE := word_lt _ _ _ _ _ _ _ (hpre 0)
  refine ⟨fun c => GM m hE c, ?_, ?_⟩
  · exact (θ_run defs _ _).mono (fun r h c => ⟨((h.1 c).1).trans (final m hE c), (h.1 c).2⟩) (run_result m g (ok_of m hE))
  · refine (θ_run Cert.ExpertFfnRefIdeal.defs _ _).mono (fun r h c => ⟨((h c).1).trans ?_, (h c).2⟩) (Cert.ExpertFfnRefIdeal.Value.run m' g')
    obtain ⟨a0, a1, a2, a3, a4, a5, a6⟩ := hargs c
    rw [a0, a1, a2, a3, a4, a5, a6]
    obtain rfl : c = 0 := Subsingleton.elim _ _
    exact (val_main_v37_eq _ _ _ _ _ _ _).trans (ref_eq _ hE _ _ _ _ _ _)

/-- The reference's frames, with the precondition and without. -/
theorem ref_frame : Cert.quiescent_ExpertFfnRefIdeal := fun m ρ _ =>
  (θ_run Cert.ExpertFfnRefIdeal.defs _ _).mono (fun r h => ⟨fun c => (h c).2, sem_eq_zero_of_no_sems (by decide) r.2⟩)
    (Cert.ExpertFfnRefIdeal.Value.run (F := Ideal) m ρ)
theorem ref_frame_pre : Cert.quiescent_ExpertFfnRefIdeal_pre_tables_in_range := fun m ρ _ => ref_frame m ρ trivial

end Cert.Proof.Ffn

end
-- ==== Proof.KvSValue.lean ====
/-
  Hand-written. The keys' and values' projection of the first layer, of the sample rows: the matmul kernel's result array at the ideal values, and the
  reference's, as the same product of rows and columns.
-/
module

public import proofs.«01_k».proof.Defs
public import proofs.«01_k».proof.Proof.Gen.KvSampleIdeal.Value
public import proofs.«01_k».proof.Proof.Gen.KvSampleRefIdeal.Read
public import proofs.«01_k».proof.Proof.Proj
public import Idealize.ShloMosaic.Lib.Quiescent
public import Idealize.ShloMosaic.Lib.Pipeline.ValueKit.Geometry

@[expose] public section

noncomputable section

namespace Cert.Proof.KvS

open Cert.KvSampleIdeal Cert.KvSampleIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 4096 → Fin 6144 := col 4 1 (by omega)

/-- The activations' rows. -/
abbrev flat (x : Vec Ideal S128x8x2048 .f32) : Vec Ideal S1024x2048 .f32 := rows (A := 128) (B := 8) rfl (by decide) x

/-- The activations as the kernel's region finds them: the argument with its two leading axes merged. -/
theorem V_x (c : Dev nD) : (V m c main_v0 : Vec Ideal S1024x2048 .f32) = flat (m ((c : Thread nD τ).loc main_arg0)) := by
  have h : (V m c main_v0 : Vec Ideal S1024x2048 .f32)
      = shapeCast S1024x2048 (m ((c : Thread nD τ).loc main_arg0)) shapeCasts_S128x8x2048_S1024x2048 := by
    unfold V
    after_results <;> rfl
  exact h.trans (rows_cast _ _ _ _)

/-- The weights there: the argument without its unit axis. -/
theorem V_w (c : Dev nD) : (V m c main_v1 : Vec Ideal S2048x6144 .f32)
    = shapeCast S2048x6144 (m ((c : Thread nD τ).loc main_arg1)) shapeCasts_S1x2048x6144_S2048x6144 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 4 + win0_2.index t 1 * 1 :=
  (by decide +kernel : ∀ t : Fin grid0.N, win0_0.index t 0 = win0_2.index t 0 ∧ win0_0.index t 1 = 0 ∧ win0_1.index t 0 = 0
    ∧ win0_1.index t 1 = 4 + win0_2.index t 1 * 1)

/-- The result array is the product. -/
theorem final (c : Dev nD) : (dats m 0 c).arrAt 2 cfg0.N
    = proj cols (flat (m ((c : Thread nD τ).loc main_arg0))) (m ((c : Thread nD τ).loc main_arg1)) := by
  rw [← V_x m c]
  refine (dats m 0 c).arrAt_eq_of_covers 2 _ (by decide +kernel) fun t _ j => ?_
  rw [after0_2]
  unfold out0_2
  rw [View.canon_unit_zero hz, View.ld_unit_zero hz, View.ld_unit_zero hz]
  refine (pay_apply_reshaped _ _ j).trans (Eq.trans ?_ (block_eq (V m c main_v0) _ (V m c main_v1) _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1)))
  unfold iblk
  generalize V m c = v
  rfl

/-- The reference's result is the product too. -/
theorem ref_eq (x : Vec Ideal S128x8x2048 .f32) (w : Vec Ideal S1x2048x6144 .f32) :
    Cert.KvSampleRefIdeal.Read.val_main_v4 (F := Ideal) x w = proj cols (flat x) w := by
  funext i
  open Cert.KvSampleRefIdeal.Read in
  rw [val_main_v4_apply, val_main_v3_apply, val_main_v2_apply, val_main_v1_apply]
  unfold proj
  refine Finset.sum_congr rfl fun k _ => ?_
  rw [Cert.KvSampleRefIdeal.Read.val_main_v0_apply]
  have h0 : (i 0 : Nat) < 1024 := (i 0).isLt
  have h1 : (i 1 : Nat) < 4096 := (i 1).isLt
  have hk : k.val < 2048 := k.isLt
  refine congrArg₂ (· * ·) (congrArg x (funext fun a => Fin.ext ?_)) (congrArg w (eq_ix3 _ _ _ ?_ ?_))
  · match a with
    | ⟨0, _⟩ => simp; omega
    | ⟨1, _⟩ => simp; omega
    | ⟨2, _⟩ => simp
  all_goals simp [cols, col]
  all_goals omega

/-- Both programs run, and end with the product of the shared arguments. -/
theorem algebraic : Cert.algebraic_KvSampleIdeal_KvSampleRefIdeal := by
  intro m g m' g' _ hargs
  refine ⟨fun c => proj cols (flat (m ((c : Thread nD τ).loc main_arg0))) (m ((c : Thread nD τ).loc main_arg1)), ?_, ?_⟩
  · exact (θ_run defs _ _).mono (fun r h c => ⟨((h c).1).trans (final m c), (h c).2⟩) (Value.run_blocks m g)
  · refine (θ_run Cert.KvSampleRefIdeal.defs _ _).mono (fun r h c => ⟨((h c).1).trans ?_, (h c).2⟩) (Cert.KvSampleRefIdeal.Value.run m' g')
    rw [(hargs c).1, (hargs c).2]
    exact (Cert.KvSampleRefIdeal.Read.val_main_v4_eq _ _).trans (ref_eq _ _)

/-- The reference's frame. -/
theorem ref_frame : Cert.quiescent_KvSampleRefIdeal := fun m ρ _ =>
  (θ_run Cert.KvSampleRefIdeal.defs _ _).mono (fun r h => ⟨fun c => (h c).2, sem_eq_zero_of_no_sems (by decide) r.2⟩)
    (Cert.KvSampleRefIdeal.Value.run (F := Ideal) m ρ)

end Cert.Proof.KvS

end
-- ==== Proof.QValue.lean ====
/-
  Hand-written. The queries' projection of the first layer: the matmul kernel's result array at the ideal values, and the
  reference's, as the same product of rows and columns.
-/
module

public import proofs.«01_k».proof.Defs
public import proofs.«01_k».proof.Proof.Gen.QPromptIdeal.Value
public import proofs.«01_k».proof.Proof.Gen.QPromptRefIdeal.Read
public import proofs.«01_k».proof.Proof.Proj
public import Idealize.ShloMosaic.Lib.Quiescent
public import Idealize.ShloMosaic.Lib.Pipeline.ValueKit.Geometry

@[expose] public section

noncomputable section

namespace Cert.Proof.Q

open Cert.QPromptIdeal Cert.QPromptIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 2048 → Fin 6144 := col 0 1 (by omega)

/-- The weights as the kernel's region finds them: the argument without its unit axis. -/
theorem V_w (c : Dev nD) : (V m c main_v0 : Vec Ideal S2048x6144 .f32)
    = shapeCast S2048x6144 (m ((c : Thread nD τ).loc main_arg1)) shapeCasts_S1x2048x6144_S2048x6144 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 0 + win0_2.index t 1 * 1 :=
  (by decide +kernel : ∀ t : Fin grid0.N, win0_0.index t 0 = win0_2.index t 0 ∧ win0_0.index t 1 = 0 ∧ win0_1.index t 0 = 0
    ∧ win0_1.index t 1 = 0 + win0_2.index t 1 * 1)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x6144 .f32) :
    Cert.QPromptRefIdeal.Read.val_main_v5 (F := Ideal) x w = proj cols x w := by
  funext i
  open Cert.QPromptRefIdeal.Read in
  rw [val_main_v5_apply, val_main_v4_apply, val_main_v3_apply, val_main_v2_apply, val_main_v1_apply]
  unfold proj
  refine Finset.sum_congr rfl fun k _ => ?_
  rw [Cert.QPromptRefIdeal.Read.val_main_v0_apply]
  have h0 : (i 0 : Nat) < 16384 := (i 0).isLt
  have h1 : (i 1 : Nat) < 2048 := (i 1).isLt
  have hk : k.val < 2048 := k.isLt
  refine congrArg₂ (· * ·) (congrArg x (eq_ix2 _ _ _ ?_ ?_)) (congrArg w (eq_ix3 _ _ _ ?_ ?_)) <;> simp [cols, col] <;> omega

/-- Both programs run, and end with the product of the shared arguments. -/
theorem algebraic : Cert.algebraic_QPromptIdeal_QPromptRefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.QPromptRefIdeal.defs _ _).mono (fun r h c => ⟨((h c).1).trans ?_, (h c).2⟩) (Cert.QPromptRefIdeal.Value.run m' g')
    rw [(hargs c).1, (hargs c).2]
    exact (Cert.QPromptRefIdeal.Read.val_main_v5_eq _ _).trans (ref_eq _ _)

/-- The reference's frame. -/
theorem ref_frame : Cert.quiescent_QPromptRefIdeal := fun m ρ _ =>
  (θ_run Cert.QPromptRefIdeal.defs _ _).mono (fun r h => ⟨fun c => (h c).2, sem_eq_zero_of_no_sems (by decide) r.2⟩)
    (Cert.QPromptRefIdeal.Value.run (F := Ideal) m ρ)

end Cert.Proof.Q

end
-- ==== Proof.OutAbValue.lean ====
/-
  Hand-written. The output projection of the first layer's attention: the matmul kernel's result array at the ideal values, and the
  reference's, as the same product of rows and columns.
-/
module

public import proofs.«01_k».proof.Defs
public import proofs.«01_k».proof.Proof.Gen.OutAbPromptIdeal.Value
public import proofs.«01_k».proof.Proof.Gen.OutAbPromptRefIdeal.Read
public import proofs.«01_k».proof.Proof.Proj
public import Idealize.ShloMosaic.Lib.Quiescent
public import Idealize.ShloMosaic.Lib.Pipeline.ValueKit.Geometry

@[expose] public section

noncomputable section

namespace Cert.Proof.OutAb

open Cert.OutAbPromptIdeal Cert.OutAbPromptIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 2048 → Fin 2048 := col 0 1 (by omega)

/-- The weights as the kernel's region finds them: the argument without its unit axis. -/
theorem V_w (c : Dev nD) : (V m c main_v0 : Vec Ideal S2048x2048 .f32)
    = shapeCast S2048x2048 (m ((c : Thread nD τ).loc main_arg1)) shapeCasts_S1x2048x2048_S2048x2048 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 0 + win0_2.index t 1 * 1 :=
  (by decide +kernel : ∀ t : Fin grid0.N, win0_0.index t 0 = win0_2.index t 0 ∧ win0_0.index t 1 = 0 ∧ win0_1.index t 0 = 0
    ∧ win0_1.index t 1 = 0 + win0_2.index t 1 * 1)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x2048 .f32) :
    Cert.OutAbPromptRefIdeal.Read.val_main_v1 (F := Ideal) x w = proj cols x w := by
  funext i
  open Cert.OutAbPromptRefIdeal.Read in
  rw [val_main_v1_apply]
  unfold proj
  refine Finset.sum_congr rfl fun k _ => ?_
  rw [Cert.OutAbPromptRefIdeal.Read.val_main_v0_apply]
  have h0 : (i 0 : Nat) < 16384 := (i 0).isLt
  have h1 : (i 1 : Nat) < 2048 := (i 1).isLt
  have hk : k.val < 2048 := k.isLt
  refine congrArg₂ (· * ·) (congrArg x (eq_ix2 _ _ _ ?_ ?_)) (congrArg w (eq_ix3 _ _ _ ?_ ?_)) <;> simp [cols, col] <;> omega

/-- Both programs run, and end with the product of the shared arguments. -/
theorem algebraic : Cert.algebraic_OutAbPromptIdeal_OutAbPromptRefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.OutAbPromptRefIdeal.defs _ _).mono (fun r h c => ⟨((h c).1).trans ?_, (h c).2⟩) (Cert.OutAbPromptRefIdeal.Value.run m' g')
    rw [(hargs c).1, (hargs c).2]
    exact (Cert.OutAbPromptRefIdeal.Read.val_main_v1_eq _ _).trans (ref_eq _ _)

/-- The reference's frame. -/
theorem ref_frame : Cert.quiescent_OutAbPromptRefIdeal := fun m ρ _ =>
  (θ_run Cert.OutAbPromptRefIdeal.defs _ _).mono (fun r h => ⟨fun c => (h c).2, sem_eq_zero_of_no_sems (by decide) r.2⟩)
    (Cert.OutAbPromptRefIdeal.Value.run (F := Ideal) m ρ)

end Cert.Proof.OutAb

end
-- ==== Proof.CqValue.lean ====
/-
  Hand-written. The queries' projection of the second layer: the matmul kernel's result array at the ideal values, and the
  reference's, as the same product of rows and columns.
-/
module

public import proofs.«01_k».proof.Defs
public import proofs.«01_k».proof.Proof.Gen.CqPromptIdeal.Value
public import proofs.«01_k».proof.Proof.Gen.CqPromptRefIdeal.Read
public import proofs.«01_k».proof.Proof.Proj
public import Idealize.ShloMosaic.Lib.Quiescent
public import Idealize.ShloMosaic.Lib.Pipeline.ValueKit.Geometry

@[expose] public section

noncomputable section

namespace Cert.Proof.Cq

open Cert.CqPromptIdeal Cert.CqPromptIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 1536 → Fin 4608 := col 0 1 (by omega)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 0 + win0_2.index t 1 * 1 :=
  (by decide +kernel : ∀ t : Fin grid0.N, win0_0.index t 0 = win0_2.index t 0 ∧ win0_0.index t 1 = 0 ∧ win0_1.index t 0 = 0
    ∧ win0_1.index t 1 = 0 + win0_2.index t 1 * 1)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x4608 .f32) :
    Cert.CqPromptRefIdeal.Read.val_main_v5 (F := Ideal) x w = proj cols x w := by
  funext i
  open Cert.CqPromptRefIdeal.Read in
  rw [val_main_v5_apply, val_main_v4_apply, val_main_v3_apply, val_main_v2_apply, val_main_v1_apply]
  unfold proj
  refine Finset.sum_congr rfl fun k _ => ?_
  rw [Cert.CqPromptRefIdeal.Read.val_main_v0_apply]
  have h0 : (i 0 : Nat) < 16384 := (i 0).isLt
  have h1 : (i 1 : Nat) < 1536 := (i 1).isLt
  have hk : k.val < 2048 := k.isLt
  refine congrArg₂ (· * ·) (congrArg x (eq_ix2 _ _ _ ?_ ?_)) (congrArg w (eq_ix3 _ _ _ ?_ ?_)) <;> simp [cols, col] <;> omega

/-- Both programs run, and end with the product of the shared arguments. -/
theorem algebraic : Cert.algebraic_CqPromptIdeal_CqPromptRefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CqPromptRefIdeal.defs _ _).mono (fun r h c => ⟨((h c).1).trans ?_, (h c).2⟩) (Cert.CqPromptRefIdeal.Value.run m' g')
    rw [(hargs c).1, (hargs c).2]
    exact (Cert.CqPromptRefIdeal.Read.val_main_v5_eq _ _).trans (ref_eq _ _)

/-- The reference's frame. -/
theorem ref_frame : Cert.quiescent_CqPromptRefIdeal := fun m ρ _ =>
  (θ_run Cert.CqPromptRefIdeal.defs _ _).mono (fun r h => ⟨fun c => (h c).2, sem_eq_zero_of_no_sems (by decide) r.2⟩)
    (Cert.CqPromptRefIdeal.Value.run (F := Ideal) m ρ)

end Cert.Proof.Cq

end
-- ==== Proof.Ckv0Value.lean ====
/-
  Hand-written. The keys' and values' projection of the second layer, of head group 0: the matmul kernel's result array at
  the ideal values, and the reference's, as the same product of rows and columns.
-/
module

public import proofs.«01_k».proof.Defs
public import proofs.«01_k».proof.Proof.Gen.CkvPrompt0Ideal.Value
public import proofs.«01_k».proof.Proof.Gen.CkvPrompt0RefIdeal.Read
public import proofs.«01_k».proof.Proof.Proj
public import Idealize.ShloMosaic.Lib.Quiescent
public import Idealize.ShloMosaic.Lib.Pipeline.ValueKit.Geometry

@[expose] public section

noncomputable section

namespace Cert.Proof.Ckv0

open Cert.CkvPrompt0Ideal Cert.CkvPrompt0Ideal.Gen Cert.Proof.Proj Idealize.ShloMosaic Idealize.ShloMosaic.TcCoe Idealize.SL.Sem

variable (m : (ℓ : Loc nD τ sig) → Buf (Elt Ideal) ℓ) (ρ : Dev nD → PrngReg)

/-- The columns of the group's keys and values. -/
abbrev cols : Fin 1024 → Fin 4608 := col 3 3 (by omega)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 3 + win0_2.index t 1 * 3 :=
  (by decide +kernel : ∀ t : Fin grid0.N, win0_0.index t 0 = win0_2.index t 0 ∧ win0_0.index t 1 = 0 ∧ win0_1.index t 0 = 0
    ∧ win0_1.index t 1 = 3 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x4608 .f32) :
    Cert.CkvPrompt0RefIdeal.Read.val_main_v4 (F := Ideal) x w = proj cols x w := by
  funext i
  open Cert.CkvPrompt0RefIdeal.Read in
  rw [val_main_v4_apply, val_main_v3_apply, val_main_v2_apply, val_main_v1_apply]
  unfold proj
  refine Finset.sum_congr rfl fun k _ => ?_
  rw [Cert.CkvPrompt0RefIdeal.Read.val_main_v0_apply]
  have h0 : (i 0 : Nat) < 16384 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvPrompt0Ideal_CkvPrompt0RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvPrompt0RefIdeal.defs _ _).mono (fun r h c => ⟨((h c).1).trans ?_, (h c).2⟩) (Cert.CkvPrompt0RefIdeal.Value.run m' g')
    rw [(hargs c).1, (hargs c).2]
    exact (Cert.CkvPrompt0RefIdeal.Read.val_main_v4_eq _ _).trans (ref_eq _ _)

/-- The reference's frame. -/
theorem ref_frame : Cert.quiescent_CkvPrompt0RefIdeal := fun m ρ _ =>
  (θ_run Cert.CkvPrompt0RefIdeal.defs _ _).mono (fun r h => ⟨fun c => (h c).2, sem_eq_zero_of_no_sems (by decide) r.2⟩)
    (Cert.CkvPrompt0RefIdeal.Value.run (F := Ideal) m ρ)

end Cert.Proof.Ckv0

end
-- ==== Proof.Ckv1Value.lean ====
/-
  Hand-written. The keys' and values' projection of the second layer, of head group 1: the matmul kernel's result array at
  the ideal values, and the reference's, as the same product of rows and columns.
-/
module

public import proofs.«01_k».proof.Defs
public import proofs.«01_k».proof.Proof.Gen.CkvPrompt1Ideal.Value
public import proofs.«01_k».proof.Proof.Gen.CkvPrompt1RefIdeal.Read
public import proofs.«01_k».proof.Proof.Proj
public import Idealize.ShloMosaic.Lib.Quiescent
public import Idealize.ShloMosaic.Lib.Pipeline.ValueKit.Geometry

@[expose] public section

noncomputable section

namespace Cert.Proof.Ckv1

open Cert.CkvPrompt1Ideal Cert.CkvPrompt1Ideal.Gen Cert.Proof.Proj Idealize.ShloMosaic Idealize.ShloMosaic.TcCoe Idealize.SL.Sem

variable (m : (ℓ : Loc nD τ sig) → Buf (Elt Ideal) ℓ) (ρ : Dev nD → PrngReg)

/-- The columns of the group's keys and values. -/
abbrev cols : Fin 1024 → Fin 4608 := col 4 3 (by omega)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 4 + win0_2.index t 1 * 3 :=
  (by decide +kernel : ∀ t : Fin grid0.N, win0_0.index t 0 = win0_2.index t 0 ∧ win0_0.index t 1 = 0 ∧ win0_1.index t 0 = 0
    ∧ win0_1.index t 1 = 4 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x4608 .f32) :
    Cert.CkvPrompt1RefIdeal.Read.val_main_v4 (F := Ideal) x w = proj cols x w := by
  funext i
  open Cert.CkvPrompt1RefIdeal.Read in
  rw [val_main_v4_apply, val_main_v3_apply, val_main_v2_apply, val_main_v1_apply]
  unfold proj
  refine Finset.sum_congr rfl fun k _ => ?_
  rw [Cert.CkvPrompt1RefIdeal.Read.val_main_v0_apply]
  have h0 : (i 0 : Nat) < 16384 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvPrompt1Ideal_CkvPrompt1RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvPrompt1RefIdeal.defs _ _).mono (fun r h c => ⟨((h c).1).trans ?_, (h c).2⟩) (Cert.CkvPrompt1RefIdeal.Value.run m' g')
    rw [(hargs c).1, (hargs c).2]
    exact (Cert.CkvPrompt1RefIdeal.Read.val_main_v4_eq _ _).trans (ref_eq _ _)

/-- The reference's frame. -/
theorem ref_frame : Cert.quiescent_CkvPrompt1RefIdeal := fun m ρ _ =>
  (θ_run Cert.CkvPrompt1RefIdeal.defs _ _).mono (fun r h => ⟨fun c => (h c).2, sem_eq_zero_of_no_sems (by decide) r.2⟩)
    (Cert.CkvPrompt1RefIdeal.Value.run (F := Ideal) m ρ)

end Cert.Proof.Ckv1

end
-- ==== Proof.Ckv2Value.lean ====
/-
  Hand-written. The keys' and values' projection of the second layer, of head group 2: the matmul kernel's result array at
  the ideal values, and the reference's, as the same product of rows and columns.
-/
module

public import proofs.«01_k».proof.Defs
public import proofs.«01_k».proof.Proof.Gen.CkvPrompt2Ideal.Value
public import proofs.«01_k».proof.Proof.Gen.CkvPrompt2RefIdeal.Read
public import proofs.«01_k».proof.Proof.Proj
public import Idealize.ShloMosaic.Lib.Quiescent
public import Idealize.ShloMosaic.Lib.Pipeline.ValueKit.Geometry

@[expose] public section

noncomputable section

namespace Cert.Proof.Ckv2

open Cert.CkvPrompt2Ideal Cert.CkvPrompt2Ideal.Gen Cert.Proof.Proj Idealize.ShloMosaic Idealize.ShloMosaic.TcCoe Idealize.SL.Sem

variable (m : (ℓ : Loc nD τ sig) → Buf (Elt Ideal) ℓ) (ρ : Dev nD → PrngReg)

/-- The columns of the group's keys and values. -/
abbrev cols : Fin 1024 → Fin 4608 := col 5 3 (by omega)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 5 + win0_2.index t 1 * 3 :=
  (by decide +kernel : ∀ t : Fin grid0.N, win0_0.index t 0 = win0_2.index t 0 ∧ win0_0.index t 1 = 0 ∧ win0_1.index t 0 = 0
    ∧ win0_1.index t 1 = 5 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x2048 .f32) (w : Vec Ideal S1x2048x4608 .f32) :
    Cert.CkvPrompt2RefIdeal.Read.val_main_v4 (F := Ideal) x w = proj cols x w := by
  funext i
  open Cert.CkvPrompt2RefIdeal.Read in
  rw [val_main_v4_apply, val_main_v3_apply, val_main_v2_apply, val_main_v1_apply]
  unfold proj
  refine Finset.sum_congr rfl fun k _ => ?_
  rw [Cert.CkvPrompt2RefIdeal.Read.val_main_v0_apply]
  have h0 : (i 0 : Nat) < 16384 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvPrompt2Ideal_CkvPrompt2RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvPrompt2RefIdeal.defs _ _).mono (fun r h c => ⟨((h c).1).trans ?_, (h c).2⟩) (Cert.CkvPrompt2RefIdeal.Value.run m' g')
    rw [(hargs c).1, (hargs c).2]
    exact (Cert.CkvPrompt2RefIdeal.Read.val_main_v4_eq _ _).trans (ref_eq _ _)

/-- The reference's frame. -/
theorem ref_frame : Cert.quiescent_CkvPrompt2RefIdeal := fun m ρ _ =>
  (θ_run Cert.CkvPrompt2RefIdeal.defs _ _).mono (fun r h => ⟨fun c => (h c).2, sem_eq_zero_of_no_sems (by decide) r.2⟩)
    (Cert.CkvPrompt2RefIdeal.Value.run (F := Ideal) m ρ)

end Cert.Proof.Ckv2

end
-- ==== Proof.CkvS0Value.lean ====
/-
  Hand-written. The keys' and values' projection of the second layer over the sample's rows, of head group 0: the columns are
  the prompt's.
-/
module

public import proofs.«01_k».proof.Defs
public import proofs.«01_k».proof.Proof.Gen.CkvSample0Ideal.Value
public import proofs.«01_k».proof.Proof.Gen.CkvSample0RefIdeal.Read
public import proofs.«01_k».proof.Proof.Ckv0Value
public import Idealize.ShloMosaic.Lib.Quiescent
public import Idealize.ShloMosaic.Lib.Pipeline.ValueKit.Geometry

@[expose] public section

noncomputable section

namespace Cert.Proof.CkvS0

open Cert.Proof.Ckv0 (cols)
open Cert.CkvSample0Ideal Cert.CkvSample0Ideal.Gen Cert.Proof.Proj Idealize.ShloMosaic Idealize.ShloMosaic.TcCoe Idealize.SL.Sem

variable (m : (ℓ : Loc nD τ sig) → Buf (Elt Ideal) ℓ) (ρ : Dev nD → PrngReg)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 3 + win0_2.index t 1 * 3 :=
  (by decide +kernel : ∀ t : Fin grid0.N, win0_0.index t 0 = win0_2.index t 0 ∧ win0_0.index t 1 = 0 ∧ win0_1.index t 0 = 0
    ∧ win0_1.index t 1 = 3 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S1024x2048 .f32) (w : Vec Ideal S1x2048x4608 .f32) :
    Cert.CkvSample0RefIdeal.Read.val_main_v4 (F := Ideal) x w = proj cols x w := by
  funext i
  open Cert.CkvSample0RefIdeal.Read in
  rw [val_main_v4_apply, val_main_v3_apply, val_main_v2_apply, val_main_v1_apply]
  unfold proj
  refine Finset.sum_congr rfl fun k _ => ?_
  rw [Cert.CkvSample0RefIdeal.Read.val_main_v0_apply]
  have h0 : (i 0 : Nat) < 1024 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvSample0Ideal_CkvSample0RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvSample0RefIdeal.defs _ _).mono (fun r h c => ⟨((h c).1).trans ?_, (h c).2⟩) (Cert.CkvSample0RefIdeal.Value.run m' g')
    rw [(hargs c).1, (hargs c).2]
    exact (Cert.CkvSample0RefIdeal.Read.val_main_v4_eq _ _).trans (ref_eq _ _)

/-- The reference's frame. -/
theorem ref_frame : Cert.quiescent_CkvSample0RefIdeal := fun m ρ _ =>
  (θ_run Cert.CkvSample0RefIdeal.defs _ _).mono (fun r h => ⟨fun c => (h c).2, sem_eq_zero_of_no_sems (by decide) r.2⟩)
    (Cert.CkvSample0RefIdeal.Value.run (F := Ideal) m ρ)

end Cert.Proof.CkvS0

end
-- ==== Proof.CkvS1Value.lean ====
/-
  Hand-written. The keys' and values' projection of the second layer over the sample's rows, of head group 1: the columns are
  the prompt's.
-/
module

public import proofs.«01_k».proof.Defs
public import proofs.«01_k».proof.Proof.Gen.CkvSample1Ideal.Value
public import proofs.«01_k».proof.Proof.Gen.CkvSample1RefIdeal.Read
public import proofs.«01_k».proof.Proof.Ckv1Value
public import Idealize.ShloMosaic.Lib.Quiescent
public import Idealize.ShloMosaic.Lib.Pipeline.ValueKit.Geometry

@[expose] public section

noncomputable section

namespace Cert.Proof.CkvS1

open Cert.Proof.Ckv1 (cols)
open Cert.CkvSample1Ideal Cert.CkvSample1Ideal.Gen Cert.Proof.Proj Idealize.ShloMosaic Idealize.ShloMosaic.TcCoe Idealize.SL.Sem

variable (m : (ℓ : Loc nD τ sig) → Buf (Elt Ideal) ℓ) (ρ : Dev nD → PrngReg)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 4 + win0_2.index t 1 * 3 :=
  (by decide +kernel : ∀ t : Fin grid0.N, win0_0.index t 0 = win0_2.index t 0 ∧ win0_0.index t 1 = 0 ∧ win0_1.index t 0 = 0
    ∧ win0_1.index t 1 = 4 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S1024x2048 .f32) (w : Vec Ideal S1x2048x4608 .f32) :
    Cert.CkvSample1RefIdeal.Read.val_main_v4 (F := Ideal) x w = proj cols x w := by
  funext i
  open Cert.CkvSample1RefIdeal.Read in
  rw [val_main_v4_apply, val_main_v3_apply, val_main_v2_apply, val_main_v1_apply]
  unfold proj
  refine Finset.sum_congr rfl fun k _ => ?_
  rw [Cert.CkvSample1RefIdeal.Read.val_main_v0_apply]
  have h0 : (i 0 : Nat) < 1024 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvSample1Ideal_CkvSample1RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvSample1RefIdeal.defs _ _).mono (fun r h c => ⟨((h c).1).trans ?_, (h c).2⟩) (Cert.CkvSample1RefIdeal.Value.run m' g')
    rw [(hargs c).1, (hargs c).2]
    exact (Cert.CkvSample1RefIdeal.Read.val_main_v4_eq _ _).trans (ref_eq _ _)

/-- The reference's frame. -/
theorem ref_frame : Cert.quiescent_CkvSample1RefIdeal := fun m ρ _ =>
  (θ_run Cert.CkvSample1RefIdeal.defs _ _).mono (fun r h => ⟨fun c => (h c).2, sem_eq_zero_of_no_sems (by decide) r.2⟩)
    (Cert.CkvSample1RefIdeal.Value.run (F := Ideal) m ρ)

end Cert.Proof.CkvS1

end
-- ==== Proof.CkvS2Value.lean ====
/-
  Hand-written. The keys' and values' projection of the second layer over the sample's rows, of head group 2: the columns are
  the prompt's.
-/
module

public import proofs.«01_k».proof.Defs
public import proofs.«01_k».proof.Proof.Gen.CkvSample2Ideal.Value
public import proofs.«01_k».proof.Proof.Gen.CkvSample2RefIdeal.Read
public import proofs.«01_k».proof.Proof.Ckv2Value
public import Idealize.ShloMosaic.Lib.Quiescent
public import Idealize.ShloMosaic.Lib.Pipeline.ValueKit.Geometry

@[expose] public section

noncomputable section

namespace Cert.Proof.CkvS2

open Cert.Proof.Ckv2 (cols)
open Cert.CkvSample2Ideal Cert.CkvSample2Ideal.Gen Cert.Proof.Proj Idealize.ShloMosaic Idealize.ShloMosaic.TcCoe Idealize.SL.Sem

variable (m : (ℓ : Loc nD τ sig) → Buf (Elt Ideal) ℓ) (ρ : Dev nD → PrngReg)

/-- The weights as the kernel's region finds them: the argument without its unit axis. -/
theorem V_w (c : Dev nD) : (V m c main_v0 : Vec Ideal S2048x4608 .f32)
    = shapeCast S2048x4608 (m ((c : Thread nD τ).loc main_arg1)) shapeCasts_S1x2048x4608_S2048x4608 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 5 + win0_2.index t 1 * 3 :=
  (by decide +kernel : ∀ t : Fin grid0.N, win0_0.index t 0 = win0_2.index t 0 ∧ win0_0.index t 1 = 0 ∧ win0_1.index t 0 = 0
    ∧ win0_1.index t 1 = 5 + win0_2.index t 1 * 3)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S1024x2048 .f32) (w : Vec Ideal S1x2048x4608 .f32) :
    Cert.CkvSample2RefIdeal.Read.val_main_v4 (F := Ideal) x w = proj cols x w := by
  funext i
  open Cert.CkvSample2RefIdeal.Read in
  rw [val_main_v4_apply, val_main_v3_apply, val_main_v2_apply, val_main_v1_apply]
  unfold proj
  refine Finset.sum_congr rfl fun k _ => ?_
  rw [Cert.CkvSample2RefIdeal.Read.val_main_v0_apply]
  have h0 : (i 0 : Nat) < 1024 := (i 0).isLt
  have h1 : (i 1 : Nat) < 1024 := (i 1).isLt
  have hk : k.val < 2048 := k.isLt
  obtain ⟨e1, e2, e3, e4⟩ := flat_parts (i 0 : Nat) (i 1 : Nat) h1
  refine congrArg₂ (· * ·) (congrArg x (eq_ix2 _ _ _ ?_ ?_)) (congrArg w (eq_ix3 _ _ _ ?_ ?_)) <;> simp [cols, col, e1, e2, e3, e4] <;> omega

/-- Both programs run, and end with the product of the shared arguments. -/
theorem algebraic : Cert.algebraic_CkvSample2Ideal_CkvSample2RefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.CkvSample2RefIdeal.defs _ _).mono (fun r h c => ⟨((h c).1).trans ?_, (h c).2⟩) (Cert.CkvSample2RefIdeal.Value.run m' g')
    rw [(hargs c).1, (hargs c).2]
    exact (Cert.CkvSample2RefIdeal.Read.val_main_v4_eq _ _).trans (ref_eq _ _)

/-- The reference's frame. -/
theorem ref_frame : Cert.quiescent_CkvSample2RefIdeal := fun m ρ _ =>
  (θ_run Cert.CkvSample2RefIdeal.defs _ _).mono (fun r h => ⟨fun c => (h c).2, sem_eq_zero_of_no_sems (by decide) r.2⟩)
    (Cert.CkvSample2RefIdeal.Value.run (F := Ideal) m ρ)

end Cert.Proof.CkvS2

end
-- ==== Proof.OutCValue.lean ====
/-
  Hand-written. The output projection of the second layer's attention: the matmul kernel's result array at the ideal values, and the
  reference's, as the same product of rows and columns.
-/
module

public import proofs.«01_k».proof.Defs
public import proofs.«01_k».proof.Proof.Gen.OutCPromptIdeal.Value
public import proofs.«01_k».proof.Proof.Gen.OutCPromptRefIdeal.Read
public import proofs.«01_k».proof.Proof.Proj
public import Idealize.ShloMosaic.Lib.Pointwise
public import Idealize.ShloMosaic.Lib.Quiescent
public import Idealize.ShloMosaic.Lib.Pipeline.ValueKit.Geometry

@[expose] public section

noncomputable section

namespace Cert.Proof.OutC

open Cert.OutCPromptIdeal Cert.OutCPromptIdeal.Gen Cert.Proof.Proj Idealize.ShloMosaic Idealize.ShloMosaic.TcCoe Idealize.SL.Sem

variable (m : (ℓ : Loc nD τ sig) → Buf (Elt Ideal) ℓ) (ρ : Dev nD → PrngReg)

/-- The weights' columns the result's columns are taken from. -/
abbrev cols : Fin 2048 → Fin 2048 := col 0 1 (by omega)

/-- The block product, read at an index. -/
theorem pay_apply (x : Vec Ideal S1024x512 .f32) (w : Vec Ideal S512x512 .f32) (j : S1024x512.Idx) :
    k0_pay1 (F := Ideal) x w j = ∑ k : Fin 512, x (ix2 (j 0) k) * w (ix2 k (j 1)) := by
  pointwise [k0_pay1]

/-- The weights as the kernel's region finds them: the argument without its unit axis. -/
theorem V_w (c : Dev nD) : (V m c main_v0 : Vec Ideal S512x2048 .f32)
    = shapeCast S512x2048 (m ((c : Thread nD τ).loc main_arg1)) shapeCasts_S1x512x2048_S512x2048 := by
  unfold V
  after_results <;> rfl

/-- How the windows stand to one another at a point of the grid. -/
theorem index_eq : ∀ t : Fin cfg0.N, win0_0.index t 0 = win0_2.index t 0 ∧ win0_0.index t 1 = 0 ∧ win0_1.index t 0 = 0
    ∧ win0_1.index t 1 = 0 + win0_2.index t 1 * 1 :=
  (by decide +kernel : ∀ t : Fin grid0.N, win0_0.index t 0 = win0_2.index t 0 ∧ win0_0.index t 1 = 0 ∧ win0_1.index t 0 = 0
    ∧ win0_1.index t 1 = 0 + win0_2.index t 1 * 1)

/-- The result array is the product. -/
theorem final (c : Dev nD) : (dats m 0 c).arrAt 2 cfg0.N
    = proj cols (m ((c : Thread nD τ).loc main_arg0)) (m ((c : Thread nD τ).loc main_arg1)) := by
  refine (dats m 0 c).arrAt_eq_of_covers 2 _ (by decide +kernel) fun t _ j => ?_
  rw [after0_2]
  unfold out0_2
  rw [View.canon_unit_zero hz, View.ld_unit_zero hz, View.ld_unit_zero hz, ← V_main_arg0 m c]
  exact (OutC.pay_apply _ _ j).trans (block_eq _ _ _ _ (V_w m c) (fun y => (win0_0.blk t).view.emb y) (fun y => (win0_1.blk t).view.emb y)
    j _ (win0_0.index t) (win0_1.index t) (win0_2.index t) (index_eq t)
    (win0_0.rect_emb_val t · 0) (win0_0.rect_emb_val t · 1) (win0_1.rect_emb_val t · 0) (win0_1.rect_emb_val t · 1)
    (win0_2.rect_emb_val t j 0) (win0_2.rect_emb_val t j 1))

/-- The reference's result is the product too. -/
theorem ref_eq (x : Vec Ideal S16384x512 .f32) (w : Vec Ideal S1x512x2048 .f32) :
    Cert.OutCPromptRefIdeal.Read.val_main_v1 (F := Ideal) x w = proj cols x w := by
  funext i
  open Cert.OutCPromptRefIdeal.Read in
  rw [val_main_v1_apply]
  unfold proj
  refine Finset.sum_congr rfl fun k _ => ?_
  rw [Cert.OutCPromptRefIdeal.Read.val_main_v0_apply]
  have h0 : (i 0 : Nat) < 16384 := (i 0).isLt
  have h1 : (i 1 : Nat) < 2048 := (i 1).isLt
  have hk : k.val < 512 := k.isLt
  refine congrArg₂ (· * ·) (congrArg x (eq_ix2 _ _ _ ?_ ?_)) (congrArg w (eq_ix3 _ _ _ ?_ ?_)) <;> simp [cols, col] <;> omega

/-- Both programs run, and end with the product of the shared arguments. -/
theorem algebraic : Cert.algebraic_OutCPromptIdeal_OutCPromptRefIdeal := by
  intro m g m' g' _ hargs
  refine ⟨fun c => proj cols (m ((c : Thread nD τ).loc main_arg0)) (m ((c : Thread nD τ).loc main_arg1)), ?_, ?_⟩
  · exact (θ_run defs _ _).mono (fun r h c => ⟨((h c).1).trans (final m c), (h c).2⟩) (Value.run_blocks m g)
  · refine (θ_run Cert.OutCPromptRefIdeal.defs _ _).mono (fun r h c => ⟨((h c).1).trans ?_, (h c).2⟩) (Cert.OutCPromptRefIdeal.Value.run m' g')
    rw [(hargs c).1, (hargs c).2]
    exact (Cert.OutCPromptRefIdeal.Read.val_main_v1_eq _ _).trans (ref_eq _ _)

/-- The reference's frame. -/
theorem ref_frame : Cert.quiescent_OutCPromptRefIdeal := fun m ρ _ =>
  (θ_run Cert.OutCPromptRefIdeal.defs _ _).mono (fun r h => ⟨fun c => (h c).2, sem_eq_zero_of_no_sems (by decide) r.2⟩)
    (Cert.OutCPromptRefIdeal.Value.run (F := Ideal) m ρ)

end Cert.Proof.OutC

end
-- ==== Proof.Ln.lean ====
/-
  Hand-written. A row's layer norm over 2048 elements, as both the kernel and the reference compute it at the ideal values.
-/
module

public import Idealize.ShloMosaic.Lib.Pointwise

@[expose] public section

noncomputable section

namespace Cert.Proof.Ln

open Idealize.ShloMosaic

/-- The residual's weight. -/
def alpha : EReal := Ideal.ofBits .f32 0x3FB504F3#32

/-- A row's mean. -/
def mean (f : Fin 2048 → EReal) : EReal := Ideal.div (∑ k : Fin 2048, f k) (Ideal.ofBits .f32 0x45000000#32)

/-- A row's layer norm with its scale and shift. -/
def lnorm (y g b : Fin 2048 → EReal) (j : Fin 2048) : EReal :=
  (y j - mean y) * Ideal.rsqrt (mean (fun k => (y k - mean y) * (y k - mean y)) + Ideal.ofBits .f32 0x3727C5AC#32) * g j + b j

theorem zero_word : Ideal.ofBits .f32 0x00000000#32 = 0 := by simp [Ideal.ofBits, Ideal.ieee]

/-- The norms of two rows whose elements agree. -/
theorem lnorm_congr {y y' g g' b b' : Fin 2048 → EReal} {j j' : Fin 2048} (hy : ∀ k, y k = y' k) (hg : ∀ k, g k = g' k) (hb : ∀ k, b k = b' k)
    (hj : j = j') : lnorm y g b j = lnorm y' g' b' j' := by
  rw [funext hy, funext hg, funext hb, hj]

/-- A vector with a unit axis put in front, read at an index. -/
theorem add_unit (v : Vec Ideal ⟨1, ![2048]⟩ .f32) (h : (⟨1, ![2048]⟩ : Shape).ShapeCasts ⟨2, ![1, 2048]⟩) (k : Fin 2048) :
    shapeCast ⟨2, ![1, 2048]⟩ v h (ix2 0 k) = v (ix1 k) := by
  refine shapeCast_apply (s := ⟨1, ![2048]⟩) _ _ _ _ ?_
  rw [Shape.rowMajor_val_one, Shape.rowMajor_val_two]
  show k.val = 0 * 2048 + k.val
  omega

end Cert.Proof.Ln

end
-- ==== Proof.LnMixValue.lean ====
/-
  Hand-written. The residual and layer norm after a layer's attention: the kernel's result array at the ideal values, and the
  reference's, as the same norm of the same rows.
-/
module

public import proofs.«01_k».proof.Defs
public import proofs.«01_k».proof.Proof.Gen.ResLnMixIdeal.Value
public import proofs.«01_k».proof.Proof.Gen.ResLnMixRefIdeal.Read
public import proofs.«01_k».proof.Proof.Proj
public import proofs.«01_k».proof.Proof.Ln
public import Idealize.ShloMosaic.Lib.Pointwise
public import Idealize.ShloMosaic.Lib.Quiescent

@[expose] public section

noncomputable section

namespace Cert.Proof.LnMix

open Cert.ResLnMixIdeal Cert.ResLnMixIdeal.Gen Cert.Proof.Proj Cert.Proof.Ln Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The norm of every row of the weighted residual plus the attention's output. -/
def ln (x a : Vec Ideal S16384x2048 .f32) (g b : Vec Ideal S2048 .f32) : Vec Ideal S16384x2048 .f32 :=
  fun i => lnorm (fun k => alpha * x (ix2 (i 0) k) + a (ix2 (i 0) k)) (fun k => g (ix1 k)) (fun k => b (ix1 k)) (i 1)

/-- A block's result, read at an index. -/
theorem pay_apply (x a : Vec Ideal S512x2048 .f32) (g b : Vec Ideal S1x2048 .f32) (j : S512x2048.Idx) :
    k0_pay1 (F := Ideal) x a g b j
      = lnorm (fun k => alpha * x (ix2 (j 0) k) + a (ix2 (j 0) k)) (fun k => g (ix2 0 k)) (fun k => b (ix2 0 k)) (j 1) := by
  unfold lnorm mean alpha
  pointwise [k0_pay1]

/-- The scale as the kernel's region finds it. -/
theorem V_g (c : Dev nD) : (V m c main_v0 : Vec Ideal S1x2048 .f32)
    = shapeCast S1x2048 (m ((c : Thread nD τ).loc main_arg2)) shapeCasts_S2048_S1x2048 := by
  unfold V
  after_results <;> rfl

/-- The shift as the kernel's region finds it. -/
theorem V_b (c : Dev nD) : (V m c main_v1 : Vec Ideal S1x2048 .f32)
    = shapeCast S1x2048 (m ((c : Thread nD τ).loc main_arg3)) shapeCasts_S2048_S1x2048 := by
  unfold V
  after_results <;> rfl

/-- Where the windows stand at a point of the grid. -/
theorem index_eq : ∀ t : Fin cfg0.N, (win0_0.index t 0 = t.val ∧ win0_0.index t 1 = 0 ∧ win0_1.index t 0 = t.val ∧ win0_1.index t 1 = 0)
    ∧ (win0_2.index t 0 = 0 ∧ win0_2.index t 1 = 0 ∧ win0_3.index t 0 = 0 ∧ win0_3.index t 1 = 0)
    ∧ win0_4.index t 0 = t.val ∧ win0_4.index t 1 = 0 :=
  (by decide +kernel : ∀ t : Fin grid0.N, (win0_0.index t 0 = t.val ∧ win0_0.index t 1 = 0 ∧ win0_1.index t 0 = t.val ∧ win0_1.index t 1 = 0)
    ∧ (win0_2.index t 0 = 0 ∧ win0_2.index t 1 = 0 ∧ win0_3.index t 0 = 0 ∧ win0_3.index t 1 = 0)
    ∧ win0_4.index t 0 = t.val ∧ win0_4.index t 1 = 0)

/-- What a point writes back is its block of rows. -/
theorem flushed_eq (c : Dev nD) (t : Fin cfg0.N) :
    (dats m 0 c).flushed 4 t = ((cfg0.win 4).blk t).view.read (Elt Ideal)
      (ln (m ((c : Thread nD τ).loc main_arg0)) (m ((c : Thread nD τ).loc main_arg1)) (m ((c : Thread nD τ).loc main_arg2))
        (m ((c : Thread nD τ).loc main_arg3))) := by
  rw [Value.flushed4]
  unfold out0_4
  rw [View.canon_unit_zero hz, View.ld_unit_zero hz, View.ld_unit_zero hz, View.ld_unit_zero hz, View.ld_unit_zero hz]
  funext j
  have hN : t.val < 32 := t.isLt
  have hj0 : (j 0).val < 512 := (j 0).isLt
  have hj1 : (j 1).val < 2048 := (j 1).isLt
  obtain ⟨⟨h00, h01, h10, h11⟩, ⟨h20, h21, h30, h31⟩, h40, h41⟩ := index_eq t
  refine (pay_apply _ _ _ _ j).trans ?_
  rw [View.read_apply]
  have e : ((cfg0.win 4).blk t).view.emb j
      = (ix2 ⟨t.val * 512 + (j 0).val, by omega⟩ ⟨(j 1).val, by omega⟩ : S16384x2048.Idx) :=
    eq_ix2 _ _ _ (show win0_4.index t 0 * 512 + 1 * (j 0).val = t.val * 512 + (j 0).val by rw [h40]; omega)
      (show win0_4.index t 1 * 2048 + 1 * (j 1).val = (j 1).val by rw [h41]; omega)
  rw [e]
  show _ = ln _ _ _ _ _
  unfold ln
  refine lnorm_congr (fun k => congrArg₂ (· + ·) (congrArg (alpha * ·) ?_) ?_) (fun k => ?_) (fun k => ?_) (Fin.ext rfl)
  · unfold iblk
    rw [View.read_apply]
    show V m c main_arg0 _ = _
    rw [V_main_arg0]
    refine congrArg (m ((c : Thread nD τ).loc main_arg0)) (eq_ix2 _ _ _ ?_ ?_)
    · show win0_0.index t 0 * 512 + 1 * (j 0).val = t.val * 512 + (j 0).val; rw [h00]; omega
    · show win0_0.index t 1 * 2048 + 1 * k.val = k.val; rw [h01]; omega
  · unfold iblk
    rw [View.read_apply]
    show V m c main_arg1 _ = _
    rw [V_main_arg1]
    refine congrArg (m ((c : Thread nD τ).loc main_arg1)) (eq_ix2 _ _ _ ?_ ?_)
    · show win0_1.index t 0 * 512 + 1 * (j 0).val = t.val * 512 + (j 0).val; rw [h10]; omega
    · show win0_1.index t 1 * 2048 + 1 * k.val = k.val; rw [h11]; omega
  · unfold iblk
    rw [View.read_apply]
    refine Eq.trans ?_ ((congrFun (V_g m c) _).trans (add_unit _ _ k))
    show V m c main_v0 _ = V m c main_v0 _
    refine congrArg (V m c main_v0) (eq_ix2 _ _ _ ?_ ?_)
    · show win0_2.index t 0 * 1 + 1 * 0 = 0; rw [h20]
    · show win0_2.index t 1 * 2048 + 1 * k.val = k.val; rw [h21]; omega
  · unfold iblk
    rw [View.read_apply]
    refine Eq.trans ?_ ((congrFun (V_b m c) _).trans (add_unit _ _ k))
    show V m c main_v1 _ = V m c main_v1 _
    refine congrArg (V m c main_v1) (eq_ix2 _ _ _ ?_ ?_)
    · show win0_3.index t 0 * 1 + 1 * 0 = 0; rw [h30]
    · show win0_3.index t 1 * 2048 + 1 * k.val = k.val; rw [h31]; omega

/-- The blocks tile the result array. -/
theorem cover (i : S16384x2048.Idx) :
    ∃ t : Fin cfg0.N, (cfg0.win 4).flush t = true ∧ i ∈ ((cfg0.win 4).blk t).view.set := by
  have h0 : (i 0 : Nat) < 16384 := (i 0).isLt
  have h1 : (i 1 : Nat) < 2048 := (i 1).isLt
  have hlt : (i 0 : Nat) / 512 < 32 := by omega
  refine ⟨⟨_, hlt⟩, flush0_4 _, ?_⟩
  obtain ⟨-, -, h40, h41⟩ := index_eq ⟨_, hlt⟩
  show i ∈ ((View.whole main_v2).slice (win0_4.rect ⟨_, hlt⟩)).set
  rw [View.set_slice_whole, Rect.mem_set_unit]
  intro a
  match a with
  | ⟨0, _⟩ =>
    show win0_4.index _ 0 * 512 ≤ (i 0 : Nat) ∧ (i 0 : Nat) < win0_4.index _ 0 * 512 + 512
    rw [h40]; dsimp only; omega
  | ⟨1, _⟩ =>
    show win0_4.index _ 1 * 2048 ≤ (i 1 : Nat) ∧ (i 1 : Nat) < win0_4.index _ 1 * 2048 + 2048
    rw [h41]; dsimp only; omega

/-- The reference's result is the norm too. -/
theorem ref_eq (x a : Vec Ideal S16384x2048 .f32) (g b : Vec Ideal S2048 .f32) :
    Cert.ResLnMixRefIdeal.Read.val_main_v26 (F := Ideal) x a g b = ln x a g b := by
  have row : ∀ (r : Fin 16384) (k : Fin 2048), Cert.ResLnMixRefIdeal.Read.val_main_v2 (F := Ideal) x a (ix2 r k) = alpha * x (ix2 r k) + a (ix2 r k) :=
    fun r k => by open Cert.ResLnMixRefIdeal.Read in rw [val_main_v2_apply, val_main_v1_apply, val_main_v0_apply, val_main_cst_apply]; rfl
  have mu : ∀ r : Fin 16384, Cert.ResLnMixRefIdeal.Read.val_main_v6 (F := Ideal) x a (ix2 r 0) = mean (fun k => alpha * x (ix2 r k) + a (ix2 r k)) :=
    fun r => by
      open Cert.ResLnMixRefIdeal.Read in
      rw [val_main_v6_apply, val_main_v4_apply, val_main_v3_apply, val_main_v5_apply, val_main_cst_0_apply, val_main_cst_1_apply]
      unfold mean
      refine congrArg (Ideal.div · _) ?_
      show Ideal.ofBits .f32 0x00000000#32 + _ = _
      rw [zero_word, zero_add]
      exact Finset.sum_congr rfl fun k _ => (congrArg _ (eq_ix2 _ r k rfl rfl)).trans (row r k)
  funext i
  obtain ⟨r, j, rfl⟩ : ∃ (r : Fin 16384) (j : Fin 2048), i = ix2 r j := ⟨i 0, i 1, eq_ix2 _ _ _ rfl rfl⟩
  have dev : ∀ k : Fin 2048, Cert.ResLnMixRefIdeal.Read.val_main_v8 (F := Ideal) x a (ix2 r k)
      = (alpha * x (ix2 r k) + a (ix2 r k)) - mean (fun k => alpha * x (ix2 r k) + a (ix2 r k)) := fun k => by
    open Cert.ResLnMixRefIdeal.Read in rw [val_main_v8_apply, val_main_v7_apply, row]
    exact congrArg (_ - ·) ((congrArg _ (eq_ix2 _ r 0 rfl rfl)).trans (mu r))
  have var : Cert.ResLnMixRefIdeal.Read.val_main_v13 (F := Ideal) x a (ix2 r 0)
      = mean (fun k => ((alpha * x (ix2 r k) + a (ix2 r k)) - mean (fun k => alpha * x (ix2 r k) + a (ix2 r k)))
        * ((alpha * x (ix2 r k) + a (ix2 r k)) - mean (fun k => alpha * x (ix2 r k) + a (ix2 r k)))) := by
    open Cert.ResLnMixRefIdeal.Read in
    rw [val_main_v13_apply, val_main_v11_apply, val_main_v10_apply, val_main_v12_apply, val_main_cst_2_apply, val_main_cst_3_apply]
    unfold mean
    refine congrArg (Ideal.div · _) ?_
    show Ideal.ofBits .f32 0x00000000#32 + _ = _
    rw [zero_word, zero_add]
    refine Finset.sum_congr rfl fun k _ => (congrArg _ (eq_ix2 _ r k rfl rfl)).trans ?_
    open Cert.ResLnMixRefIdeal.Read in rw [val_main_v9_apply, dev]
    rfl
  open Cert.ResLnMixRefIdeal.Read in
  rw [val_main_v26_apply, val_main_v23_apply, val_main_v20_apply, val_main_v15_apply, val_main_v14_apply, val_main_v19_apply, val_main_v18_apply,
    val_main_v17_apply, val_main_v16_apply, val_main_cst_4_apply, val_main_v22_apply, val_main_v21_apply, val_main_v25_apply, val_main_v24_apply, row,
    show Cert.ResLnMixRefIdeal.Read.idx_main_v14 (ix2 r j) = ix2 r 0 from eq_ix2 _ _ _ rfl rfl,
    show Cert.ResLnMixRefIdeal.Read.idx_main_v19 (ix2 r j) = ix2 r 0 from eq_ix2 _ _ _ rfl rfl, mu, var]
  unfold ln lnorm
  refine congrArg₂ (· + ·) (congrArg (_ * ·) (congrArg g ?_)) (congrArg b ?_) <;> exact funext fun a => Fin.ext (by fin_cases a; rfl)

/-- Both programs run, and end with the norm of the shared arguments. -/
theorem algebraic : Cert.algebraic_ResLnMixIdeal_ResLnMixRefIdeal := by
  intro m g m' g' _ hargs
  refine ⟨fun c => ln (m ((c : Thread nD τ).loc main_arg0)) (m ((c : Thread nD τ).loc main_arg1)) (m ((c : Thread nD τ).loc main_arg2))
    (m ((c : Thread nD τ).loc main_arg3)), ?_, ?_⟩
  · exact (θ_run defs _ _).mono (fun r h c => ⟨((h c).1).trans
      ((dats m 0 c).arrAt_eq_of_cover 4 _ (fun t _ => flushed_eq m c t) cover), (h c).2⟩) (Value.run_blocks m g)
  · refine (θ_run Cert.ResLnMixRefIdeal.defs _ _).mono (fun r h c => ⟨((h c).1).trans ?_, (h c).2⟩) (Cert.ResLnMixRefIdeal.Value.run m' g')
    rw [(hargs c).1, (hargs c).2.1, (hargs c).2.2.1, (hargs c).2.2.2]
    exact (Cert.ResLnMixRefIdeal.Read.val_main_v26_eq _ _ _ _).trans (ref_eq _ _ _ _)

/-- The reference's frame. -/
theorem ref_frame : Cert.quiescent_ResLnMixRefIdeal := fun m ρ _ =>
  (θ_run Cert.ResLnMixRefIdeal.defs _ _).mono (fun r h => ⟨fun c => (h c).2, sem_eq_zero_of_no_sems (by decide) r.2⟩)
    (Cert.ResLnMixRefIdeal.Value.run (F := Ideal) m ρ)

end Cert.Proof.LnMix

end
-- ==== Proof.LnFfnValue.lean ====
/-
  Hand-written. The residual and layer norm after a layer's experts: the kernel's result array at the ideal values, and the
  reference's, as the same norm of the same rows.
-/
module

public import proofs.«01_k».proof.Defs
public import proofs.«01_k».proof.Proof.Gen.ResLnFfnIdeal.Value
public import proofs.«01_k».proof.Proof.Gen.ResLnFfnRefIdeal.Read
public import proofs.«01_k».proof.Proof.Proj
public import proofs.«01_k».proof.Proof.Ln
public import Idealize.ShloMosaic.Lib.Pointwise
public import Idealize.ShloMosaic.Lib.Quiescent

@[expose] public section

noncomputable section

namespace Cert.Proof.LnFfn

open Cert.ResLnFfnIdeal Cert.ResLnFfnIdeal.Gen Cert.Proof.Proj Cert.Proof.Ln Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The norm of every row of the weighted residual plus the rows of the two experts. -/
def ln (x a a' : Vec Ideal S16384x2048 .f32) (g b : Vec Ideal S2048 .f32) : Vec Ideal S16384x2048 .f32 :=
  fun i => lnorm (fun k => alpha * x (ix2 (i 0) k) + a (ix2 (i 0) k) + a' (ix2 (i 0) k)) (fun k => g (ix1 k)) (fun k => b (ix1 k)) (i 1)

/-- A block's result, read at an index. -/
theorem pay_apply (x a a' : Vec Ideal S512x2048 .f32) (g b : Vec Ideal S1x2048 .f32) (j : S512x2048.Idx) :
    k0_pay1 (F := Ideal) x a a' g b j
      = lnorm (fun k => alpha * x (ix2 (j 0) k) + a (ix2 (j 0) k) + a' (ix2 (j 0) k)) (fun k => g (ix2 0 k)) (fun k => b (ix2 0 k)) (j 1) := by
  unfold lnorm mean alpha
  pointwise [k0_pay1]

/-- The scale as the kernel's region finds it. -/
theorem V_g (c : Dev nD) : (V m c main_v0 : Vec Ideal S1x2048 .f32)
    = shapeCast S1x2048 (m ((c : Thread nD τ).loc main_arg3)) shapeCasts_S2048_S1x2048 := by
  unfold V
  after_results <;> rfl

/-- The shift as the kernel's region finds it. -/
theorem V_b (c : Dev nD) : (V m c main_v1 : Vec Ideal S1x2048 .f32)
    = shapeCast S1x2048 (m ((c : Thread nD τ).loc main_arg4)) shapeCasts_S2048_S1x2048 := by
  unfold V
  after_results <;> rfl

/-- Where the windows stand at a point of the grid. -/
theorem index_eq : ∀ t : Fin cfg0.N, (win0_0.index t 0 = t.val ∧ win0_0.index t 1 = 0 ∧ win0_1.index t 0 = t.val ∧ win0_1.index t 1 = 0)
    ∧ (win0_2.index t 0 = t.val ∧ win0_2.index t 1 = 0)
    ∧ (win0_3.index t 0 = 0 ∧ win0_3.index t 1 = 0 ∧ win0_4.index t 0 = 0 ∧ win0_4.index t 1 = 0)
    ∧ win0_5.index t 0 = t.val ∧ win0_5.index t 1 = 0 :=
  (by decide +kernel : ∀ t : Fin grid0.N, (win0_0.index t 0 = t.val ∧ win0_0.index t 1 = 0 ∧ win0_1.index t 0 = t.val ∧ win0_1.index t 1 = 0)
    ∧ (win0_2.index t 0 = t.val ∧ win0_2.index t 1 = 0)
    ∧ (win0_3.index t 0 = 0 ∧ win0_3.index t 1 = 0 ∧ win0_4.index t 0 = 0 ∧ win0_4.index t 1 = 0)
    ∧ win0_5.index t 0 = t.val ∧ win0_5.index t 1 = 0)

/-- What a point writes back is its block of rows. -/
theorem flushed_eq (c : Dev nD) (t : Fin cfg0.N) :
    (dats m 0 c).flushed 5 t = ((cfg0.win 5).blk t).view.read (Elt Ideal)
      (ln (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  unfold out0_5
  rw [View.canon_unit_zero hz, View.ld_unit_zero hz, View.ld_unit_zero hz, View.ld_unit_zero hz, View.ld_unit_zero hz, View.ld_unit_zero hz]
  funext j
  have hN : t.val < 32 := t.isLt
  have hj0 : (j 0).val < 512 := (j 0).isLt
  have hj1 : (j 1).val < 2048 := (j 1).isLt
  obtain ⟨⟨h00, h01, h10, h11⟩, ⟨h20, h21⟩, ⟨h30, h31, h40, h41⟩, h50, h51⟩ := index_eq t
  refine (pay_apply _ _ _ _ _ j).trans ?_
  rw [View.read_apply]
  have e : ((cfg0.win 5).blk t).view.emb j
      = (ix2 ⟨t.val * 512 + (j 0).val, by omega⟩ ⟨(j 1).val, by omega⟩ : S16384x2048.Idx) :=
    eq_ix2 _ _ _ (show win0_5.index t 0 * 512 + 1 * (j 0).val = t.val * 512 + (j 0).val by rw [h50]; omega)
      (show win0_5.index t 1 * 2048 + 1 * (j 1).val = (j 1).val by rw [h51]; omega)
  rw [e]
  show _ = ln _ _ _ _ _ _
  unfold ln
  refine lnorm_congr (fun k => congrArg₂ (· + ·) (congrArg₂ (· + ·) (congrArg (alpha * ·) ?_) ?_) ?_) (fun k => ?_) (fun k => ?_) (Fin.ext rfl)
  · unfold iblk
    rw [View.read_apply]
    show V m c main_arg0 _ = _
    rw [V_main_arg0]
    refine congrArg (m ((c : Thread nD τ).loc main_arg0)) (eq_ix2 _ _ _ ?_ ?_)
    · show win0_0.index t 0 * 512 + 1 * (j 0).val = t.val * 512 + (j 0).val; rw [h00]; omega
    · show win0_0.index t 1 * 2048 + 1 * k.val = k.val; rw [h01]; omega
  · unfold iblk
    rw [View.read_apply]
    show V m c main_arg1 _ = _
    rw [V_main_arg1]
    refine congrArg (m ((c : Thread nD τ).loc main_arg1)) (eq_ix2 _ _ _ ?_ ?_)
    · show win0_1.index t 0 * 512 + 1 * (j 0).val = t.val * 512 + (j 0).val; rw [h10]; omega
    · show win0_1.index t 1 * 2048 + 1 * k.val = k.val; rw [h11]; omega
  · unfold iblk
    rw [View.read_apply]
    show V m c main_arg2 _ = _
    rw [V_main_arg2]
    refine congrArg (m ((c : Thread nD τ).loc main_arg2)) (eq_ix2 _ _ _ ?_ ?_)
    · show win0_2.index t 0 * 512 + 1 * (j 0).val = t.val * 512 + (j 0).val; rw [h20]; omega
    · show win0_2.index t 1 * 2048 + 1 * k.val = k.val; rw [h21]; omega
  · unfold iblk
    rw [View.read_apply]
    refine Eq.trans ?_ ((congrFun (V_g m c) _).trans (add_unit _ _ k))
    show V m c main_v0 _ = V m c main_v0 _
    refine congrArg (V m c main_v0) (eq_ix2 _ _ _ ?_ ?_)
    · show win0_3.index t 0 * 1 + 1 * 0 = 0; rw [h30]
    · show win0_3.index t 1 * 2048 + 1 * k.val = k.val; rw [h31]; omega
  · unfold iblk
    rw [View.read_apply]
    refine Eq.trans ?_ ((congrFun (V_b m c) _).trans (add_unit _ _ k))
    show V m c main_v1 _ = V m c main_v1 _
    refine congrArg (V m c main_v1) (eq_ix2 _ _ _ ?_ ?_)
    · show win0_4.index t 0 * 1 + 1 * 0 = 0; rw [h40]
    · show win0_4.index t 1 * 2048 + 1 * k.val = k.val; rw [h41]; omega

/-- The blocks tile the result array. -/
theorem cover (i : S16384x2048.Idx) :
    ∃ t : Fin cfg0.N, (cfg0.win 5).flush t = true ∧ i ∈ ((cfg0.win 5).blk t).view.set := by
  have h0 : (i 0 : Nat) < 16384 := (i 0).isLt
  have h1 : (i 1 : Nat) < 2048 := (i 1).isLt
  have hlt : (i 0 : Nat) / 512 < 32 := by omega
  refine ⟨⟨_, hlt⟩, flush0_5 _, ?_⟩
  obtain ⟨-, -, -, h50, h51⟩ := index_eq ⟨_, hlt⟩
  show i ∈ ((View.whole main_v2).slice (win0_5.rect ⟨_, hlt⟩)).set
  rw [View.set_slice_whole, Rect.mem_set_unit]
  intro a
  match a with
  | ⟨0, _⟩ =>
    show win0_5.index _ 0 * 512 ≤ (i 0 : Nat) ∧ (i 0 : Nat) < win0_5.index _ 0 * 512 + 512
    rw [h50]; dsimp only; omega
  | ⟨1, _⟩ =>
    show win0_5.index _ 1 * 2048 ≤ (i 1 : Nat) ∧ (i 1 : Nat) < win0_5.index _ 1 * 2048 + 2048
    rw [h51]; dsimp only; omega

/-- The reference's result is the norm too. -/
theorem ref_eq (x a a' : Vec Ideal S16384x2048 .f32) (g b : Vec Ideal S2048 .f32) :
    Cert.ResLnFfnRefIdeal.Read.val_main_v27 (F := Ideal) x a a' g b = ln x a a' g b := by
  have row : ∀ (r : Fin 16384) (k : Fin 2048), Cert.ResLnFfnRefIdeal.Read.val_main_v3 (F := Ideal) x a a' (ix2 r k) = alpha * x (ix2 r k) + a (ix2 r k) + a' (ix2 r k) :=
    fun r k => by open Cert.ResLnFfnRefIdeal.Read in rw [val_main_v3_apply, val_main_v2_apply, val_main_v1_apply, val_main_cst_apply, val_main_v0_apply]; exact (add_assoc _ _ _).symm
  have mu : ∀ r : Fin 16384, Cert.ResLnFfnRefIdeal.Read.val_main_v7 (F := Ideal) x a a' (ix2 r 0) = mean (fun k => alpha * x (ix2 r k) + a (ix2 r k) + a' (ix2 r k)) :=
    fun r => by
      open Cert.ResLnFfnRefIdeal.Read in
      rw [val_main_v7_apply, val_main_v5_apply, val_main_v4_apply, val_main_v6_apply, val_main_cst_0_apply, val_main_cst_1_apply]
      unfold mean
      refine congrArg (Ideal.div · _) ?_
      show Ideal.ofBits .f32 0x00000000#32 + _ = _
      rw [zero_word, zero_add]
      exact Finset.sum_congr rfl fun k _ => (congrArg _ (eq_ix2 _ r k rfl rfl)).trans (row r k)
  funext i
  obtain ⟨r, j, rfl⟩ : ∃ (r : Fin 16384) (j : Fin 2048), i = ix2 r j := ⟨i 0, i 1, eq_ix2 _ _ _ rfl rfl⟩
  have dev : ∀ k : Fin 2048, Cert.ResLnFfnRefIdeal.Read.val_main_v9 (F := Ideal) x a a' (ix2 r k)
      = (alpha * x (ix2 r k) + a (ix2 r k) + a' (ix2 r k)) - mean (fun k => alpha * x (ix2 r k) + a (ix2 r k) + a' (ix2 r k)) := fun k => by
    open Cert.ResLnFfnRefIdeal.Read in rw [val_main_v9_apply, val_main_v8_apply, row]
    exact congrArg (_ - ·) ((congrArg _ (eq_ix2 _ r 0 rfl rfl)).trans (mu r))
  have var : Cert.ResLnFfnRefIdeal.Read.val_main_v14 (F := Ideal) x a a' (ix2 r 0)
      = mean (fun k => ((alpha * x (ix2 r k) + a (ix2 r k) + a' (ix2 r k)) - mean (fun k => alpha * x (ix2 r k) + a (ix2 r k) + a' (ix2 r k)))
        * ((alpha * x (ix2 r k) + a (ix2 r k) + a' (ix2 r k)) - mean (fun k => alpha * x (ix2 r k) + a (ix2 r k) + a' (ix2 r k)))) := by
    open Cert.ResLnFfnRefIdeal.Read in
    rw [val_main_v14_apply, val_main_v12_apply, val_main_v11_apply, val_main_v13_apply, val_main_cst_2_apply, val_main_cst_3_apply]
    unfold mean
    refine congrArg (Ideal.div · _) ?_
    show Ideal.ofBits .f32 0x00000000#32 + _ = _
    rw [zero_word, zero_add]
    refine Finset.sum_congr rfl fun k _ => (congrArg _ (eq_ix2 _ r k rfl rfl)).trans ?_
    open Cert.ResLnFfnRefIdeal.Read in rw [val_main_v10_apply, dev]
    rfl
  open Cert.ResLnFfnRefIdeal.Read in
  rw [val_main_v27_apply, val_main_v24_apply, val_main_v21_apply, val_main_v16_apply, val_main_v15_apply, val_main_v20_apply, val_main_v19_apply,
    val_main_v18_apply, val_main_v17_apply, val_main_cst_4_apply, val_main_v23_apply, val_main_v22_apply, val_main_v26_apply, val_main_v25_apply, row,
    show Cert.ResLnFfnRefIdeal.Read.idx_main_v15 (ix2 r j) = ix2 r 0 from eq_ix2 _ _ _ rfl rfl,
    show Cert.ResLnFfnRefIdeal.Read.idx_main_v20 (ix2 r j) = ix2 r 0 from eq_ix2 _ _ _ rfl rfl, mu, var]
  unfold ln lnorm
  refine congrArg₂ (· + ·) (congrArg (_ * ·) (congrArg g ?_)) (congrArg b ?_) <;> exact funext fun a => Fin.ext (by fin_cases a; rfl)

/-- Both programs run, and end with the norm of the shared arguments. -/
theorem algebraic : Cert.algebraic_ResLnFfnIdeal_ResLnFfnRefIdeal := by
  intro m g m' g' _ hargs
  refine ⟨fun c => ln (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run defs _ _).mono (fun r h c => ⟨((h c).1).trans
      ((dats m 0 c).arrAt_eq_of_cover 5 _ (fun t _ => flushed_eq m c t) cover), (h c).2⟩) (Value.run_blocks m g)
  · refine (θ_run Cert.ResLnFfnRefIdeal.defs _ _).mono (fun r h c => ⟨((h c).1).trans ?_, (h c).2⟩) (Cert.ResLnFfnRefIdeal.Value.run m' g')
    rw [(hargs c).1, (hargs c).2.1, (hargs c).2.2.1, (hargs c).2.2.2.1, (hargs c).2.2.2.2]
    exact (Cert.ResLnFfnRefIdeal.Read.val_main_v27_eq _ _ _ _ _).trans (ref_eq _ _ _ _ _)

/-- The reference's frame. -/
theorem ref_frame : Cert.quiescent_ResLnFfnRefIdeal := fun m ρ _ =>
  (θ_run Cert.ResLnFfnRefIdeal.defs _ _).mono (fun r h => ⟨fun c => (h c).2, sem_eq_zero_of_no_sems (by decide) r.2⟩)
    (Cert.ResLnFfnRefIdeal.Value.run (F := Ideal) m ρ)

end Cert.Proof.LnFfn

end
-- ==== Proof.lean ====
/-
  Hand-written. The claim, from the frames and the value theorems of the modules beside this one.
-/
module

public import proofs.«01_k».proof.Defs
public import proofs.«01_k».proof.Proof.AbPre
public import proofs.«01_k».proof.Proof.AbValue
public import proofs.«01_k».proof.Proof.Gen.Pre_finite
public import proofs.«01_k».proof.Proof.Gen.On_sb_heads
public import proofs.«01_k».proof.Proof.Gen.KvPrompt
public import proofs.«01_k».proof.Proof.Gen.KvPrompt.Skeleton
public import proofs.«01_k».proof.Proof.Gen.KvPrompt.Launch
public import proofs.«01_k».proof.Proof.Gen.KvPrompt.Points
public import proofs.«01_k».proof.Proof.Gen.KvPrompt.Frame
public import proofs.«01_k».proof.Proof.Gen.KvPromptIdeal
public import proofs.«01_k».proof.Proof.Gen.KvPromptIdeal.Skeleton
public import proofs.«01_k».proof.Proof.Gen.KvPromptIdeal.Launch
public import proofs.«01_k».proof.Proof.Gen.KvPromptIdeal.Points
public import proofs.«01_k».proof.Proof.Gen.KvPromptIdeal.Frame
public import proofs.«01_k».proof.Proof.Gen.KvPromptIdeal.Value
public import proofs.«01_k».proof.Proof.Gen.KvPromptRefIdeal
public import proofs.«01_k».proof.Proof.Gen.KvPromptRefIdeal.Run
public import proofs.«01_k».proof.Proof.Gen.KvPromptRefIdeal.Read
public import proofs.«01_k».proof.Proof.Gen.ExpertFfn
public import proofs.«01_k».proof.Proof.Gen.ExpertFfnIdeal
public import proofs.«01_k».proof.Proof.Gen.ExpertFfnIdeal.Skeleton
public import proofs.«01_k».proof.Proof.Gen.ExpertFfnIdeal.Launch
public import proofs.«01_k».proof.Proof.Gen.ExpertFfnRefIdeal
public import proofs.«01_k».proof.Proof.Gen.ExpertFfnRefIdeal.Run
public import proofs.«01_k».proof.Proof.Gen.ExpertFfnRefIdeal.Read
public import proofs.«01_k».proof.Proof.Gen.Pre_tables_in_range
public import proofs.«01_k».proof.Proof.Gen.KvSample.Skeleton
public import proofs.«01_k».proof.Proof.Gen.KvSample.Launch
public import proofs.«01_k».proof.Proof.Gen.KvSample.Points
public import proofs.«01_k».proof.Proof.Gen.KvSample.Frame
public import proofs.«01_k».proof.Proof.Gen.KvSampleIdeal.Skeleton
public import proofs.«01_k».proof.Proof.Gen.KvSampleIdeal.Launch
public import proofs.«01_k».proof.Proof.Gen.KvSampleIdeal.Points
public import proofs.«01_k».proof.Proof.Gen.KvSampleIdeal.Frame
public import proofs.«01_k».proof.Proof.Gen.KvSampleIdeal.Value
public import proofs.«01_k».proof.Proof.Gen.KvSampleRefIdeal.Run
public import proofs.«01_k».proof.Proof.Gen.KvSampleRefIdeal.Read
public import proofs.«01_k».proof.Proof.Gen.QPrompt.Skeleton
public import proofs.«01_k».proof.Proof.Gen.QPrompt.Launch
public import proofs.«01_k».proof.Proof.Gen.QPrompt.Points
public import proofs.«01_k».proof.Proof.Gen.QPrompt.Frame
public import proofs.«01_k».proof.Proof.Gen.QPromptIdeal.Skeleton
public import proofs.«01_k».proof.Proof.Gen.QPromptIdeal.Launch
public import proofs.«01_k».proof.Proof.Gen.QPromptIdeal.Points
public import proofs.«01_k».proof.Proof.Gen.QPromptIdeal.Frame
public import proofs.«01_k».proof.Proof.Gen.QPromptIdeal.Value
public import proofs.«01_k».proof.Proof.Gen.QPromptRefIdeal.Run
public import proofs.«01_k».proof.Proof.Gen.QPromptRefIdeal.Read
public import proofs.«01_k».proof.Proof.Gen.OutAbPrompt.Skeleton
public import proofs.«01_k».proof.Proof.Gen.OutAbPrompt.Launch
public import proofs.«01_k».proof.Proof.Gen.OutAbPrompt.Points
public import proofs.«01_k».proof.Proof.Gen.OutAbPrompt.Frame
public import proofs.«01_k».proof.Proof.Gen.OutAbPromptIdeal.Skeleton
public import proofs.«01_k».proof.Proof.Gen.OutAbPromptIdeal.Launch
public import proofs.«01_k».proof.Proof.Gen.OutAbPromptIdeal.Points
public import proofs.«01_k».proof.Proof.Gen.OutAbPromptIdeal.Frame
public import proofs.«01_k».proof.Proof.Gen.OutAbPromptIdeal.Value
public import proofs.«01_k».proof.Proof.Gen.OutAbPromptRefIdeal.Run
public import proofs.«01_k».proof.Proof.Gen.OutAbPromptRefIdeal.Read
public import proofs.«01_k».proof.Proof.Gen.CqPrompt.Skeleton
public import proofs.«01_k».proof.Proof.Gen.CqPrompt.Launch
public import proofs.«01_k».proof.Proof.Gen.CqPrompt.Points
public import proofs.«01_k».proof.Proof.Gen.CqPrompt.Frame
public import proofs.«01_k».proof.Proof.Gen.CqPromptIdeal.Skeleton
public import proofs.«01_k».proof.Proof.Gen.CqPromptIdeal.Launch
public import proofs.«01_k».proof.Proof.Gen.CqPromptIdeal.Points
public import proofs.«01_k».proof.Proof.Gen.CqPromptIdeal.Frame
public import proofs.«01_k».proof.Proof.Gen.CqPromptIdeal.Value
public import proofs.«01_k».proof.Proof.Gen.CqPromptRefIdeal.Run
public import proofs.«01_k».proof.Proof.Gen.CqPromptRefIdeal.Read
public import proofs.«01_k».proof.Proof.Gen.CkvPrompt0.Skeleton
public import proofs.«01_k».proof.Proof.Gen.CkvPrompt0.Launch
public import proofs.«01_k».proof.Proof.Gen.CkvPrompt0.Points
public import proofs.«01_k».proof.Proof.Gen.CkvPrompt0.Frame
public import proofs.«01_k».proof.Proof.Gen.CkvPrompt0Ideal.Skeleton
public import proofs.«01_k».proof.Proof.Gen.CkvPrompt0Ideal.Launch
public import proofs.«01_k».proof.Proof.Gen.CkvPrompt0Ideal.Points
public import proofs.«01_k».proof.Proof.Gen.CkvPrompt0Ideal.Frame
public import proofs.«01_k».proof.Proof.Gen.CkvPrompt0Ideal.Value
public import proofs.«01_k».proof.Proof.Gen.CkvPrompt0RefIdeal.Run
public import proofs.«01_k».proof.Proof.Gen.CkvPrompt0RefIdeal.Read
public import proofs.«01_k».proof.Proof.Gen.CkvPrompt1.Skeleton
public import proofs.«01_k».proof.Proof.Gen.CkvPrompt1.Launch
public import proofs.«01_k».proof.Proof.Gen.CkvPrompt1.Points
public import proofs.«01_k».proof.Proof.Gen.CkvPrompt1.Frame
public import proofs.«01_k».proof.Proof.Gen.CkvPrompt1Ideal.Skeleton
public import proofs.«01_k».proof.Proof.Gen.CkvPrompt1Ideal.Launch
public import proofs.«01_k».proof.Proof.Gen.CkvPrompt1Ideal.Points
public import proofs.«01_k».proof.Proof.Gen.CkvPrompt1Ideal.Frame
public import proofs.«01_k».proof.Proof.Gen.CkvPrompt1Ideal.Value
public import proofs.«01_k».proof.Proof.Gen.CkvPrompt1RefIdeal.Run
public import proofs.«01_k».proof.Proof.Gen.CkvPrompt1RefIdeal.Read
public import proofs.«01_k».proof.Proof.Gen.CkvPrompt2.Skeleton
public import proofs.«01_k».proof.Proof.Gen.CkvPrompt2.Launch
public import proofs.«01_k».proof.Proof.Gen.CkvPrompt2.Points
public import proofs.«01_k».proof.Proof.Gen.CkvPrompt2.Frame
public import proofs.«01_k».proof.Proof.Gen.CkvPrompt2Ideal.Skeleton
public import proofs.«01_k».proof.Proof.Gen.CkvPrompt2Ideal.Launch
public import proofs.«01_k».proof.Proof.Gen.CkvPrompt2Ideal.Points
public import proofs.«01_k».proof.Proof.Gen.CkvPrompt2Ideal.Frame
public import proofs.«01_k».proof.Proof.Gen.CkvPrompt2Ideal.Value
public import proofs.«01_k».proof.Proof.Gen.CkvPrompt2RefIdeal.Run
public import proofs.«01_k».proof.Proof.Gen.CkvPrompt2RefIdeal.Read
public import proofs.«01_k».proof.Proof.Gen.CkvSample0.Skeleton
public import proofs.«01_k».proof.Proof.Gen.CkvSample0.Launch
public import proofs.«01_k».proof.Proof.Gen.CkvSample0.Points
public import proofs.«01_k».proof.Proof.Gen.CkvSample0.Frame
public import proofs.«01_k».proof.Proof.Gen.CkvSample0Ideal.Skeleton
public import proofs.«01_k».proof.Proof.Gen.CkvSample0Ideal.Launch
public import proofs.«01_k».proof.Proof.Gen.CkvSample0Ideal.Points
public import proofs.«01_k».proof.Proof.Gen.CkvSample0Ideal.Frame
public import proofs.«01_k».proof.Proof.Gen.CkvSample0Ideal.Value
public import proofs.«01_k».proof.Proof.Gen.CkvSample0RefIdeal.Run
public import proofs.«01_k».proof.Proof.Gen.CkvSample0RefIdeal.Read
public import proofs.«01_k».proof.Proof.Gen.CkvSample1.Skeleton
public import proofs.«01_k».proof.Proof.Gen.CkvSample1.Launch
public import proofs.«01_k».proof.Proof.Gen.CkvSample1.Points
public import proofs.«01_k».proof.Proof.Gen.CkvSample1.Frame
public import proofs.«01_k».proof.Proof.Gen.CkvSample1Ideal.Skeleton
public import proofs.«01_k».proof.Proof.Gen.CkvSample1Ideal.Launch
public import proofs.«01_k».proof.Proof.Gen.CkvSample1Ideal.Points
public import proofs.«01_k».proof.Proof.Gen.CkvSample1Ideal.Frame
public import proofs.«01_k».proof.Proof.Gen.CkvSample1Ideal.Value
public import proofs.«01_k».proof.Proof.Gen.CkvSample1RefIdeal.Run
public import proofs.«01_k».proof.Proof.Gen.CkvSample1RefIdeal.Read
public import proofs.«01_k».proof.Proof.Gen.CkvSample2.Skeleton
public import proofs.«01_k».proof.Proof.Gen.CkvSample2.Launch
public import proofs.«01_k».proof.Proof.Gen.CkvSample2.Points
public import proofs.«01_k».proof.Proof.Gen.CkvSample2.Frame
public import proofs.«01_k».proof.Proof.Gen.CkvSample2Ideal.Skeleton
public import proofs.«01_k».proof.Proof.Gen.CkvSample2Ideal.Launch
public import proofs.«01_k».proof.Proof.Gen.CkvSample2Ideal.Points
public import proofs.«01_k».proof.Proof.Gen.CkvSample2Ideal.Frame
public import proofs.«01_k».proof.Proof.Gen.CkvSample2Ideal.Value
public import proofs.«01_k».proof.Proof.Gen.CkvSample2RefIdeal.Run
public import proofs.«01_k».proof.Proof.Gen.CkvSample2RefIdeal.Read
public import proofs.«01_k».proof.Proof.Gen.OutCPrompt.Skeleton
public import proofs.«01_k».proof.Proof.Gen.OutCPrompt.Launch
public import proofs.«01_k».proof.Proof.Gen.OutCPrompt.Points
public import proofs.«01_k».proof.Proof.Gen.OutCPrompt.Frame
public import proofs.«01_k».proof.Proof.Gen.OutCPromptIdeal.Skeleton
public import proofs.«01_k».proof.Proof.Gen.OutCPromptIdeal.Launch
public import proofs.«01_k».proof.Proof.Gen.OutCPromptIdeal.Points
public import proofs.«01_k».proof.Proof.Gen.OutCPromptIdeal.Frame
public import proofs.«01_k».proof.Proof.Gen.OutCPromptIdeal.Value
public import proofs.«01_k».proof.Proof.Gen.OutCPromptRefIdeal.Run
public import proofs.«01_k».proof.Proof.Gen.OutCPromptRefIdeal.Read
public import proofs.«01_k».proof.Proof.Gen.AbPrompt.Skeleton
public import proofs.«01_k».proof.Proof.Gen.AbPrompt.Loops
public import proofs.«01_k».proof.Proof.Gen.AbPrompt.Launch
public import proofs.«01_k».proof.Proof.Gen.AbPrompt.Points
public import proofs.«01_k».proof.Proof.Gen.AbPrompt.Frame
public import proofs.«01_k».proof.Proof.Gen.AbPromptIdeal.Skeleton
public import proofs.«01_k».proof.Proof.Gen.AbPromptIdeal.Loops
public import proofs.«01_k».proof.Proof.Gen.AbPromptIdeal.Launch
public import proofs.«01_k».proof.Proof.Gen.AbPromptIdeal.Points
public import proofs.«01_k».proof.Proof.Gen.AbPromptIdeal.Frame
public import proofs.«01_k».proof.Proof.Gen.AbPromptRefIdeal.Run
public import proofs.«01_k».proof.Proof.Gen.AbPromptRefIdeal.Read
public import proofs.«01_k».proof.Proof.Gen.ResLnMix.Skeleton
public import proofs.«01_k».proof.Proof.Gen.ResLnMix.Launch
public import proofs.«01_k».proof.Proof.Gen.ResLnMix.Points
public import proofs.«01_k».proof.Proof.Gen.ResLnMix.Frame
public import proofs.«01_k».proof.Proof.Gen.ResLnMixIdeal.Skeleton
public import proofs.«01_k».proof.Proof.Gen.ResLnMixIdeal.Launch
public import proofs.«01_k».proof.Proof.Gen.ResLnMixIdeal.Points
public import proofs.«01_k».proof.Proof.Gen.ResLnMixIdeal.Frame
public import proofs.«01_k».proof.Proof.Gen.ResLnMixIdeal.Value
public import proofs.«01_k».proof.Proof.Gen.ResLnMixRefIdeal.Run
public import proofs.«01_k».proof.Proof.Gen.ResLnMixRefIdeal.Read
public import proofs.«01_k».proof.Proof.Gen.ResLnFfn.Skeleton
public import proofs.«01_k».proof.Proof.Gen.ResLnFfn.Launch
public import proofs.«01_k».proof.Proof.Gen.ResLnFfn.Points
public import proofs.«01_k».proof.Proof.Gen.ResLnFfn.Frame
public import proofs.«01_k».proof.Proof.Gen.ResLnFfnIdeal.Skeleton
public import proofs.«01_k».proof.Proof.Gen.ResLnFfnIdeal.Launch
public import proofs.«01_k».proof.Proof.Gen.ResLnFfnIdeal.Points
public import proofs.«01_k».proof.Proof.Gen.ResLnFfnIdeal.Frame
public import proofs.«01_k».proof.Proof.Gen.ResLnFfnIdeal.Value
public import proofs.«01_k».proof.Proof.Gen.ResLnFfnRefIdeal.Run
public import proofs.«01_k».proof.Proof.Gen.ResLnFfnRefIdeal.Read
public import proofs.«01_k».proof.Proof.KvValue
public import proofs.«01_k».proof.Proof.FfnRef
public import proofs.«01_k».proof.Proof.KvSValue
public import proofs.«01_k».proof.Proof.QValue
public import proofs.«01_k».proof.Proof.OutAbValue
public import proofs.«01_k».proof.Proof.CqValue
public import proofs.«01_k».proof.Proof.Ckv0Value
public import proofs.«01_k».proof.Proof.Ckv1Value
public import proofs.«01_k».proof.Proof.Ckv2Value
public import proofs.«01_k».proof.Proof.CkvS0Value
public import proofs.«01_k».proof.Proof.CkvS1Value
public import proofs.«01_k».proof.Proof.CkvS2Value
public import proofs.«01_k».proof.Proof.OutCValue
public import proofs.«01_k».proof.Proof.LnMixValue
public import proofs.«01_k».proof.Proof.LnFfnValue

@[expose] public section

namespace Cert.Proof

theorem claim : Cert.Claim :=
  ⟨Cert.AbPrompt.Gen.facts, Cert.AbPromptIdeal.Gen.facts, Cert.AbPromptRefIdeal.Gen.facts,
    Cert.ExpertFfn.Gen.facts, Cert.ExpertFfnIdeal.Gen.facts, Cert.ExpertFfnRefIdeal.Gen.facts, Cert.KvPrompt.Gen.facts,
    Cert.KvPromptIdeal.Gen.facts, Cert.KvPromptRefIdeal.Gen.facts,
    Cert.KvSample.Gen.facts, Cert.KvSampleIdeal.Gen.facts, Cert.KvSampleRefIdeal.Gen.facts,
    Cert.QPrompt.Gen.facts, Cert.QPromptIdeal.Gen.facts, Cert.QPromptRefIdeal.Gen.facts,
    Cert.OutAbPrompt.Gen.facts, Cert.OutAbPromptIdeal.Gen.facts, Cert.OutAbPromptRefIdeal.Gen.facts,
    Cert.CqPrompt.Gen.facts, Cert.CqPromptIdeal.Gen.facts, Cert.CqPromptRefIdeal.Gen.facts,
    Cert.CkvPrompt0.Gen.facts, Cert.CkvPrompt0Ideal.Gen.facts, Cert.CkvPrompt0RefIdeal.Gen.facts,
    Cert.CkvPrompt1.Gen.facts, Cert.CkvPrompt1Ideal.Gen.facts, Cert.CkvPrompt1RefIdeal.Gen.facts,
    Cert.CkvPrompt2.Gen.facts, Cert.CkvPrompt2Ideal.Gen.facts, Cert.CkvPrompt2RefIdeal.Gen.facts,
    Cert.CkvSample0.Gen.facts, Cert.CkvSample0Ideal.Gen.facts, Cert.CkvSample0RefIdeal.Gen.facts,
    Cert.CkvSample1.Gen.facts, Cert.CkvSample1Ideal.Gen.facts, Cert.CkvSample1RefIdeal.Gen.facts,
    Cert.CkvSample2.Gen.facts, Cert.CkvSample2Ideal.Gen.facts, Cert.CkvSample2RefIdeal.Gen.facts,
    Cert.OutCPrompt.Gen.facts, Cert.OutCPromptIdeal.Gen.facts, Cert.OutCPromptRefIdeal.Gen.facts,
    Cert.ResLnMix.Gen.facts, Cert.ResLnMixIdeal.Gen.facts, Cert.ResLnMixRefIdeal.Gen.facts,
    Cert.ResLnFfn.Gen.facts, Cert.ResLnFfnIdeal.Gen.facts, Cert.ResLnFfnRefIdeal.Gen.facts,
    Cert.Pre_finite.Gen.facts, Cert.Pre_tables_in_range.Gen.facts, Cert.On_sb_heads.Gen.facts,
    Ab.frame_bits, Ab.frame_ideal, Ab.frame_ideal_pre, Ab.ref_frame, Ab.ref_frame_pre,
    Ffn.frame_bits, Ffn.frame_ideal, Ffn.ref_frame, Ffn.ref_frame_pre,
    fun m ρ _ => Cert.KvPrompt.Gen.frame m ρ, fun m ρ _ => Cert.KvPromptIdeal.Gen.frame m ρ, Kv.ref_frame,
    fun m ρ _ => Cert.KvSample.Gen.frame m ρ, fun m ρ _ => Cert.KvSampleIdeal.Gen.frame m ρ, KvS.ref_frame,
    fun m ρ _ => Cert.QPrompt.Gen.frame m ρ, fun m ρ _ => Cert.QPromptIdeal.Gen.frame m ρ, Q.ref_frame,
    fun m ρ _ => Cert.OutAbPrompt.Gen.frame m ρ, fun m ρ _ => Cert.OutAbPromptIdeal.Gen.frame m ρ, OutAb.ref_frame,
    fun m ρ _ => Cert.CqPrompt.Gen.frame m ρ, fun m ρ _ => Cert.CqPromptIdeal.Gen.frame m ρ, Cq.ref_frame,
    fun m ρ _ => Cert.CkvPrompt0.Gen.frame m ρ, fun m ρ _ => Cert.CkvPrompt0Ideal.Gen.frame m ρ, Ckv0.ref_frame,
    fun m ρ _ => Cert.CkvPrompt1.Gen.frame m ρ, fun m ρ _ => Cert.CkvPrompt1Ideal.Gen.frame m ρ, Ckv1.ref_frame,
    fun m ρ _ => Cert.CkvPrompt2.Gen.frame m ρ, fun m ρ _ => Cert.CkvPrompt2Ideal.Gen.frame m ρ, Ckv2.ref_frame,
    fun m ρ _ => Cert.CkvSample0.Gen.frame m ρ, fun m ρ _ => Cert.CkvSample0Ideal.Gen.frame m ρ, CkvS0.ref_frame,
    fun m ρ _ => Cert.CkvSample1.Gen.frame m ρ, fun m ρ _ => Cert.CkvSample1Ideal.Gen.frame m ρ, CkvS1.ref_frame,
    fun m ρ _ => Cert.CkvSample2.Gen.frame m ρ, fun m ρ _ => Cert.CkvSample2Ideal.Gen.frame m ρ, CkvS2.ref_frame,
    fun m ρ _ => Cert.OutCPrompt.Gen.frame m ρ, fun m ρ _ => Cert.OutCPromptIdeal.Gen.frame m ρ, OutC.ref_frame,
    fun m ρ _ => Cert.ResLnMix.Gen.frame m ρ, fun m ρ _ => Cert.ResLnMixIdeal.Gen.frame m ρ, LnMix.ref_frame,
    fun m ρ _ => Cert.ResLnFfn.Gen.frame m ρ, fun m ρ _ => Cert.ResLnFfnIdeal.Gen.frame m ρ, LnFfn.ref_frame,
    trivial, Ab.algebraic, trivial, Ffn.algebraic, trivial, Kv.algebraic,
    trivial, KvS.algebraic, trivial, Q.algebraic, trivial, OutAb.algebraic, trivial, Cq.algebraic, trivial, Ckv0.algebraic, trivial, Ckv1.algebraic, trivial, Ckv2.algebraic,
    trivial, CkvS0.algebraic, trivial, CkvS1.algebraic, trivial, CkvS2.algebraic, trivial, OutC.algebraic, trivial, LnMix.algebraic, trivial, LnFfn.algebraic⟩

end Cert.Proof
